-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_XattnKernel (m : (ℓ : Loc Cert.XattnKernel.nD Cert.XattnKernel.τ Cert.XattnKernel.sig) → Buf (Elt Bits) ℓ) : Prop :=
  True

def Pre_XattnKernelIdeal (m : (ℓ : Loc Cert.XattnKernelIdeal.nD Cert.XattnKernelIdeal.τ Cert.XattnKernelIdeal.sig) → Buf (Elt Ideal) ℓ) : Prop :=
  True

def Pre_XattnReferenceIdeal (m : (ℓ : Loc Cert.XattnReferenceIdeal.nD Cert.XattnReferenceIdeal.τ Cert.XattnReferenceIdeal.sig) → Buf (Elt Ideal) ℓ) : Prop :=
  True

def Pre_GmlpKernel (m : (ℓ : Loc Cert.GmlpKernel.nD Cert.GmlpKernel.τ Cert.GmlpKernel.sig) → Buf (Elt Bits) ℓ) : Prop :=
  True

def Pre_GmlpKernelIdeal (m : (ℓ : Loc Cert.GmlpKernelIdeal.nD Cert.GmlpKernelIdeal.τ Cert.GmlpKernelIdeal.sig) → Buf (Elt Ideal) ℓ) : Prop :=
  True

def Pre_GmlpReferenceIdeal (m : (ℓ : Loc Cert.GmlpReferenceIdeal.nD Cert.GmlpReferenceIdeal.τ Cert.GmlpReferenceIdeal.sig) → Buf (Elt Ideal) ℓ) : Prop :=
  True

def Pre_ForwardKernel (m : (ℓ : Loc Cert.ForwardKernel.nD Cert.ForwardKernel.τ Cert.ForwardKernel.sig) → Buf (Elt Bits) ℓ) : Prop :=
  True

def Pre_ForwardKernelIdeal (m : (ℓ : Loc Cert.ForwardKernelIdeal.nD Cert.ForwardKernelIdeal.τ Cert.ForwardKernelIdeal.sig) → Buf (Elt Ideal) ℓ) : Prop :=
  True

def Pre_ForwardReferenceIdeal (m : (ℓ : Loc Cert.ForwardReferenceIdeal.nD Cert.ForwardReferenceIdeal.τ Cert.ForwardReferenceIdeal.sig) → Buf (Elt Ideal) ℓ) : Prop :=
  True

def Pre_MixInKernel (m : (ℓ : Loc Cert.MixInKernel.nD Cert.MixInKernel.τ Cert.MixInKernel.sig) → Buf (Elt Bits) ℓ) : Prop :=
  True

def Pre_MixInKernelIdeal (m : (ℓ : Loc Cert.MixInKernelIdeal.nD Cert.MixInKernelIdeal.τ Cert.MixInKernelIdeal.sig) → Buf (Elt Ideal) ℓ) : Prop :=
  True

def Pre_MixInReferenceIdeal (m : (ℓ : Loc Cert.MixInReferenceIdeal.nD Cert.MixInReferenceIdeal.τ Cert.MixInReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3)
      ∧ r.2.mem ((c.tc : Thread Cert.DownKernel.nD Cert.DownKernel.τ).loc Cert.DownKernel.main_arg4) = m ((c.tc : Thread Cert.DownKernel.nD Cert.DownKernel.τ).loc Cert.DownKernel.main_arg4))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
      ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4)
      ∧ r.2.mem ((c.tc : Thread Cert.UpKernel.nD Cert.UpKernel.τ).loc Cert.UpKernel.main_arg5) = m ((c.tc : Thread Cert.UpKernel.nD Cert.UpKernel.τ).loc Cert.UpKernel.main_arg5))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
      ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
      ∧ r.2.sem = fun _ => 0)

def quiescent_XattnKernel [hXattnKernel : Cert.XattnKernel.Facts] : Prop :=
  ∀ (m : (ℓ : Loc Cert.XattnKernel.nD Cert.XattnKernel.τ Cert.XattnKernel.sig) → Buf (Elt Bits) ℓ) (g : Dev Cert.XattnKernel.nD → PrngReg), Pre_XattnKernel m →
    θ_run (Cert.XattnKernel.defs (F := Bits)) (onTc (τ := Cert.XattnKernel.τ) (Cert.XattnKernel.main (F := Bits))) ⟨m, fun _ => 0, g⟩ (fun r => (∀ c : Dev Cert.XattnKernel.nD,
      r.2.mem ((c.tc : Thread Cert.XattnKernel.nD Cert.XattnKernel.τ).loc Cert.XattnKernel.main_arg0) = m ((c.tc : Thread Cert.XattnKernel.nD Cert.XattnKernel.τ).loc Cert.XattnKernel.main_arg0)
      ∧ r.2.mem ((c.tc : Thread Cert.XattnKernel.nD Cert.XattnKernel.τ).loc Cert.XattnKernel.main_arg1) = m ((c.tc : Thread Cert.XattnKernel.nD Cert.XattnKernel.τ).loc Cert.XattnKernel.main_arg1)
      ∧ r.2.mem ((c.tc : Thread Cert.XattnKernel.nD Cert.XattnKernel.τ).loc Cert.XattnKernel.main_arg2) = m ((c.tc : Thread Cert.XattnKernel.nD Cert.XattnKernel.τ).loc Cert.XattnKernel.main_arg2)
      ∧ r.2.mem ((c.tc : Thread Cert.XattnKernel.nD Cert.XattnKernel.τ).loc Cert.XattnKernel.main_arg3) = m ((c.tc : Thread Cert.XattnKernel.nD Cert.XattnKernel.τ).loc Cert.XattnKernel.main_arg3)
      ∧ r.2.mem ((c.tc : Thread Cert.XattnKernel.nD Cert.XattnKernel.τ).loc Cert.XattnKernel.main_arg4) = m ((c.tc : Thread Cert.XattnKernel.nD Cert.XattnKernel.τ).loc Cert.XattnKernel.main_arg4)
      ∧ r.2.mem ((c.tc : Thread Cert.XattnKernel.nD Cert.XattnKernel.τ).loc Cert.XattnKernel.main_arg5) = m ((c.tc : Thread Cert.XattnKernel.nD Cert.XattnKernel.τ).loc Cert.XattnKernel.main_arg5)
      ∧ r.2.mem ((c.tc : Thread Cert.XattnKernel.nD Cert.XattnKernel.τ).loc Cert.XattnKernel.main_arg6) = m ((c.tc : Thread Cert.XattnKernel.nD Cert.XattnKernel.τ).loc Cert.XattnKernel.main_arg6))
      ∧ r.2.sem = fun _ => 0)

def quiescent_XattnKernelIdeal [hXattnKernelIdeal : Cert.XattnKernelIdeal.Facts] : Prop :=
  ∀ (m : (ℓ : Loc Cert.XattnKernelIdeal.nD Cert.XattnKernelIdeal.τ Cert.XattnKernelIdeal.sig) → Buf (Elt Ideal) ℓ) (g : Dev Cert.XattnKernelIdeal.nD → PrngReg), Pre_XattnKernelIdeal m →
    θ_run (Cert.XattnKernelIdeal.defs (F := Ideal)) (onTc (τ := Cert.XattnKernelIdeal.τ) (Cert.XattnKernelIdeal.main (F := Ideal))) ⟨m, fun _ => 0, g⟩ (fun r => (∀ c : Dev Cert.XattnKernelIdeal.nD,
      r.2.mem ((c.tc : Thread Cert.XattnKernelIdeal.nD Cert.XattnKernelIdeal.τ).loc Cert.XattnKernelIdeal.main_arg0) = m ((c.tc : Thread Cert.XattnKernelIdeal.nD Cert.XattnKernelIdeal.τ).loc Cert.XattnKernelIdeal.main_arg0)
      ∧ r.2.mem ((c.tc : Thread Cert.XattnKernelIdeal.nD Cert.XattnKernelIdeal.τ).loc Cert.XattnKernelIdeal.main_arg1) = m ((c.tc : Thread Cert.XattnKernelIdeal.nD Cert.XattnKernelIdeal.τ).loc Cert.XattnKernelIdeal.main_arg1)
      ∧ r.2.mem ((c.tc : Thread Cert.XattnKernelIdeal.nD Cert.XattnKernelIdeal.τ).loc Cert.XattnKernelIdeal.main_arg2) = m ((c.tc : Thread Cert.XattnKernelIdeal.nD Cert.XattnKernelIdeal.τ).loc Cert.XattnKernelIdeal.main_arg2)
      ∧ r.2.mem ((c.tc : Thread Cert.XattnKernelIdeal.nD Cert.XattnKernelIdeal.τ).loc Cert.XattnKernelIdeal.main_arg3) = m ((c.tc : Thread Cert.XattnKernelIdeal.nD Cert.XattnKernelIdeal.τ).loc Cert.XattnKernelIdeal.main_arg3)
      ∧ r.2.mem ((c.tc : Thread Cert.XattnKernelIdeal.nD Cert.XattnKernelIdeal.τ).loc Cert.XattnKernelIdeal.main_arg4) = m ((c.tc : Thread Cert.XattnKernelIdeal.nD Cert.XattnKernelIdeal.τ).loc Cert.XattnKernelIdeal.main_arg4)
      ∧ r.2.mem ((c.tc : Thread Cert.XattnKernelIdeal.nD Cert.XattnKernelIdeal.τ).loc Cert.XattnKernelIdeal.main_arg5) = m ((c.tc : Thread Cert.XattnKernelIdeal.nD Cert.XattnKernelIdeal.τ).loc Cert.XattnKernelIdeal.main_arg5)
      ∧ r.2.mem ((c.tc : Thread Cert.XattnKernelIdeal.nD Cert.XattnKernelIdeal.τ).loc Cert.XattnKernelIdeal.main_arg6) = m ((c.tc : Thread Cert.XattnKernelIdeal.nD Cert.XattnKernelIdeal.τ).loc Cert.XattnKernelIdeal.main_arg6))
      ∧ r.2.sem = fun _ => 0)

def quiescent_XattnReferenceIdeal [hXattnReferenceIdeal : Cert.XattnReferenceIdeal.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5)
      ∧ r.2.mem ((c.tc : Thread Cert.XattnReferenceIdeal.nD Cert.XattnReferenceIdeal.τ).loc Cert.XattnReferenceIdeal.main_arg6) = m ((c.tc : Thread Cert.XattnReferenceIdeal.nD Cert.XattnReferenceIdeal.τ).loc Cert.XattnReferenceIdeal.main_arg6))
      ∧ r.2.sem = fun _ => 0)

def quiescent_GmlpKernel [hGmlpKernel : Cert.GmlpKernel.Facts] : Prop :=
  ∀ (m : (ℓ : Loc Cert.GmlpKernel.nD Cert.GmlpKernel.τ Cert.GmlpKernel.sig) → Buf (Elt Bits) ℓ) (g : Dev Cert.GmlpKernel.nD → PrngReg), Pre_GmlpKernel m →
    θ_run (Cert.GmlpKernel.defs (F := Bits)) (onTc (τ := Cert.GmlpKernel.τ) (Cert.GmlpKernel.main (F := Bits))) ⟨m, fun _ => 0, g⟩ (fun r => (∀ c : Dev Cert.GmlpKernel.nD,
      r.2.mem ((c.tc : Thread Cert.GmlpKernel.nD Cert.GmlpKernel.τ).loc Cert.GmlpKernel.main_arg0) = m ((c.tc : Thread Cert.GmlpKernel.nD Cert.GmlpKernel.τ).loc Cert.GmlpKernel.main_arg0)
      ∧ r.2.mem ((c.tc : Thread Cert.GmlpKernel.nD Cert.GmlpKernel.τ).loc Cert.GmlpKernel.main_arg1) = m ((c.tc : Thread Cert.GmlpKernel.nD Cert.GmlpKernel.τ).loc Cert.GmlpKernel.main_arg1)
      ∧ r.2.mem ((c.tc : Thread Cert.GmlpKernel.nD Cert.GmlpKernel.τ).loc Cert.GmlpKernel.main_arg2) = m ((c.tc : Thread Cert.GmlpKernel.nD Cert.GmlpKernel.τ).loc Cert.GmlpKernel.main_arg2)
      ∧ r.2.mem ((c.tc : Thread Cert.GmlpKernel.nD Cert.GmlpKernel.τ).loc Cert.GmlpKernel.main_arg3) = m ((c.tc : Thread Cert.GmlpKernel.nD Cert.GmlpKernel.τ).loc Cert.GmlpKernel.main_arg3)
      ∧ r.2.mem ((c.tc : Thread Cert.GmlpKernel.nD Cert.GmlpKernel.τ).loc Cert.GmlpKernel.main_arg4) = m ((c.tc : Thread Cert.GmlpKernel.nD Cert.GmlpKernel.τ).loc Cert.GmlpKernel.main_arg4)
      ∧ r.2.mem ((c.tc : Thread Cert.GmlpKernel.nD Cert.GmlpKernel.τ).loc Cert.GmlpKernel.main_arg5) = m ((c.tc : Thread Cert.GmlpKernel.nD Cert.GmlpKernel.τ).loc Cert.GmlpKernel.main_arg5))
      ∧ r.2.sem = fun _ => 0)

def quiescent_GmlpKernelIdeal [hGmlpKernelIdeal : Cert.GmlpKernelIdeal.Facts] : Prop :=
  ∀ (m : (ℓ : Loc Cert.GmlpKernelIdeal.nD Cert.GmlpKernelIdeal.τ Cert.GmlpKernelIdeal.sig) → Buf (Elt Ideal) ℓ) (g : Dev Cert.GmlpKernelIdeal.nD → PrngReg), Pre_GmlpKernelIdeal m →
    θ_run (Cert.GmlpKernelIdeal.defs (F := Ideal)) (onTc (τ := Cert.GmlpKernelIdeal.τ) (Cert.GmlpKernelIdeal.main (F := Ideal))) ⟨m, fun _ => 0, g⟩ (fun r => (∀ c : Dev Cert.GmlpKernelIdeal.nD,
      r.2.mem ((c.tc : Thread Cert.GmlpKernelIdeal.nD Cert.GmlpKernelIdeal.τ).loc Cert.GmlpKernelIdeal.main_arg0) = m ((c.tc : Thread Cert.GmlpKernelIdeal.nD Cert.GmlpKernelIdeal.τ).loc Cert.GmlpKernelIdeal.main_arg0)
      ∧ r.2.mem ((c.tc : Thread Cert.GmlpKernelIdeal.nD Cert.GmlpKernelIdeal.τ).loc Cert.GmlpKernelIdeal.main_arg1) = m ((c.tc : Thread Cert.GmlpKernelIdeal.nD Cert.GmlpKernelIdeal.τ).loc Cert.GmlpKernelIdeal.main_arg1)
      ∧ r.2.mem ((c.tc : Thread Cert.GmlpKernelIdeal.nD Cert.GmlpKernelIdeal.τ).loc Cert.GmlpKernelIdeal.main_arg2) = m ((c.tc : Thread Cert.GmlpKernelIdeal.nD Cert.GmlpKernelIdeal.τ).loc Cert.GmlpKernelIdeal.main_arg2)
      ∧ r.2.mem ((c.tc : Thread Cert.GmlpKernelIdeal.nD Cert.GmlpKernelIdeal.τ).loc Cert.GmlpKernelIdeal.main_arg3) = m ((c.tc : Thread Cert.GmlpKernelIdeal.nD Cert.GmlpKernelIdeal.τ).loc Cert.GmlpKernelIdeal.main_arg3)
      ∧ r.2.mem ((c.tc : Thread Cert.GmlpKernelIdeal.nD Cert.GmlpKernelIdeal.τ).loc Cert.GmlpKernelIdeal.main_arg4) = m ((c.tc : Thread Cert.GmlpKernelIdeal.nD Cert.GmlpKernelIdeal.τ).loc Cert.GmlpKernelIdeal.main_arg4)
      ∧ r.2.mem ((c.tc : Thread Cert.GmlpKernelIdeal.nD Cert.GmlpKernelIdeal.τ).loc Cert.GmlpKernelIdeal.main_arg5) = m ((c.tc : Thread Cert.GmlpKernelIdeal.nD Cert.GmlpKernelIdeal.τ).loc Cert.GmlpKernelIdeal.main_arg5))
      ∧ r.2.sem = fun _ => 0)

def quiescent_GmlpReferenceIdeal [hGmlpReferenceIdeal : Cert.GmlpReferenceIdeal.Facts] : Prop :=
  ∀ (m : (ℓ : Loc Cert.GmlpReferenceIdeal.nD Cert.GmlpReferenceIdeal.τ Cert.GmlpReferenceIdeal.sig) → Buf (Elt Ideal) ℓ) (g : Dev Cert.GmlpReferenceIdeal.nD → PrngReg), Pre_GmlpReferenceIdeal m →
    θ_run (Cert.GmlpReferenceIdeal.defs (F := Ideal)) (onTc (τ := Cert.GmlpReferenceIdeal.τ) (Cert.GmlpReferenceIdeal.main (F := Ideal))) ⟨m, fun _ => 0, g⟩ (fun r => (∀ c : Dev Cert.GmlpReferenceIdeal.nD,
      r.2.mem ((c.tc : Thread Cert.GmlpReferenceIdeal.nD Cert.GmlpReferenceIdeal.τ).loc Cert.GmlpReferenceIdeal.main_arg0) = m ((c.tc : Thread Cert.GmlpReferenceIdeal.nD Cert.GmlpReferenceIdeal.τ).loc Cert.GmlpReferenceIdeal.main_arg0)
      ∧ r.2.mem ((c.tc : Thread Cert.GmlpReferenceIdeal.nD Cert.GmlpReferenceIdeal.τ).loc Cert.GmlpReferenceIdeal.main_arg1) = m ((c.tc : Thread Cert.GmlpReferenceIdeal.nD Cert.GmlpReferenceIdeal.τ).loc Cert.GmlpReferenceIdeal.main_arg1)
      ∧ r.2.mem ((c.tc : Thread Cert.GmlpReferenceIdeal.nD Cert.GmlpReferenceIdeal.τ).loc Cert.GmlpReferenceIdeal.main_arg2) = m ((c.tc : Thread Cert.GmlpReferenceIdeal.nD Cert.GmlpReferenceIdeal.τ).loc Cert.GmlpReferenceIdeal.main_arg2)
      ∧ r.2.mem ((c.tc : Thread Cert.GmlpReferenceIdeal.nD Cert.GmlpReferenceIdeal.τ).loc Cert.GmlpReferenceIdeal.main_arg3) = m ((c.tc : Thread Cert.GmlpReferenceIdeal.nD Cert.GmlpReferenceIdeal.τ).loc Cert.GmlpReferenceIdeal.main_arg3)
      ∧ r.2.mem ((c.tc : Thread Cert.GmlpReferenceIdeal.nD Cert.GmlpReferenceIdeal.τ).loc Cert.GmlpReferenceIdeal.main_arg4) = m ((c.tc : Thread Cert.GmlpReferenceIdeal.nD Cert.GmlpReferenceIdeal.τ).loc Cert.GmlpReferenceIdeal.main_arg4)
      ∧ r.2.mem ((c.tc : Thread Cert.GmlpReferenceIdeal.nD Cert.GmlpReferenceIdeal.τ).loc Cert.GmlpReferenceIdeal.main_arg5) = m ((c.tc : Thread Cert.GmlpReferenceIdeal.nD Cert.GmlpReferenceIdeal.τ).loc Cert.GmlpReferenceIdeal.main_arg5))
      ∧ r.2.sem = fun _ => 0)

def quiescent_ForwardKernel [hForwardKernel : Cert.ForwardKernel.Facts] : Prop :=
  ∀ (m : (ℓ : Loc Cert.ForwardKernel.nD Cert.ForwardKernel.τ Cert.ForwardKernel.sig) → Buf (Elt Bits) ℓ) (g : Dev Cert.ForwardKernel.nD → PrngReg), Pre_ForwardKernel m →
    θ_run (Cert.ForwardKernel.defs (F := Bits)) (onTc (τ := Cert.ForwardKernel.τ) (Cert.ForwardKernel.main (F := Bits))) ⟨m, fun _ => 0, g⟩ (fun r => (∀ c : Dev Cert.ForwardKernel.nD,
      r.2.mem ((c.tc : Thread Cert.ForwardKernel.nD Cert.ForwardKernel.τ).loc Cert.ForwardKernel.main_arg0) = m ((c.tc : Thread Cert.ForwardKernel.nD Cert.ForwardKernel.τ).loc Cert.ForwardKernel.main_arg0)
      ∧ r.2.mem ((c.tc : Thread Cert.ForwardKernel.nD Cert.ForwardKernel.τ).loc Cert.ForwardKernel.main_arg1) = m ((c.tc : Thread Cert.ForwardKernel.nD Cert.ForwardKernel.τ).loc Cert.ForwardKernel.main_arg1)
      ∧ r.2.mem ((c.tc : Thread Cert.ForwardKernel.nD Cert.ForwardKernel.τ).loc Cert.ForwardKernel.main_arg2) = m ((c.tc : Thread Cert.ForwardKernel.nD Cert.ForwardKernel.τ).loc Cert.ForwardKernel.main_arg2)
      ∧ r.2.mem ((c.tc : Thread Cert.ForwardKernel.nD Cert.ForwardKernel.τ).loc Cert.ForwardKernel.main_arg3) = m ((c.tc : Thread Cert.ForwardKernel.nD Cert.ForwardKernel.τ).loc Cert.ForwardKernel.main_arg3))
      ∧ r.2.sem = fun _ => 0)

def quiescent_ForwardKernelIdeal [hForwardKernelIdeal : Cert.ForwardKernelIdeal.Facts] : Prop :=
  ∀ (m : (ℓ : Loc Cert.ForwardKernelIdeal.nD Cert.ForwardKernelIdeal.τ Cert.ForwardKernelIdeal.sig) → Buf (Elt Ideal) ℓ) (g : Dev Cert.ForwardKernelIdeal.nD → PrngReg), Pre_ForwardKernelIdeal m →
    θ_run (Cert.ForwardKernelIdeal.defs (F := Ideal)) (onTc (τ := Cert.ForwardKernelIdeal.τ) (Cert.ForwardKernelIdeal.main (F := Ideal))) ⟨m, fun _ => 0, g⟩ (fun r => (∀ c : Dev Cert.ForwardKernelIdeal.nD,
      r.2.mem ((c.tc : Thread Cert.ForwardKernelIdeal.nD Cert.ForwardKernelIdeal.τ).loc Cert.ForwardKernelIdeal.main_arg0) = m ((c.tc : Thread Cert.ForwardKernelIdeal.nD Cert.ForwardKernelIdeal.τ).loc Cert.ForwardKernelIdeal.main_arg0)
      ∧ r.2.mem ((c.tc : Thread Cert.ForwardKernelIdeal.nD Cert.ForwardKernelIdeal.τ).loc Cert.ForwardKernelIdeal.main_arg1) = m ((c.tc : Thread Cert.ForwardKernelIdeal.nD Cert.ForwardKernelIdeal.τ).loc Cert.ForwardKernelIdeal.main_arg1)
      ∧ r.2.mem ((c.tc : Thread Cert.ForwardKernelIdeal.nD Cert.ForwardKernelIdeal.τ).loc Cert.ForwardKernelIdeal.main_arg2) = m ((c.tc : Thread Cert.ForwardKernelIdeal.nD Cert.ForwardKernelIdeal.τ).loc Cert.ForwardKernelIdeal.main_arg2)
      ∧ r.2.mem ((c.tc : Thread Cert.ForwardKernelIdeal.nD Cert.ForwardKernelIdeal.τ).loc Cert.ForwardKernelIdeal.main_arg3) = m ((c.tc : Thread Cert.ForwardKernelIdeal.nD Cert.ForwardKernelIdeal.τ).loc Cert.ForwardKernelIdeal.main_arg3))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3))
      ∧ r.2.sem = fun _ => 0)

def quiescent_MixInKernel [hMixInKernel : Cert.MixInKernel.Facts] : Prop :=
  ∀ (m : (ℓ : Loc Cert.MixInKernel.nD Cert.MixInKernel.τ Cert.MixInKernel.sig) → Buf (Elt Bits) ℓ) (g : Dev Cert.MixInKernel.nD → PrngReg), Pre_MixInKernel m →
    θ_run (Cert.MixInKernel.defs (F := Bits)) (onTc (τ := Cert.MixInKernel.τ) (Cert.MixInKernel.main (F := Bits))) ⟨m, fun _ => 0, g⟩ (fun r => (∀ c : Dev Cert.MixInKernel.nD,
      r.2.mem ((c.tc : Thread Cert.MixInKernel.nD Cert.MixInKernel.τ).loc Cert.MixInKernel.main_arg0) = m ((c.tc : Thread Cert.MixInKernel.nD Cert.MixInKernel.τ).loc Cert.MixInKernel.main_arg0)
      ∧ r.2.mem ((c.tc : Thread Cert.MixInKernel.nD Cert.MixInKernel.τ).loc Cert.MixInKernel.main_arg1) = m ((c.tc : Thread Cert.MixInKernel.nD Cert.MixInKernel.τ).loc Cert.MixInKernel.main_arg1)
      ∧ r.2.mem ((c.tc : Thread Cert.MixInKernel.nD Cert.MixInKernel.τ).loc Cert.MixInKernel.main_arg2) = m ((c.tc : Thread Cert.MixInKernel.nD Cert.MixInKernel.τ).loc Cert.MixInKernel.main_arg2)
      ∧ r.2.mem ((c.tc : Thread Cert.MixInKernel.nD Cert.MixInKernel.τ).loc Cert.MixInKernel.main_arg3) = m ((c.tc : Thread Cert.MixInKernel.nD Cert.MixInKernel.τ).loc Cert.MixInKernel.main_arg3)
      ∧ r.2.mem ((c.tc : Thread Cert.MixInKernel.nD Cert.MixInKernel.τ).loc Cert.MixInKernel.main_arg4) = m ((c.tc : Thread Cert.MixInKernel.nD Cert.MixInKernel.τ).loc Cert.MixInKernel.main_arg4)
      ∧ r.2.mem ((c.tc : Thread Cert.MixInKernel.nD Cert.MixInKernel.τ).loc Cert.MixInKernel.main_arg5) = m ((c.tc : Thread Cert.MixInKernel.nD Cert.MixInKernel.τ).loc Cert.MixInKernel.main_arg5)
      ∧ r.2.mem ((c.tc : Thread Cert.MixInKernel.nD Cert.MixInKernel.τ).loc Cert.MixInKernel.main_arg6) = m ((c.tc : Thread Cert.MixInKernel.nD Cert.MixInKernel.τ).loc Cert.MixInKernel.main_arg6)
      ∧ r.2.mem ((c.tc : Thread Cert.MixInKernel.nD Cert.MixInKernel.τ).loc Cert.MixInKernel.main_arg7) = m ((c.tc : Thread Cert.MixInKernel.nD Cert.MixInKernel.τ).loc Cert.MixInKernel.main_arg7)
      ∧ r.2.mem ((c.tc : Thread Cert.MixInKernel.nD Cert.MixInKernel.τ).loc Cert.MixInKernel.main_arg8) = m ((c.tc : Thread Cert.MixInKernel.nD Cert.MixInKernel.τ).loc Cert.MixInKernel.main_arg8))
      ∧ r.2.sem = fun _ => 0)

def quiescent_MixInKernelIdeal [hMixInKernelIdeal : Cert.MixInKernelIdeal.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg), Pre_MixInKernelIdeal m →
    θ_run (Cert.MixInKernelIdeal.defs (F := Ideal)) (onTc (τ := Cert.MixInKernelIdeal.τ) (Cert.MixInKernelIdeal.main (F := Ideal))) ⟨m, fun _ => 0, g⟩ (fun r => (∀ c : Dev Cert.MixInKernelIdeal.nD,
      r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
      ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1)
      ∧ r.2.mem ((c.tc : Thread Cert.MixInKernelIdeal.nD Cert.MixInKernelIdeal.τ).loc Cert.MixInKernelIdeal.main_arg2) = m ((c.tc : Thread Cert.MixInKernelIdeal.nD Cert.MixInKernelIdeal.τ).loc Cert.MixInKernelIdeal.main_arg2)
      ∧ r.2.mem ((c.tc : Thread Cert.MixInKernelIdeal.nD Cert.MixInKernelIdeal.τ).loc Cert.MixInKernelIdeal.main_arg3) = m ((c.tc : Thread Cert.MixInKernelIdeal.nD Cert.MixInKernelIdeal.τ).loc Cert.MixInKernelIdeal.main_arg3)
      ∧ r.2.mem ((c.tc : Thread Cert.MixInKernelIdeal.nD Cert.MixInKernelIdeal.τ).loc Cert.MixInKernelIdeal.main_arg4) = m ((c.tc : Thread Cert.MixInKernelIdeal.nD Cert.MixInKernelIdeal.τ).loc Cert.MixInKernelIdeal.main_arg4)
      ∧ r.2.mem ((c.tc : Thread Cert.MixInKernelIdeal.nD Cert.MixInKernelIdeal.τ).loc Cert.MixInKernelIdeal.main_arg5) = m ((c.tc : Thread Cert.MixInKernelIdeal.nD Cert.MixInKernelIdeal.τ).loc Cert.MixInKernelIdeal.main_arg5)
      ∧ r.2.mem ((c.tc : Thread Cert.MixInKernelIdeal.nD Cert.MixInKernelIdeal.τ).loc Cert.MixInKernelIdeal.main_arg6) = m ((c.tc : Thread Cert.MixInKernelIdeal.nD Cert.MixInKernelIdeal.τ).loc Cert.MixInKernelIdeal.main_arg6)
      ∧ r.2.mem ((c.tc : Thread Cert.MixInKernelIdeal.nD Cert.MixInKernelIdeal.τ).loc Cert.MixInKernelIdeal.main_arg7) = m ((c.tc : Thread Cert.MixInKernelIdeal.nD Cert.MixInKernelIdeal.τ).loc Cert.MixInKernelIdeal.main_arg7)
      ∧ r.2.mem ((c.tc : Thread Cert.MixInKernelIdeal.nD Cert.MixInKernelIdeal.τ).loc Cert.MixInKernelIdeal.main_arg8) = m ((c.tc : Thread Cert.MixInKernelIdeal.nD Cert.MixInKernelIdeal.τ).loc Cert.MixInKernelIdeal.main_arg8))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4)
      ∧ r.2.mem ((c.tc : Thread Cert.MixInReferenceIdeal.nD Cert.MixInReferenceIdeal.τ).loc Cert.MixInReferenceIdeal.main_arg5) = m ((c.tc : Thread Cert.MixInReferenceIdeal.nD Cert.MixInReferenceIdeal.τ).loc Cert.MixInReferenceIdeal.main_arg5)
      ∧ r.2.mem ((c.tc : Thread Cert.MixInReferenceIdeal.nD Cert.MixInReferenceIdeal.τ).loc Cert.MixInReferenceIdeal.main_arg6) = m ((c.tc : Thread Cert.MixInReferenceIdeal.nD Cert.MixInReferenceIdeal.τ).loc Cert.MixInReferenceIdeal.main_arg6)
      ∧ r.2.mem ((c.tc : Thread Cert.MixInReferenceIdeal.nD Cert.MixInReferenceIdeal.τ).loc Cert.MixInReferenceIdeal.main_arg7) = m ((c.tc : Thread Cert.MixInReferenceIdeal.nD Cert.MixInReferenceIdeal.τ).loc Cert.MixInReferenceIdeal.main_arg7)
      ∧ r.2.mem ((c.tc : Thread Cert.MixInReferenceIdeal.nD Cert.MixInReferenceIdeal.τ).loc Cert.MixInReferenceIdeal.main_arg8) = m ((c.tc : Thread Cert.MixInReferenceIdeal.nD Cert.MixInReferenceIdeal.τ).loc Cert.MixInReferenceIdeal.main_arg8))
      ∧ r.2.sem = fun _ => 0)

def preserves_Kernel_KernelIdeal : Prop :=
  IdealRules.named_const.Statement Cert.KernelIdeal.κ "alibi" .f32 0xBFB17218#32 ((-(2 * (Real.log 2)) : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_v177) = v1 c
          ∧ r.2.mem ((c.tc : Thread Cert.ReferenceIdeal.nD Cert.ReferenceIdeal.τ).loc Cert.ReferenceIdeal.main_v180) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v5_0)) (v1 : (c : Dev Cert.FfnKernelIdeal.nD) → Buf (Elt Ideal) ((c.tc : Thread Cert.FfnKernelIdeal.nD Cert.FfnKernelIdeal.τ).loc Cert.FfnKernelIdeal.main_v5_1)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v5_0) = v0 c
          ∧ r.2.mem ((c.tc : Thread Cert.FfnKernelIdeal.nD Cert.FfnKernelIdeal.τ).loc Cert.FfnKernelIdeal.main_v5_1) = v1 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v57) = v0 c
          ∧ r.2.mem ((c.tc : Thread Cert.FfnReferenceIdeal.nD Cert.FfnReferenceIdeal.τ).loc Cert.FfnReferenceIdeal.main_v58) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)
      ∧ m' ((c.tc : Thread Cert.DownReferenceIdeal.nD Cert.DownReferenceIdeal.τ).loc Cert.DownReferenceIdeal.main_arg4) = m ((c.tc : Thread Cert.DownKernelIdeal.nD Cert.DownKernelIdeal.τ).loc Cert.DownKernelIdeal.main_arg4)) →
    ∃ (v0 : (c : Dev Cert.DownKernelIdeal.nD) → Buf (Elt Ideal) ((c.tc : Thread Cert.DownKernelIdeal.nD Cert.DownKernelIdeal.τ).loc Cert.DownKernelIdeal.main_v19)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v19) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
          ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v29) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_GateKernel_GateKernelIdeal : Prop :=
  True

def algebraic_GateKernelIdeal_GateReferenceIdeal_on_gate_half [hGateKernelIdeal : Cert.GateKernelIdeal.Facts] [hGateReferenceIdeal : Cert.GateReferenceIdeal.Facts] [hOn_gate_half : Cert.On_gate_half.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)) →
    ∃ (v0 : (c : Dev Cert.GateKernelIdeal.nD) → Buf (Elt Ideal) ((c.tc : Thread Cert.GateKernelIdeal.nD Cert.GateKernelIdeal.τ).loc Cert.GateKernelIdeal.main_v36)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          (∀ i : (⟨2, ![1024, 5632]⟩ : Shape).Idx, (Cert.On_gate_half.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))) i = 1#1 → r.2.mem ((c.tc : Thread Cert.GateKernelIdeal.nD Cert.GateKernelIdeal.τ).loc Cert.GateKernelIdeal.main_v36) i = v0 c i)
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          (∀ i : (⟨2, ![1024, 5632]⟩ : Shape).Idx, (Cert.On_gate_half.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))) i = 1#1 → r.2.mem ((c.tc : Thread Cert.GateReferenceIdeal.nD Cert.GateReferenceIdeal.τ).loc Cert.GateReferenceIdeal.main_v34) i = v0 c i)
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)
      ∧ m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4)
      ∧ m' ((c.tc : Thread Cert.UpReferenceIdeal.nD Cert.UpReferenceIdeal.τ).loc Cert.UpReferenceIdeal.main_arg5) = m ((c.tc : Thread Cert.UpKernelIdeal.nD Cert.UpKernelIdeal.τ).loc Cert.UpKernelIdeal.main_arg5)) →
    ∃ (v0 : (c : Dev Cert.UpKernelIdeal.nD) → Buf (Elt Ideal) ((c.tc : Thread Cert.UpKernelIdeal.nD Cert.UpKernelIdeal.τ).loc Cert.UpKernelIdeal.main_v36)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v36) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
          ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v37) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5))

def preserves_XattnKernel_XattnKernelIdeal : Prop :=
  True

def algebraic_XattnKernelIdeal_XattnReferenceIdeal [hXattnKernelIdeal : Cert.XattnKernelIdeal.Facts] [hXattnReferenceIdeal : Cert.XattnReferenceIdeal.Facts] : Prop :=
  ∀ (m : (ℓ : Loc Cert.XattnKernelIdeal.nD Cert.XattnKernelIdeal.τ Cert.XattnKernelIdeal.sig) → Buf (Elt Ideal) ℓ) (g : Dev Cert.XattnKernelIdeal.nD → PrngReg)
    (m' : (ℓ : Loc Cert.XattnReferenceIdeal.nD Cert.XattnReferenceIdeal.τ Cert.XattnReferenceIdeal.sig) → Buf (Elt Ideal) ℓ) (g' : Dev Cert.XattnReferenceIdeal.nD → PrngReg), Pre_XattnKernelIdeal m →
    (∀ c : Dev Cert.XattnKernelIdeal.nD,
      m' ((c.tc : Thread Cert.XattnReferenceIdeal.nD Cert.XattnReferenceIdeal.τ).loc Cert.XattnReferenceIdeal.main_arg0) = m ((c.tc : Thread Cert.XattnKernelIdeal.nD Cert.XattnKernelIdeal.τ).loc Cert.XattnKernelIdeal.main_arg0)
      ∧ m' ((c.tc : Thread Cert.XattnReferenceIdeal.nD Cert.XattnReferenceIdeal.τ).loc Cert.XattnReferenceIdeal.main_arg1) = m ((c.tc : Thread Cert.XattnKernelIdeal.nD Cert.XattnKernelIdeal.τ).loc Cert.XattnKernelIdeal.main_arg1)
      ∧ m' ((c.tc : Thread Cert.XattnReferenceIdeal.nD Cert.XattnReferenceIdeal.τ).loc Cert.XattnReferenceIdeal.main_arg2) = m ((c.tc : Thread Cert.XattnKernelIdeal.nD Cert.XattnKernelIdeal.τ).loc Cert.XattnKernelIdeal.main_arg2)
      ∧ m' ((c.tc : Thread Cert.XattnReferenceIdeal.nD Cert.XattnReferenceIdeal.τ).loc Cert.XattnReferenceIdeal.main_arg3) = m ((c.tc : Thread Cert.XattnKernelIdeal.nD Cert.XattnKernelIdeal.τ).loc Cert.XattnKernelIdeal.main_arg3)
      ∧ m' ((c.tc : Thread Cert.XattnReferenceIdeal.nD Cert.XattnReferenceIdeal.τ).loc Cert.XattnReferenceIdeal.main_arg4) = m ((c.tc : Thread Cert.XattnKernelIdeal.nD Cert.XattnKernelIdeal.τ).loc Cert.XattnKernelIdeal.main_arg4)
      ∧ m' ((c.tc : Thread Cert.XattnReferenceIdeal.nD Cert.XattnReferenceIdeal.τ).loc Cert.XattnReferenceIdeal.main_arg5) = m ((c.tc : Thread Cert.XattnKernelIdeal.nD Cert.XattnKernelIdeal.τ).loc Cert.XattnKernelIdeal.main_arg5)
      ∧ m' ((c.tc : Thread Cert.XattnReferenceIdeal.nD Cert.XattnReferenceIdeal.τ).loc Cert.XattnReferenceIdeal.main_arg6) = m ((c.tc : Thread Cert.XattnKernelIdeal.nD Cert.XattnKernelIdeal.τ).loc Cert.XattnKernelIdeal.main_arg6)) →
    ∃ (v0 : (c : Dev Cert.XattnKernelIdeal.nD) → Buf (Elt Ideal) ((c.tc : Thread Cert.XattnKernelIdeal.nD Cert.XattnKernelIdeal.τ).loc Cert.XattnKernelIdeal.main_v5)),
      θ_run (Cert.XattnKernelIdeal.defs (F := Ideal)) (onTc (τ := Cert.XattnKernelIdeal.τ) (Cert.XattnKernelIdeal.main (F := Ideal))) ⟨m, fun _ => 0, g⟩ (fun r => ∀ c : Dev Cert.XattnKernelIdeal.nD,
          r.2.mem ((c.tc : Thread Cert.XattnKernelIdeal.nD Cert.XattnKernelIdeal.τ).loc Cert.XattnKernelIdeal.main_v5) = v0 c
          ∧ r.2.mem ((c.tc : Thread Cert.XattnKernelIdeal.nD Cert.XattnKernelIdeal.τ).loc Cert.XattnKernelIdeal.main_arg0) = m ((c.tc : Thread Cert.XattnKernelIdeal.nD Cert.XattnKernelIdeal.τ).loc Cert.XattnKernelIdeal.main_arg0)
          ∧ r.2.mem ((c.tc : Thread Cert.XattnKernelIdeal.nD Cert.XattnKernelIdeal.τ).loc Cert.XattnKernelIdeal.main_arg1) = m ((c.tc : Thread Cert.XattnKernelIdeal.nD Cert.XattnKernelIdeal.τ).loc Cert.XattnKernelIdeal.main_arg1)
          ∧ r.2.mem ((c.tc : Thread Cert.XattnKernelIdeal.nD Cert.XattnKernelIdeal.τ).loc Cert.XattnKernelIdeal.main_arg2) = m ((c.tc : Thread Cert.XattnKernelIdeal.nD Cert.XattnKernelIdeal.τ).loc Cert.XattnKernelIdeal.main_arg2)
          ∧ r.2.mem ((c.tc : Thread Cert.XattnKernelIdeal.nD Cert.XattnKernelIdeal.τ).loc Cert.XattnKernelIdeal.main_arg3) = m ((c.tc : Thread Cert.XattnKernelIdeal.nD Cert.XattnKernelIdeal.τ).loc Cert.XattnKernelIdeal.main_arg3)
          ∧ r.2.mem ((c.tc : Thread Cert.XattnKernelIdeal.nD Cert.XattnKernelIdeal.τ).loc Cert.XattnKernelIdeal.main_arg4) = m ((c.tc : Thread Cert.XattnKernelIdeal.nD Cert.XattnKernelIdeal.τ).loc Cert.XattnKernelIdeal.main_arg4)
          ∧ r.2.mem ((c.tc : Thread Cert.XattnKernelIdeal.nD Cert.XattnKernelIdeal.τ).loc Cert.XattnKernelIdeal.main_arg5) = m ((c.tc : Thread Cert.XattnKernelIdeal.nD Cert.XattnKernelIdeal.τ).loc Cert.XattnKernelIdeal.main_arg5)
          ∧ r.2.mem ((c.tc : Thread Cert.XattnKernelIdeal.nD Cert.XattnKernelIdeal.τ).loc Cert.XattnKernelIdeal.main_arg6) = m ((c.tc : Thread Cert.XattnKernelIdeal.nD Cert.XattnKernelIdeal.τ).loc Cert.XattnKernelIdeal.main_arg6))
      ∧ θ_run (Cert.XattnReferenceIdeal.defs (F := Ideal)) (onTc (τ := Cert.XattnReferenceIdeal.τ) (Cert.XattnReferenceIdeal.main (F := Ideal))) ⟨m', fun _ => 0, g'⟩ (fun r => ∀ c : Dev Cert.XattnReferenceIdeal.nD,
          r.2.mem ((c.tc : Thread Cert.XattnReferenceIdeal.nD Cert.XattnReferenceIdeal.τ).loc Cert.XattnReferenceIdeal.main_v56) = v0 c
          ∧ r.2.mem ((c.tc : Thread Cert.XattnReferenceIdeal.nD Cert.XattnReferenceIdeal.τ).loc Cert.XattnReferenceIdeal.main_arg0) = m' ((c.tc : Thread Cert.XattnReferenceIdeal.nD Cert.XattnReferenceIdeal.τ).loc Cert.XattnReferenceIdeal.main_arg0)
          ∧ r.2.mem ((c.tc : Thread Cert.XattnReferenceIdeal.nD Cert.XattnReferenceIdeal.τ).loc Cert.XattnReferenceIdeal.main_arg1) = m' ((c.tc : Thread Cert.XattnReferenceIdeal.nD Cert.XattnReferenceIdeal.τ).loc Cert.XattnReferenceIdeal.main_arg1)
          ∧ r.2.mem ((c.tc : Thread Cert.XattnReferenceIdeal.nD Cert.XattnReferenceIdeal.τ).loc Cert.XattnReferenceIdeal.main_arg2) = m' ((c.tc : Thread Cert.XattnReferenceIdeal.nD Cert.XattnReferenceIdeal.τ).loc Cert.XattnReferenceIdeal.main_arg2)
          ∧ r.2.mem ((c.tc : Thread Cert.XattnReferenceIdeal.nD Cert.XattnReferenceIdeal.τ).loc Cert.XattnReferenceIdeal.main_arg3) = m' ((c.tc : Thread Cert.XattnReferenceIdeal.nD Cert.XattnReferenceIdeal.τ).loc Cert.XattnReferenceIdeal.main_arg3)
          ∧ r.2.mem ((c.tc : Thread Cert.XattnReferenceIdeal.nD Cert.XattnReferenceIdeal.τ).loc Cert.XattnReferenceIdeal.main_arg4) = m' ((c.tc : Thread Cert.XattnReferenceIdeal.nD Cert.XattnReferenceIdeal.τ).loc Cert.XattnReferenceIdeal.main_arg4)
          ∧ r.2.mem ((c.tc : Thread Cert.XattnReferenceIdeal.nD Cert.XattnReferenceIdeal.τ).loc Cert.XattnReferenceIdeal.main_arg5) = m' ((c.tc : Thread Cert.XattnReferenceIdeal.nD Cert.XattnReferenceIdeal.τ).loc Cert.XattnReferenceIdeal.main_arg5)
          ∧ r.2.mem ((c.tc : Thread Cert.XattnReferenceIdeal.nD Cert.XattnReferenceIdeal.τ).loc Cert.XattnReferenceIdeal.main_arg6) = m' ((c.tc : Thread Cert.XattnReferenceIdeal.nD Cert.XattnReferenceIdeal.τ).loc Cert.XattnReferenceIdeal.main_arg6))

def preserves_GmlpKernel_GmlpKernelIdeal : Prop :=
  True

def algebraic_GmlpKernelIdeal_GmlpReferenceIdeal [hGmlpKernelIdeal : Cert.GmlpKernelIdeal.Facts] [hGmlpReferenceIdeal : Cert.GmlpReferenceIdeal.Facts] : Prop :=
  ∀ (m : (ℓ : Loc Cert.GmlpKernelIdeal.nD Cert.GmlpKernelIdeal.τ Cert.GmlpKernelIdeal.sig) → Buf (Elt Ideal) ℓ) (g : Dev Cert.GmlpKernelIdeal.nD → PrngReg)
    (m' : (ℓ : Loc Cert.GmlpReferenceIdeal.nD Cert.GmlpReferenceIdeal.τ Cert.GmlpReferenceIdeal.sig) → Buf (Elt Ideal) ℓ) (g' : Dev Cert.GmlpReferenceIdeal.nD → PrngReg), Pre_GmlpKernelIdeal m →
    (∀ c : Dev Cert.GmlpKernelIdeal.nD,
      m' ((c.tc : Thread Cert.GmlpReferenceIdeal.nD Cert.GmlpReferenceIdeal.τ).loc Cert.GmlpReferenceIdeal.main_arg0) = m ((c.tc : Thread Cert.GmlpKernelIdeal.nD Cert.GmlpKernelIdeal.τ).loc Cert.GmlpKernelIdeal.main_arg0)
      ∧ m' ((c.tc : Thread Cert.GmlpReferenceIdeal.nD Cert.GmlpReferenceIdeal.τ).loc Cert.GmlpReferenceIdeal.main_arg1) = m ((c.tc : Thread Cert.GmlpKernelIdeal.nD Cert.GmlpKernelIdeal.τ).loc Cert.GmlpKernelIdeal.main_arg1)
      ∧ m' ((c.tc : Thread Cert.GmlpReferenceIdeal.nD Cert.GmlpReferenceIdeal.τ).loc Cert.GmlpReferenceIdeal.main_arg2) = m ((c.tc : Thread Cert.GmlpKernelIdeal.nD Cert.GmlpKernelIdeal.τ).loc Cert.GmlpKernelIdeal.main_arg2)
      ∧ m' ((c.tc : Thread Cert.GmlpReferenceIdeal.nD Cert.GmlpReferenceIdeal.τ).loc Cert.GmlpReferenceIdeal.main_arg3) = m ((c.tc : Thread Cert.GmlpKernelIdeal.nD Cert.GmlpKernelIdeal.τ).loc Cert.GmlpKernelIdeal.main_arg3)
      ∧ m' ((c.tc : Thread Cert.GmlpReferenceIdeal.nD Cert.GmlpReferenceIdeal.τ).loc Cert.GmlpReferenceIdeal.main_arg4) = m ((c.tc : Thread Cert.GmlpKernelIdeal.nD Cert.GmlpKernelIdeal.τ).loc Cert.GmlpKernelIdeal.main_arg4)
      ∧ m' ((c.tc : Thread Cert.GmlpReferenceIdeal.nD Cert.GmlpReferenceIdeal.τ).loc Cert.GmlpReferenceIdeal.main_arg5) = m ((c.tc : Thread Cert.GmlpKernelIdeal.nD Cert.GmlpKernelIdeal.τ).loc Cert.GmlpKernelIdeal.main_arg5)) →
    ∃ (v0 : (c : Dev Cert.GmlpKernelIdeal.nD) → Buf (Elt Ideal) ((c.tc : Thread Cert.GmlpKernelIdeal.nD Cert.GmlpKernelIdeal.τ).loc Cert.GmlpKernelIdeal.main_v1_0)) (v1 : (c : Dev Cert.GmlpKernelIdeal.nD) → Buf (Elt Ideal) ((c.tc : Thread Cert.GmlpKernelIdeal.nD Cert.GmlpKernelIdeal.τ).loc Cert.GmlpKernelIdeal.main_v1_1)) (v2 : (c : Dev Cert.GmlpKernelIdeal.nD) → Buf (Elt Ideal) ((c.tc : Thread Cert.GmlpKernelIdeal.nD Cert.GmlpKernelIdeal.τ).loc Cert.GmlpKernelIdeal.main_v1_2)) (v3 : (c : Dev Cert.GmlpKernelIdeal.nD) → Buf (Elt Ideal) ((c.tc : Thread Cert.GmlpKernelIdeal.nD Cert.GmlpKernelIdeal.τ).loc Cert.GmlpKernelIdeal.main_v1_3)) (v4 : (c : Dev Cert.GmlpKernelIdeal.nD) → Buf (Elt Ideal) ((c.tc : Thread Cert.GmlpKernelIdeal.nD Cert.GmlpKernelIdeal.τ).loc Cert.GmlpKernelIdeal.main_v1_4)),
      θ_run (Cert.GmlpKernelIdeal.defs (F := Ideal)) (onTc (τ := Cert.GmlpKernelIdeal.τ) (Cert.GmlpKernelIdeal.main (F := Ideal))) ⟨m, fun _ => 0, g⟩ (fun r => ∀ c : Dev Cert.GmlpKernelIdeal.nD,
          r.2.mem ((c.tc : Thread Cert.GmlpKernelIdeal.nD Cert.GmlpKernelIdeal.τ).loc Cert.GmlpKernelIdeal.main_v1_0) = v0 c
          ∧ r.2.mem ((c.tc : Thread Cert.GmlpKernelIdeal.nD Cert.GmlpKernelIdeal.τ).loc Cert.GmlpKernelIdeal.main_v1_1) = v1 c
          ∧ r.2.mem ((c.tc : Thread Cert.GmlpKernelIdeal.nD Cert.GmlpKernelIdeal.τ).loc Cert.GmlpKernelIdeal.main_v1_2) = v2 c
          ∧ r.2.mem ((c.tc : Thread Cert.GmlpKernelIdeal.nD Cert.GmlpKernelIdeal.τ).loc Cert.GmlpKernelIdeal.main_v1_3) = v3 c
          ∧ r.2.mem ((c.tc : Thread Cert.GmlpKernelIdeal.nD Cert.GmlpKernelIdeal.τ).loc Cert.GmlpKernelIdeal.main_v1_4) = v4 c
          ∧ r.2.mem ((c.tc : Thread Cert.GmlpKernelIdeal.nD Cert.GmlpKernelIdeal.τ).loc Cert.GmlpKernelIdeal.main_arg0) = m ((c.tc : Thread Cert.GmlpKernelIdeal.nD Cert.GmlpKernelIdeal.τ).loc Cert.GmlpKernelIdeal.main_arg0)
          ∧ r.2.mem ((c.tc : Thread Cert.GmlpKernelIdeal.nD Cert.GmlpKernelIdeal.τ).loc Cert.GmlpKernelIdeal.main_arg1) = m ((c.tc : Thread Cert.GmlpKernelIdeal.nD Cert.GmlpKernelIdeal.τ).loc Cert.GmlpKernelIdeal.main_arg1)
          ∧ r.2.mem ((c.tc : Thread Cert.GmlpKernelIdeal.nD Cert.GmlpKernelIdeal.τ).loc Cert.GmlpKernelIdeal.main_arg2) = m ((c.tc : Thread Cert.GmlpKernelIdeal.nD Cert.GmlpKernelIdeal.τ).loc Cert.GmlpKernelIdeal.main_arg2)
          ∧ r.2.mem ((c.tc : Thread Cert.GmlpKernelIdeal.nD Cert.GmlpKernelIdeal.τ).loc Cert.GmlpKernelIdeal.main_arg3) = m ((c.tc : Thread Cert.GmlpKernelIdeal.nD Cert.GmlpKernelIdeal.τ).loc Cert.GmlpKernelIdeal.main_arg3)
          ∧ r.2.mem ((c.tc : Thread Cert.GmlpKernelIdeal.nD Cert.GmlpKernelIdeal.τ).loc Cert.GmlpKernelIdeal.main_arg4) = m ((c.tc : Thread Cert.GmlpKernelIdeal.nD Cert.GmlpKernelIdeal.τ).loc Cert.GmlpKernelIdeal.main_arg4)
          ∧ r.2.mem ((c.tc : Thread Cert.GmlpKernelIdeal.nD Cert.GmlpKernelIdeal.τ).loc Cert.GmlpKernelIdeal.main_arg5) = m ((c.tc : Thread Cert.GmlpKernelIdeal.nD Cert.GmlpKernelIdeal.τ).loc Cert.GmlpKernelIdeal.main_arg5))
      ∧ θ_run (Cert.GmlpReferenceIdeal.defs (F := Ideal)) (onTc (τ := Cert.GmlpReferenceIdeal.τ) (Cert.GmlpReferenceIdeal.main (F := Ideal))) ⟨m', fun _ => 0, g'⟩ (fun r => ∀ c : Dev Cert.GmlpReferenceIdeal.nD,
          r.2.mem ((c.tc : Thread Cert.GmlpReferenceIdeal.nD Cert.GmlpReferenceIdeal.τ).loc Cert.GmlpReferenceIdeal.main_v128) = v0 c
          ∧ r.2.mem ((c.tc : Thread Cert.GmlpReferenceIdeal.nD Cert.GmlpReferenceIdeal.τ).loc Cert.GmlpReferenceIdeal.main_v129) = v1 c
          ∧ r.2.mem ((c.tc : Thread Cert.GmlpReferenceIdeal.nD Cert.GmlpReferenceIdeal.τ).loc Cert.GmlpReferenceIdeal.main_v130) = v2 c
          ∧ r.2.mem ((c.tc : Thread Cert.GmlpReferenceIdeal.nD Cert.GmlpReferenceIdeal.τ).loc Cert.GmlpReferenceIdeal.main_v80) = v3 c
          ∧ r.2.mem ((c.tc : Thread Cert.GmlpReferenceIdeal.nD Cert.GmlpReferenceIdeal.τ).loc Cert.GmlpReferenceIdeal.main_v131) = v4 c
          ∧ r.2.mem ((c.tc : Thread Cert.GmlpReferenceIdeal.nD Cert.GmlpReferenceIdeal.τ).loc Cert.GmlpReferenceIdeal.main_arg0) = m' ((c.tc : Thread Cert.GmlpReferenceIdeal.nD Cert.GmlpReferenceIdeal.τ).loc Cert.GmlpReferenceIdeal.main_arg0)
          ∧ r.2.mem ((c.tc : Thread Cert.GmlpReferenceIdeal.nD Cert.GmlpReferenceIdeal.τ).loc Cert.GmlpReferenceIdeal.main_arg1) = m' ((c.tc : Thread Cert.GmlpReferenceIdeal.nD Cert.GmlpReferenceIdeal.τ).loc Cert.GmlpReferenceIdeal.main_arg1)
          ∧ r.2.mem ((c.tc : Thread Cert.GmlpReferenceIdeal.nD Cert.GmlpReferenceIdeal.τ).loc Cert.GmlpReferenceIdeal.main_arg2) = m' ((c.tc : Thread Cert.GmlpReferenceIdeal.nD Cert.GmlpReferenceIdeal.τ).loc Cert.GmlpReferenceIdeal.main_arg2)
          ∧ r.2.mem ((c.tc : Thread Cert.GmlpReferenceIdeal.nD Cert.GmlpReferenceIdeal.τ).loc Cert.GmlpReferenceIdeal.main_arg3) = m' ((c.tc : Thread Cert.GmlpReferenceIdeal.nD Cert.GmlpReferenceIdeal.τ).loc Cert.GmlpReferenceIdeal.main_arg3)
          ∧ r.2.mem ((c.tc : Thread Cert.GmlpReferenceIdeal.nD Cert.GmlpReferenceIdeal.τ).loc Cert.GmlpReferenceIdeal.main_arg4) = m' ((c.tc : Thread Cert.GmlpReferenceIdeal.nD Cert.GmlpReferenceIdeal.τ).loc Cert.GmlpReferenceIdeal.main_arg4)
          ∧ r.2.mem ((c.tc : Thread Cert.GmlpReferenceIdeal.nD Cert.GmlpReferenceIdeal.τ).loc Cert.GmlpReferenceIdeal.main_arg5) = m' ((c.tc : Thread Cert.GmlpReferenceIdeal.nD Cert.GmlpReferenceIdeal.τ).loc Cert.GmlpReferenceIdeal.main_arg5))

def preserves_ForwardKernel_ForwardKernelIdeal : Prop :=
  True

def algebraic_ForwardKernelIdeal_ForwardReferenceIdeal [hForwardKernelIdeal : Cert.ForwardKernelIdeal.Facts] [hForwardReferenceIdeal : Cert.ForwardReferenceIdeal.Facts] : Prop :=
  ∀ (m : (ℓ : Loc Cert.ForwardKernelIdeal.nD Cert.ForwardKernelIdeal.τ Cert.ForwardKernelIdeal.sig) → Buf (Elt Ideal) ℓ) (g : Dev Cert.ForwardKernelIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardKernelIdeal m →
    (∀ c : Dev Cert.ForwardKernelIdeal.nD,
      m' ((c.tc : Thread Cert.ForwardReferenceIdeal.nD Cert.ForwardReferenceIdeal.τ).loc Cert.ForwardReferenceIdeal.main_arg0) = m ((c.tc : Thread Cert.ForwardKernelIdeal.nD Cert.ForwardKernelIdeal.τ).loc Cert.ForwardKernelIdeal.main_arg0)
      ∧ m' ((c.tc : Thread Cert.ForwardReferenceIdeal.nD Cert.ForwardReferenceIdeal.τ).loc Cert.ForwardReferenceIdeal.main_arg1) = m ((c.tc : Thread Cert.ForwardKernelIdeal.nD Cert.ForwardKernelIdeal.τ).loc Cert.ForwardKernelIdeal.main_arg1)
      ∧ m' ((c.tc : Thread Cert.ForwardReferenceIdeal.nD Cert.ForwardReferenceIdeal.τ).loc Cert.ForwardReferenceIdeal.main_arg2) = m ((c.tc : Thread Cert.ForwardKernelIdeal.nD Cert.ForwardKernelIdeal.τ).loc Cert.ForwardKernelIdeal.main_arg2)
      ∧ m' ((c.tc : Thread Cert.ForwardReferenceIdeal.nD Cert.ForwardReferenceIdeal.τ).loc Cert.ForwardReferenceIdeal.main_arg3) = m ((c.tc : Thread Cert.ForwardKernelIdeal.nD Cert.ForwardKernelIdeal.τ).loc Cert.ForwardKernelIdeal.main_arg3)) →
    ∃ (v0 : (c : Dev Cert.ForwardKernelIdeal.nD) → Buf (Elt Ideal) ((c.tc : Thread Cert.ForwardKernelIdeal.nD Cert.ForwardKernelIdeal.τ).loc Cert.ForwardKernelIdeal.main_v19)),
      θ_run (Cert.ForwardKernelIdeal.defs (F := Ideal)) (onTc (τ := Cert.ForwardKernelIdeal.τ) (Cert.ForwardKernelIdeal.main (F := Ideal))) ⟨m, fun _ => 0, g⟩ (fun r => ∀ c : Dev Cert.ForwardKernelIdeal.nD,
          r.2.mem ((c.tc : Thread Cert.ForwardKernelIdeal.nD Cert.ForwardKernelIdeal.τ).loc Cert.ForwardKernelIdeal.main_v19) = v0 c
          ∧ r.2.mem ((c.tc : Thread Cert.ForwardKernelIdeal.nD Cert.ForwardKernelIdeal.τ).loc Cert.ForwardKernelIdeal.main_arg0) = m ((c.tc : Thread Cert.ForwardKernelIdeal.nD Cert.ForwardKernelIdeal.τ).loc Cert.ForwardKernelIdeal.main_arg0)
          ∧ r.2.mem ((c.tc : Thread Cert.ForwardKernelIdeal.nD Cert.ForwardKernelIdeal.τ).loc Cert.ForwardKernelIdeal.main_arg1) = m ((c.tc : Thread Cert.ForwardKernelIdeal.nD Cert.ForwardKernelIdeal.τ).loc Cert.ForwardKernelIdeal.main_arg1)
          ∧ r.2.mem ((c.tc : Thread Cert.ForwardKernelIdeal.nD Cert.ForwardKernelIdeal.τ).loc Cert.ForwardKernelIdeal.main_arg2) = m ((c.tc : Thread Cert.ForwardKernelIdeal.nD Cert.ForwardKernelIdeal.τ).loc Cert.ForwardKernelIdeal.main_arg2)
          ∧ r.2.mem ((c.tc : Thread Cert.ForwardKernelIdeal.nD Cert.ForwardKernelIdeal.τ).loc Cert.ForwardKernelIdeal.main_arg3) = m ((c.tc : Thread Cert.ForwardKernelIdeal.nD Cert.ForwardKernelIdeal.τ).loc Cert.ForwardKernelIdeal.main_arg3))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v24) = v0 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2)
          ∧ r.2.mem ((c.tc : Thread Cert.ForwardReferenceIdeal.nD Cert.ForwardReferenceIdeal.τ).loc Cert.ForwardReferenceIdeal.main_arg3) = m' ((c.tc : Thread Cert.ForwardReferenceIdeal.nD Cert.ForwardReferenceIdeal.τ).loc Cert.ForwardReferenceIdeal.main_arg3))

def preserves_MixInKernel_MixInKernelIdeal : Prop :=
  True

def algebraic_MixInKernelIdeal_MixInReferenceIdeal [hMixInKernelIdeal : Cert.MixInKernelIdeal.Facts] [hMixInReferenceIdeal : Cert.MixInReferenceIdeal.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInKernelIdeal m →
    (∀ c : Dev Cert.MixInKernelIdeal.nD,
      m' ((c.tc : Thread Cert.MixInReferenceIdeal.nD Cert.MixInReferenceIdeal.τ).loc Cert.MixInReferenceIdeal.main_arg0) = m ((c.tc : Thread Cert.MixInKernelIdeal.nD Cert.MixInKernelIdeal.τ).loc Cert.MixInKernelIdeal.main_arg0)
      ∧ m' ((c.tc : Thread Cert.MixInReferenceIdeal.nD Cert.MixInReferenceIdeal.τ).loc Cert.MixInReferenceIdeal.main_arg1) = m ((c.tc : Thread Cert.MixInKernelIdeal.nD Cert.MixInKernelIdeal.τ).loc Cert.MixInKernelIdeal.main_arg1)
      ∧ m' ((c.tc : Thread Cert.MixInReferenceIdeal.nD Cert.MixInReferenceIdeal.τ).loc Cert.MixInReferenceIdeal.main_arg2) = m ((c.tc : Thread Cert.MixInKernelIdeal.nD Cert.MixInKernelIdeal.τ).loc Cert.MixInKernelIdeal.main_arg2)
      ∧ m' ((c.tc : Thread Cert.MixInReferenceIdeal.nD Cert.MixInReferenceIdeal.τ).loc Cert.MixInReferenceIdeal.main_arg3) = m ((c.tc : Thread Cert.MixInKernelIdeal.nD Cert.MixInKernelIdeal.τ).loc Cert.MixInKernelIdeal.main_arg3)
      ∧ m' ((c.tc : Thread Cert.MixInReferenceIdeal.nD Cert.MixInReferenceIdeal.τ).loc Cert.MixInReferenceIdeal.main_arg4) = m ((c.tc : Thread Cert.MixInKernelIdeal.nD Cert.MixInKernelIdeal.τ).loc Cert.MixInKernelIdeal.main_arg4)
      ∧ m' ((c.tc : Thread Cert.MixInReferenceIdeal.nD Cert.MixInReferenceIdeal.τ).loc Cert.MixInReferenceIdeal.main_arg5) = m ((c.tc : Thread Cert.MixInKernelIdeal.nD Cert.MixInKernelIdeal.τ).loc Cert.MixInKernelIdeal.main_arg5)
      ∧ m' ((c.tc : Thread Cert.MixInReferenceIdeal.nD Cert.MixInReferenceIdeal.τ).loc Cert.MixInReferenceIdeal.main_arg6) = m ((c.tc : Thread Cert.MixInKernelIdeal.nD Cert.MixInKernelIdeal.τ).loc Cert.MixInKernelIdeal.main_arg6)
      ∧ m' ((c.tc : Thread Cert.MixInReferenceIdeal.nD Cert.MixInReferenceIdeal.τ).loc Cert.MixInReferenceIdeal.main_arg7) = m ((c.tc : Thread Cert.MixInKernelIdeal.nD Cert.MixInKernelIdeal.τ).loc Cert.MixInKernelIdeal.main_arg7)
      ∧ m' ((c.tc : Thread Cert.MixInReferenceIdeal.nD Cert.MixInReferenceIdeal.τ).loc Cert.MixInReferenceIdeal.main_arg8) = m ((c.tc : Thread Cert.MixInKernelIdeal.nD Cert.MixInKernelIdeal.τ).loc Cert.MixInKernelIdeal.main_arg8)) →
    ∃ (v0 : (c : Dev Cert.MixInKernelIdeal.nD) → Buf (Elt Ideal) ((c.tc : Thread Cert.MixInKernelIdeal.nD Cert.MixInKernelIdeal.τ).loc Cert.MixInKernelIdeal.main_v11_0)) (v1 : (c : Dev Cert.MixInKernelIdeal.nD) → Buf (Elt Ideal) ((c.tc : Thread Cert.MixInKernelIdeal.nD Cert.MixInKernelIdeal.τ).loc Cert.MixInKernelIdeal.main_v11_1)),
      θ_run (Cert.MixInKernelIdeal.defs (F := Ideal)) (onTc (τ := Cert.MixInKernelIdeal.τ) (Cert.MixInKernelIdeal.main (F := Ideal))) ⟨m, fun _ => 0, g⟩ (fun r => ∀ c : Dev Cert.MixInKernelIdeal.nD,
          r.2.mem ((c.tc : Thread Cert.MixInKernelIdeal.nD Cert.MixInKernelIdeal.τ).loc Cert.MixInKernelIdeal.main_v11_0) = v0 c
          ∧ r.2.mem ((c.tc : Thread Cert.MixInKernelIdeal.nD Cert.MixInKernelIdeal.τ).loc Cert.MixInKernelIdeal.main_v11_1) = v1 c
          ∧ r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
          ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1)
          ∧ r.2.mem ((c.tc : Thread Cert.MixInKernelIdeal.nD Cert.MixInKernelIdeal.τ).loc Cert.MixInKernelIdeal.main_arg2) = m ((c.tc : Thread Cert.MixInKernelIdeal.nD Cert.MixInKernelIdeal.τ).loc Cert.MixInKernelIdeal.main_arg2)
          ∧ r.2.mem ((c.tc : Thread Cert.MixInKernelIdeal.nD Cert.MixInKernelIdeal.τ).loc Cert.MixInKernelIdeal.main_arg3) = m ((c.tc : Thread Cert.MixInKernelIdeal.nD Cert.MixInKernelIdeal.τ).loc Cert.MixInKernelIdeal.main_arg3)
          ∧ r.2.mem ((c.tc : Thread Cert.MixInKernelIdeal.nD Cert.MixInKernelIdeal.τ).loc Cert.MixInKernelIdeal.main_arg4) = m ((c.tc : Thread Cert.MixInKernelIdeal.nD Cert.MixInKernelIdeal.τ).loc Cert.MixInKernelIdeal.main_arg4)
          ∧ r.2.mem ((c.tc : Thread Cert.MixInKernelIdeal.nD Cert.MixInKernelIdeal.τ).loc Cert.MixInKernelIdeal.main_arg5) = m ((c.tc : Thread Cert.MixInKernelIdeal.nD Cert.MixInKernelIdeal.τ).loc Cert.MixInKernelIdeal.main_arg5)
          ∧ r.2.mem ((c.tc : Thread Cert.MixInKernelIdeal.nD Cert.MixInKernelIdeal.τ).loc Cert.MixInKernelIdeal.main_arg6) = m ((c.tc : Thread Cert.MixInKernelIdeal.nD Cert.MixInKernelIdeal.τ).loc Cert.MixInKernelIdeal.main_arg6)
          ∧ r.2.mem ((c.tc : Thread Cert.MixInKernelIdeal.nD Cert.MixInKernelIdeal.τ).loc Cert.MixInKernelIdeal.main_arg7) = m ((c.tc : Thread Cert.MixInKernelIdeal.nD Cert.MixInKernelIdeal.τ).loc Cert.MixInKernelIdeal.main_arg7)
          ∧ r.2.mem ((c.tc : Thread Cert.MixInKernelIdeal.nD Cert.MixInKernelIdeal.τ).loc Cert.MixInKernelIdeal.main_arg8) = m ((c.tc : Thread Cert.MixInKernelIdeal.nD Cert.MixInKernelIdeal.τ).loc Cert.MixInKernelIdeal.main_arg8))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v47) = v0 c
          ∧ r.2.mem ((c.tc : Thread Cert.MixInReferenceIdeal.nD Cert.MixInReferenceIdeal.τ).loc Cert.MixInReferenceIdeal.main_v48) = v1 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1)
          ∧ r.2.mem ((c.tc : Thread Cert.MixInReferenceIdeal.nD Cert.MixInReferenceIdeal.τ).loc Cert.MixInReferenceIdeal.main_arg2) = m' ((c.tc : Thread Cert.MixInReferenceIdeal.nD Cert.MixInReferenceIdeal.τ).loc Cert.MixInReferenceIdeal.main_arg2)
          ∧ r.2.mem ((c.tc : Thread Cert.MixInReferenceIdeal.nD Cert.MixInReferenceIdeal.τ).loc Cert.MixInReferenceIdeal.main_arg3) = m' ((c.tc : Thread Cert.MixInReferenceIdeal.nD Cert.MixInReferenceIdeal.τ).loc Cert.MixInReferenceIdeal.main_arg3)
          ∧ r.2.mem ((c.tc : Thread Cert.MixInReferenceIdeal.nD Cert.MixInReferenceIdeal.τ).loc Cert.MixInReferenceIdeal.main_arg4) = m' ((c.tc : Thread Cert.MixInReferenceIdeal.nD Cert.MixInReferenceIdeal.τ).loc Cert.MixInReferenceIdeal.main_arg4)
          ∧ r.2.mem ((c.tc : Thread Cert.MixInReferenceIdeal.nD Cert.MixInReferenceIdeal.τ).loc Cert.MixInReferenceIdeal.main_arg5) = m' ((c.tc : Thread Cert.MixInReferenceIdeal.nD Cert.MixInReferenceIdeal.τ).loc Cert.MixInReferenceIdeal.main_arg5)
          ∧ r.2.mem ((c.tc : Thread Cert.MixInReferenceIdeal.nD Cert.MixInReferenceIdeal.τ).loc Cert.MixInReferenceIdeal.main_arg6) = m' ((c.tc : Thread Cert.MixInReferenceIdeal.nD Cert.MixInReferenceIdeal.τ).loc Cert.MixInReferenceIdeal.main_arg6)
          ∧ r.2.mem ((c.tc : Thread Cert.MixInReferenceIdeal.nD Cert.MixInReferenceIdeal.τ).loc Cert.MixInReferenceIdeal.main_arg7) = m' ((c.tc : Thread Cert.MixInReferenceIdeal.nD Cert.MixInReferenceIdeal.τ).loc Cert.MixInReferenceIdeal.main_arg7)
          ∧ r.2.mem ((c.tc : Thread Cert.MixInReferenceIdeal.nD Cert.MixInReferenceIdeal.τ).loc Cert.MixInReferenceIdeal.main_arg8) = m' ((c.tc : Thread Cert.MixInReferenceIdeal.nD Cert.MixInReferenceIdeal.τ).loc Cert.MixInReferenceIdeal.main_arg8))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hDownKernel : Cert.DownKernel.Facts) (hDownKernelIdeal : Cert.DownKernelIdeal.Facts) (hDownReferenceIdeal : Cert.DownReferenceIdeal.Facts) (hGateKernel : Cert.GateKernel.Facts) (hGateKernelIdeal : Cert.GateKernelIdeal.Facts) (hGateReferenceIdeal : Cert.GateReferenceIdeal.Facts) (hUpKernel : Cert.UpKernel.Facts) (hUpKernelIdeal : Cert.UpKernelIdeal.Facts) (hUpReferenceIdeal : Cert.UpReferenceIdeal.Facts) (hXattnKernel : Cert.XattnKernel.Facts) (hXattnKernelIdeal : Cert.XattnKernelIdeal.Facts) (hXattnReferenceIdeal : Cert.XattnReferenceIdeal.Facts) (hGmlpKernel : Cert.GmlpKernel.Facts) (hGmlpKernelIdeal : Cert.GmlpKernelIdeal.Facts) (hGmlpReferenceIdeal : Cert.GmlpReferenceIdeal.Facts) (hForwardKernel : Cert.ForwardKernel.Facts) (hForwardKernelIdeal : Cert.ForwardKernelIdeal.Facts) (hForwardReferenceIdeal : Cert.ForwardReferenceIdeal.Facts) (hMixInKernel : Cert.MixInKernel.Facts) (hMixInKernelIdeal : Cert.MixInKernelIdeal.Facts) (hMixInReferenceIdeal : Cert.MixInReferenceIdeal.Facts) (hOn_gate_half : Cert.On_gate_half.Facts),
    quiescent_Kernel (hKernel := hKernel)
    ∧ quiescent_KernelIdeal (hKernelIdeal := hKernelIdeal)
    ∧ quiescent_ReferenceIdeal (hReferenceIdeal := hReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_XattnKernel (hXattnKernel := hXattnKernel)
    ∧ quiescent_XattnKernelIdeal (hXattnKernelIdeal := hXattnKernelIdeal)
    ∧ quiescent_XattnReferenceIdeal (hXattnReferenceIdeal := hXattnReferenceIdeal)
    ∧ quiescent_GmlpKernel (hGmlpKernel := hGmlpKernel)
    ∧ quiescent_GmlpKernelIdeal (hGmlpKernelIdeal := hGmlpKernelIdeal)
    ∧ quiescent_GmlpReferenceIdeal (hGmlpReferenceIdeal := hGmlpReferenceIdeal)
    ∧ quiescent_ForwardKernel (hForwardKernel := hForwardKernel)
    ∧ quiescent_ForwardKernelIdeal (hForwardKernelIdeal := hForwardKernelIdeal)
    ∧ quiescent_ForwardReferenceIdeal (hForwardReferenceIdeal := hForwardReferenceIdeal)
    ∧ quiescent_MixInKernel (hMixInKernel := hMixInKernel)
    ∧ quiescent_MixInKernelIdeal (hMixInKernelIdeal := hMixInKernelIdeal)
    ∧ quiescent_MixInReferenceIdeal (hMixInReferenceIdeal := hMixInReferenceIdeal)
    ∧ preserves_Kernel_KernelIdeal
    ∧ algebraic_KernelIdeal_ReferenceIdeal (hKernelIdeal := hKernelIdeal) (hReferenceIdeal := hReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_DownKernel_DownKernelIdeal
    ∧ algebraic_DownKernelIdeal_DownReferenceIdeal (hDownKernelIdeal := hDownKernelIdeal) (hDownReferenceIdeal := hDownReferenceIdeal)
    ∧ preserves_GateKernel_GateKernelIdeal
    ∧ algebraic_GateKernelIdeal_GateReferenceIdeal_on_gate_half (hGateKernelIdeal := hGateKernelIdeal) (hGateReferenceIdeal := hGateReferenceIdeal) (hOn_gate_half := hOn_gate_half)
    ∧ preserves_UpKernel_UpKernelIdeal
    ∧ algebraic_UpKernelIdeal_UpReferenceIdeal (hUpKernelIdeal := hUpKernelIdeal) (hUpReferenceIdeal := hUpReferenceIdeal)
    ∧ preserves_XattnKernel_XattnKernelIdeal
    ∧ algebraic_XattnKernelIdeal_XattnReferenceIdeal (hXattnKernelIdeal := hXattnKernelIdeal) (hXattnReferenceIdeal := hXattnReferenceIdeal)
    ∧ preserves_GmlpKernel_GmlpKernelIdeal
    ∧ algebraic_GmlpKernelIdeal_GmlpReferenceIdeal (hGmlpKernelIdeal := hGmlpKernelIdeal) (hGmlpReferenceIdeal := hGmlpReferenceIdeal)
    ∧ preserves_ForwardKernel_ForwardKernelIdeal
    ∧ algebraic_ForwardKernelIdeal_ForwardReferenceIdeal (hForwardKernelIdeal := hForwardKernelIdeal) (hForwardReferenceIdeal := hForwardReferenceIdeal)
    ∧ preserves_MixInKernel_MixInKernelIdeal
    ∧ algebraic_MixInKernelIdeal_MixInReferenceIdeal (hMixInKernelIdeal := hMixInKernelIdeal) (hMixInReferenceIdeal := hMixInReferenceIdeal)
-- ==== On_gate_half.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S1024x5632 : S_.BroadcastsInDim S1024x5632 (![] : Fin 0 → Fin S1024x5632.rank)

variable [Facts]

def fn {F : FTy → Type} [FloatOps F] (main_arg0 : FVec F S8192x1024 .f32) (main_arg1 : FVec F S1x1024 .f32) (main_arg2 : FVec F S1024x5632 .bf16) (main_arg3 : FVec F S2816x1024 .bf16) (main_arg4 : FVec F S8192x1024 .f32) : IVec S1024x5632 1 :=
  let main_v0 : IVec S1024x5632 32 := iotaInDim S1024x5632 32 1
  let main_c : IVec S_ 32 := constantI S_ 32 2816#32
  let main_v1 : IVec S1024x5632 32 := broadcastInDim S1024x5632 ![] bcast_S_S1024x5632 main_c
  let main_v2 : IVec S1024x5632 1 := cmpi .slt main_v0 main_v1
  main_v2
-- ==== Kernel.lean ====
abbrev S8192x768 : Shape := ⟨2, ![8192, 768]⟩
abbrev S8192x256 : Shape := ⟨2, ![8192, 256]⟩
abbrev S8192x128 : Shape := ⟨2, ![8192, 128]⟩
abbrev S2048x3072 : Shape := ⟨2, ![2048, 3072]⟩
abbrev S2048x1024 : Shape := ⟨2, ![2048, 1024]⟩
abbrev S2048x512 : Shape := ⟨2, ![2048, 512]⟩
abbrev S128x256 : Shape := ⟨2, ![128, 256]⟩
abbrev S128x128 : Shape := ⟨2, ![128, 128]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S128x64 : Shape := ⟨2, ![128, 64]⟩
abbrev S128 : Shape := ⟨1, ![128]⟩
abbrev S128x1 : Shape := ⟨2, ![128, 1]⟩
abbrev S384x1 : Shape := ⟨2, ![384, 1]⟩
abbrev S384x64 : Shape := ⟨2, ![384, 64]⟩
abbrev S512x64 : Shape := ⟨2, ![512, 64]⟩
abbrev S512x192 : Shape := ⟨2, ![512, 192]⟩
abbrev S256x1 : Shape := ⟨2, ![256, 1]⟩
abbrev S256x64 : Shape := ⟨2, ![256, 64]⟩
abbrev S512x128 : Shape := ⟨2, ![512, 128]⟩

abbrev nBuf : Space → Nat
  | .hbm => 15
  | .vmem => 28
  | .smem => 0
  | _ => 0

abbrev bufTy : (tb : Table) → Fin (tcTables nBuf tb) → BufTy
  | .hbm, ⟨0, _⟩ => ⟨S8192x768, .bf16⟩
  | .hbm, ⟨1, _⟩ => ⟨S8192x256, .f32⟩
  | .hbm, ⟨2, _⟩ => ⟨S8192x128, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S2048x3072, .bf16⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x512, .f32⟩
  | .hbm, ⟨12, _⟩ => ⟨S2048x1024, .f32⟩
  | .hbm, ⟨13, _⟩ => ⟨S2048x1024, .f32⟩
  | .hbm, ⟨14, _⟩ => ⟨S2048x1024, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .f32⟩
  | .local _ .vmem, ⟨11, _⟩ => ⟨S128x256, .f32⟩
  | .local _ .vmem, ⟨12, _⟩ => ⟨S128x128, .f32⟩
  | .local _ .vmem, ⟨13, _⟩ => ⟨S128x128, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S128x256, .f32⟩
  | .local _ .vmem, ⟨27, _⟩ => ⟨S128x256, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c3_i32 : BitVec 32 := 3#32
  let v1 : BitVec 32 := Scalar.muli c3_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi c14_i32 arg1
  let c0_i32 : BitVec 32 := 0#32
  let v1 : BitVec 32 := Scalar.maxsi v0 c0_i32
  let c3_i32 : BitVec 32 := 3#32
  let v2 : BitVec 32 := Scalar.muli c3_i32 arg0
  let c1_i32 : BitVec 32 := 1#32
  let v3 : BitVec 32 := Scalar.addi v2 c1_i32
  let c0_i32_0 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c3_i32 : BitVec 32 := 3#32
  let v1 : BitVec 32 := Scalar.muli c3_i32 arg0
  let c1_i32 : BitVec 32 := 1#32
  let v2 : BitVec 32 := Scalar.addi v1 c1_i32
  let c0_i32 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi c14_i32 arg1
  let c0_i32 : BitVec 32 := 0#32
  let v1 : BitVec 32 := Scalar.maxsi v0 c0_i32
  let c3_i32 : BitVec 32 := 3#32
  let v2 : BitVec 32 := Scalar.muli c3_i32 arg0
  let c2_i32 : BitVec 32 := 2#32
  let v3 : BitVec 32 := Scalar.addi v2 c2_i32
  let c0_i32_0 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c3_i32 : BitVec 32 := 3#32
  let v1 : BitVec 32 := Scalar.muli c3_i32 arg0
  let c2_i32 : BitVec 32 := 2#32
  let v2 : BitVec 32 := Scalar.addi v1 c2_i32
  let c0_i32 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "alibi" => some ((-(2 * (Real.log 2)) : ℝ) : EReal)
  | "mask" => some ⊥
  | _ => none
-- ==== ReferenceIdeal.lean ====
abbrev S8192x768 : Shape := ⟨2, ![8192, 768]⟩
abbrev S8192x256 : Shape := ⟨2, ![8192, 256]⟩
abbrev S8192x128 : Shape := ⟨2, ![8192, 128]⟩
abbrev S4 : Shape := ⟨1, ![4]⟩
abbrev S8192x4x64 : Shape := ⟨3, ![8192, 4, 64]⟩
abbrev S8192x4 : Shape := ⟨2, ![8192, 4]⟩
abbrev S2048x4x4x64 : Shape := ⟨4, ![2048, 4, 4, 64]⟩
abbrev S4x2048x4x64 : Shape := ⟨4, ![4, 2048, 4, 64]⟩
abbrev S4x16x128x4x64 : Shape := ⟨5, ![4, 16, 128, 4, 64]⟩
abbrev S4x1x128x4x64 : Shape := ⟨5, ![4, 1, 128, 4, 64]⟩
abbrev S_ : Shape := ⟨0, ![]⟩
abbrev S4x15x128x4x64 : Shape := ⟨5, ![4, 15, 128, 4, 64]⟩
abbrev S4x16x256x4x64 : Shape := ⟨5, ![4, 16, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S4x1x1 : Shape := ⟨3, ![4, 1, 1]⟩
abbrev S4x128x256 : Shape := ⟨3, ![4, 128, 256]⟩
abbrev S4x16x4x128x256 : Shape := ⟨5, ![4, 16, 4, 128, 256]⟩
abbrev S1x1x4x128x256 : Shape := ⟨5, ![1, 1, 4, 128, 256]⟩
abbrev S16x1x128x256 : Shape := ⟨4, ![16, 1, 128, 256]⟩
abbrev S4x16x4x128 : Shape := ⟨4, ![4, 16, 4, 128]⟩
abbrev S4x16x4x128x1 : Shape := ⟨5, ![4, 16, 4, 128, 1]⟩
abbrev S4x16x4x64x128 : Shape := ⟨5, ![4, 16, 4, 64, 128]⟩
abbrev S4x16x128x4 : Shape := ⟨4, ![4, 16, 128, 4]⟩
abbrev S4x16x128x4x1 : Shape := ⟨5, ![4, 16, 128, 4, 1]⟩
abbrev S4x2048x4 : Shape := ⟨3, ![4, 2048, 4]⟩
abbrev S2048x4x4 : Shape := ⟨3, ![2048, 4, 4]⟩
abbrev S4x16x4x64x256 : Shape := ⟨5, ![4, 16, 4, 64, 256]⟩
abbrev S4x16x4x256x64 : Shape := ⟨5, ![4, 16, 4, 256, 64]⟩
abbrev S4x16x4x128x64 : Shape := ⟨5, ![4, 16, 4, 128, 64]⟩
abbrev S2048x1024 : Shape := ⟨2, ![2048, 1024]⟩

abbrev nBuf : Space → Nat
  | .hbm => 218
  | .vmem => 0
  | .smem => 0
  | _ => 0

abbrev hbmTy0_0 (i : Nat) : BufTy := match i % 128 with
  | 0 => ⟨S8192x768, .bf16⟩
  | 1 => ⟨S8192x256, .f32⟩
  | 2 => ⟨S8192x128, .f32⟩
  | 3 => ⟨S8192x256, .f32⟩
  | 4 => ⟨S8192x256, .f32⟩
  | 5 => ⟨S8192x256, .f32⟩
  | 6 => ⟨S4, .f32⟩
  | 7 => ⟨S8192x256, .bf16⟩
  | 8 => ⟨S8192x256, .bf16⟩
  | 9 => ⟨S8192x256, .bf16⟩
  | 10 => ⟨S8192x256, .f32⟩
  | 11 => ⟨S8192x4x64, .f32⟩
  | 12 => ⟨S8192x256, .f32⟩
  | 13 => ⟨S8192x4x64, .f32⟩
  | 14 => ⟨S8192x256, .f32⟩
  | 15 => ⟨S8192x4x64, .f32⟩
  | 16 => ⟨S8192x4x64, .f32⟩
  | 17 => ⟨S8192x4, .f32⟩
  | 18 => ⟨S2048x4x4x64, .f32⟩
  | 19 => ⟨S4x2048x4x64, .f32⟩
  | 20 => ⟨S4x16x128x4x64, .f32⟩
  | 21 => ⟨S2048x4x4x64, .f32⟩
  | 22 => ⟨S4x2048x4x64, .f32⟩
  | 23 => ⟨S4x16x128x4x64, .f32⟩
  | 24 => ⟨S4x1x128x4x64, .f32⟩
  | 25 => ⟨S_, .f32⟩
  | 26 => ⟨S4x1x128x4x64, .f32⟩
  | 27 => ⟨S4x15x128x4x64, .f32⟩
  | 28 => ⟨S4x16x128x4x64, .f32⟩
  | 29 => ⟨S_, .f32⟩
  | 30 => ⟨S4x1x128x4x64, .f32⟩
  | 31 => ⟨S4x16x256x4x64, .f32⟩
  | 32 => ⟨S2048x4x4x64, .f32⟩
  | 33 => ⟨S4x2048x4x64, .f32⟩
  | 34 => ⟨S4x16x128x4x64, .f32⟩
  | 35 => ⟨S4x1x128x4x64, .f32⟩
  | 36 => ⟨S_, .f32⟩
  | 37 => ⟨S4x1x128x4x64, .f32⟩
  | 38 => ⟨S4x15x128x4x64, .f32⟩
  | 39 => ⟨S4x16x128x4x64, .f32⟩
  | 40 => ⟨S_, .f32⟩
  | 41 => ⟨S4x1x128x4x64, .f32⟩
  | 42 => ⟨S4x16x256x4x64, .f32⟩
  | 43 => ⟨S128, .i32⟩
  | 44 => ⟨S128x1, .i32⟩
  | 45 => ⟨S256, .i32⟩
  | 46 => ⟨S1x256, .i32⟩
  | 47 => ⟨S_, .i32⟩
  | 48 => ⟨S128x1, .i32⟩
  | 49 => ⟨S128x1, .i32⟩
  | 50 => ⟨S128x256, .i32⟩
  | 51 => ⟨S128x256, .i32⟩
  | 52 => ⟨S128x256, .i32⟩
  | 53 => ⟨S16, .i32⟩
  | 54 => ⟨S_, .i32⟩
  | 55 => ⟨S16, .i32⟩
  | 56 => ⟨S16, .i1⟩
  | 57 => ⟨S16x1x1, .i1⟩
  | 58 => ⟨S_, .i32⟩
  | 59 => ⟨S1x256, .i32⟩
  | 60 => ⟨S1x256, .i1⟩
  | 61 => ⟨S1x1x256, .i1⟩
  | 62 => ⟨S16x1x256, .i1⟩
  | 63 => ⟨S16x1x256, .i1⟩
  | 64 => ⟨S16x1x256, .i1⟩
  | 65 => ⟨S_, .i32⟩
  | 66 => ⟨S128x256, .i32⟩
  | 67 => ⟨S128x256, .i1⟩
  | 68 => ⟨S_, .i32⟩
  | 69 => ⟨S128x256, .i32⟩
  | 70 => ⟨S128x256, .i1⟩
  | 71 => ⟨S128x256, .i1⟩
  | 72 => ⟨S1x128x256, .i1⟩
  | 73 => ⟨S16x1x256, .i1⟩
  | 74 => ⟨S16x128x256, .i1⟩
  | 75 => ⟨S16x128x256, .i1⟩
  | 76 => ⟨S16x128x256, .i1⟩
  | 77 => ⟨S4x1x1, .f32⟩
  | 78 => ⟨S4x1x1, .f32⟩
  | 79 => ⟨S_, .i32⟩
  | 80 => ⟨S128x256, .i32⟩
  | 81 => ⟨S128x256, .i32⟩
  | 82 => ⟨S128x256, .f32⟩
  | 83 => ⟨S1x128x256, .f32⟩
  | 84 => ⟨S4x128x256, .f32⟩
  | 85 => ⟨S4x128x256, .f32⟩
  | 86 => ⟨S4x128x256, .f32⟩
  | 87 => ⟨S4x16x4x128x256, .f32⟩
  | 88 => ⟨S_, .f32⟩
  | 89 => ⟨S4x16x4x128x256, .f32⟩
  | 90 => ⟨S4x16x4x128x256, .f32⟩
  | 91 => ⟨S1x1x4x128x256, .f32⟩
  | 92 => ⟨S4x16x4x128x256, .f32⟩
  | 93 => ⟨S4x16x4x128x256, .f32⟩
  | 94 => ⟨S16x1x128x256, .i1⟩
  | 95 => ⟨S_, .f32⟩
  | 96 => ⟨S_, .f32⟩
  | 97 => ⟨S4x16x4x128x256, .i1⟩
  | 98 => ⟨S4x16x4x128x256, .f32⟩
  | 99 => ⟨S4x16x4x128x256, .f32⟩
  | 100 => ⟨S_, .f32⟩
  | 101 => ⟨S4x16x4x128x256, .f32⟩
  | 102 => ⟨S_, .f32⟩
  | 103 => ⟨S4x16x4x128, .f32⟩
  | 104 => ⟨S4x16x4x128x1, .f32⟩
  | 105 => ⟨S4x16x4x128x256, .f32⟩
  | 106 => ⟨S4x16x4x128x256, .i1⟩
  | 107 => ⟨S4x16x4x128x256, .f32⟩
  | 108 => ⟨S_, .f32⟩
  | 109 => ⟨S4x16x4x128, .f32⟩
  | 110 => ⟨S4x16x4x128x1, .f32⟩
  | 111 => ⟨S4x16x4x128x256, .f32⟩
  | 112 => ⟨S4x16x4x128x256, .f32⟩
  | 113 => ⟨S4x16x4x128x256, .f32⟩
  | 114 => ⟨S_, .f32⟩
  | 115 => ⟨S4x16x4x128, .f32⟩
  | 116 => ⟨S4x16x4x64x128, .f32⟩
  | 117 => ⟨S4x16x128x4x64, .f32⟩
  | 118 => ⟨S4x16x128x4, .f32⟩
  | 119 => ⟨S4x16x128x4x1, .f32⟩
  | 120 => ⟨S4x16x128x4x64, .f32⟩
  | 121 => ⟨S4x16x128x4x64, .f32⟩
  | 122 => ⟨S4x16x128x4x1, .f32⟩
  | 123 => ⟨S_, .f32⟩
  | 124 => ⟨S4x16x128x4x1, .f32⟩
  | 125 => ⟨S4x16x128x4x1, .f32⟩
  | 126 => ⟨S4x16x4x128, .f32⟩
  | 127 => ⟨S4x16x4x128, .f32⟩
  | _ => ⟨S8192x768, .bf16⟩

abbrev hbmTy0_1 (i : Nat) : BufTy := match i % 128 with
  | 0 => ⟨S4x16x4x128, .f32⟩
  | 1 => ⟨S4x16x128x4, .f32⟩
  | 2 => ⟨S4x2048x4x64, .f32⟩
  | 3 => ⟨S2048x4x4x64, .f32⟩
  | 4 => ⟨S8192x4x64, .f32⟩
  | 5 => ⟨S4x2048x4, .f32⟩
  | 6 => ⟨S2048x4x4, .f32⟩
  | 7 => ⟨S8192x4, .f32⟩
  | 8 => ⟨S2048x4x4, .f32⟩
  | 9 => ⟨S4x2048x4, .f32⟩
  | 10 => ⟨S4x16x128x4, .f32⟩
  | 11 => ⟨S2048x4x4x64, .f32⟩
  | 12 => ⟨S4x2048x4x64, .f32⟩
  | 13 => ⟨S4x16x128x4x64, .f32⟩
  | 14 => ⟨S4x16x4x128, .f32⟩
  | 15 => ⟨S4x16x4x128, .f32⟩
  | 16 => ⟨S4x16x4x128x1, .f32⟩
  | 17 => ⟨S4x16x128x4x64, .f32⟩
  | 18 => ⟨S4x16x128x4x64, .f32⟩
  | 19 => ⟨S4x16x128x4x64, .f32⟩
  | 20 => ⟨S_, .f32⟩
  | 21 => ⟨S4x16x128x4, .f32⟩
  | 22 => ⟨S4x16x128x4x1, .f32⟩
  | 23 => ⟨S4x16x128x4x1, .f32⟩
  | 24 => ⟨S4x16x128x4x64, .f32⟩
  | 25 => ⟨S4x16x128x4x64, .f32⟩
  | 26 => ⟨S_, .f32⟩
  | 27 => ⟨S4x16x128x4, .f32⟩
  | 28 => ⟨S4x16x4x128, .f32⟩
  | 29 => ⟨S4x16x4x128, .f32⟩
  | 30 => ⟨S4x16x4x64x128, .f32⟩
  | 31 => ⟨S4x16x4x128x256, .f32⟩
  | 32 => ⟨S4x16x4x64x256, .f32⟩
  | 33 => ⟨S4x16x256x4x64, .f32⟩
  | 34 => ⟨S4x16x4x128x256, .f32⟩
  | 35 => ⟨S4x16x4x128x256, .f32⟩
  | 36 => ⟨S4x16x4x128x256, .f32⟩
  | 37 => ⟨S4x16x4x128x256, .f32⟩
  | 38 => ⟨S_, .f32⟩
  | 39 => ⟨S4x16x4x128, .f32⟩
  | 40 => ⟨S4x16x4x128x1, .f32⟩
  | 41 => ⟨S4x16x4x128x1, .f32⟩
  | 42 => ⟨S_, .f32⟩
  | 43 => ⟨S4x16x4x128, .f32⟩
  | 44 => ⟨S4x16x4x128, .f32⟩
  | 45 => ⟨S4x16x4x128x256, .f32⟩
  | 46 => ⟨S4x16x4x128x256, .f32⟩
  | 47 => ⟨S4x16x4x128x256, .f32⟩
  | 48 => ⟨S_, .f32⟩
  | 49 => ⟨S4x16x4x128x256, .f32⟩
  | 50 => ⟨S4x16x4x128x256, .f32⟩
  | 51 => ⟨S_, .f32⟩
  | 52 => ⟨S4x16x4x128x256, .f32⟩
  | 53 => ⟨S4x16x4x128x256, .f32⟩
  | 54 => ⟨S4x16x4x256x64, .f32⟩
  | 55 => ⟨S4x16x256x4x64, .f32⟩
  | 56 => ⟨S4x16x4x128x64, .f32⟩
  | 57 => ⟨S4x16x128x4x64, .f32⟩
  | 58 => ⟨S4x16x128x4x64, .f32⟩
  | 59 => ⟨S4x16x128x4x64, .f32⟩
  | 60 => ⟨S4x1x128x4x64, .f32⟩
  | 61 => ⟨S4x15x128x4x64, .f32⟩
  | 62 => ⟨S_, .f32⟩
  | 63 => ⟨S4x16x128x4x64, .f32⟩
  | 64 => ⟨S4x16x128x4x64, .f32⟩
  | 65 => ⟨S4x2048x4x64, .f32⟩
  | 66 => ⟨S2048x4x4x64, .f32⟩
  | 67 => ⟨S8192x4x64, .f32⟩
  | 68 => ⟨S4x16x128x4x64, .f32⟩
  | 69 => ⟨S4x16x128x4x64, .f32⟩
  | 70 => ⟨S4x1x128x4x64, .f32⟩
  | 71 => ⟨S4x15x128x4x64, .f32⟩
  | 72 => ⟨S_, .f32⟩
  | 73 => ⟨S4x16x128x4x64, .f32⟩
  | 74 => ⟨S4x16x128x4x64, .f32⟩
  | 75 => ⟨S4x2048x4x64, .f32⟩
  | 76 => ⟨S2048x4x4x64, .f32⟩
  | 77 => ⟨S8192x4x64, .f32⟩
  | 78 => ⟨S4x2048x4x64, .f32⟩
  | 79 => ⟨S2048x4x4x64, .f32⟩
  | 80 => ⟨S8192x4x64, .f32⟩
  | 81 => ⟨S8192x256, .f32⟩
  | 82 => ⟨S8192x256, .f32⟩
  | 83 => ⟨S2048x1024, .f32⟩
  | 84 => ⟨S8192x256, .f32⟩
  | 85 => ⟨S8192x256, .f32⟩
  | 86 => ⟨S2048x1024, .f32⟩
  | 87 => ⟨S8192x256, .f32⟩
  | 88 => ⟨S8192x256, .f32⟩
  | 89 => ⟨S2048x1024, .f32⟩
  | _ => ⟨S8192x768, .bf16⟩

abbrev hbmTy (i : Nat) : BufTy := match i / 128 with
  | 0 => hbmTy0_0 i
  | 1 => hbmTy0_1 i
  | _ => ⟨S8192x768, .bf16⟩

abbrev bufTy : (tb : Table) → Fin (tcTables nBuf tb) → BufTy
  | .hbm, ⟨i, _⟩ => hbmTy i
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_6 : Ref sig .tc := ⟨.hbm, 65, rfl⟩
abbrev main_v51 : Ref sig .tc := ⟨.hbm, 66, rfl⟩
abbrev main_v52 : Ref sig .tc := ⟨.hbm, 67, rfl⟩
abbrev main_c_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c_8 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_9 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_10 : Ref sig .tc := ⟨.hbm, 95, rfl⟩
abbrev main_call0_v0 : Ref sig .tc := ⟨.hbm, 96, rfl⟩
abbrev main_v77_1 : Ref sig .tc := ⟨.hbm, 97, rfl⟩
abbrev main_call0_v2 : Ref sig .tc := ⟨.hbm, 98, rfl⟩
abbrev main_v77_0 : Ref sig .tc := ⟨.hbm, 99, rfl⟩
abbrev main_call0_cst : Ref sig .tc := ⟨.hbm, 100, rfl⟩
abbrev main_v77_2 : Ref sig .tc := ⟨.hbm, 101, rfl⟩
abbrev main_cst_11 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_12 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_13 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_14 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_15 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_16 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_cst_17 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_cst_18 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_call1_cst : Ref sig .tc := ⟨.hbm, 176, rfl⟩
abbrev main_call1_v0 : Ref sig .tc := ⟨.hbm, 177, rfl⟩
abbrev main_v144 : Ref sig .tc := ⟨.hbm, 178, rfl⟩
abbrev main_cst_19 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_cst_20 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_cst_21 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩

abbrev nD : Nat := 1
abbrev τ : Topo := Topo.v7x

variable {F : FTy → Type} [FloatOps F]
-- ==== FfnKernel.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S8192x5632 : Shape := ⟨2, ![8192, 5632]⟩
abbrev S1024x1024 : Shape := ⟨2, ![1024, 1024]⟩
abbrev S1024x1408 : Shape := ⟨2, ![1024, 1408]⟩
abbrev S8192x2816 : Shape := ⟨2, ![8192, 2816]⟩
abbrev S1408x1024 : Shape := ⟨2, ![1408, 1024]⟩
abbrev S512x1408 : Shape := ⟨2, ![512, 1408]⟩
abbrev S1024x2816 : Shape := ⟨2, ![1024, 2816]⟩
abbrev S1024 : Shape := ⟨1, ![1024]⟩

abbrev nBuf : Space → Nat
  | .hbm => 13
  | .vmem => 45
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S8192x1024, .f32⟩
  | .hbm, ⟨5, _⟩ => ⟨S8192x1024, .bf16⟩
  | .hbm, ⟨6, _⟩ => ⟨S8192x5632, .bf16⟩
  | .hbm, ⟨7, _⟩ => ⟨S8192x2816, .bf16⟩
  | .hbm, ⟨8, _⟩ => ⟨S8192x2816, .bf16⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S512x1024, .f32⟩
  | .local _ .vmem, ⟨12, _⟩ => ⟨S512x1024, .f32⟩
  | .local _ .vmem, ⟨13, _⟩ => ⟨S1408x1024, .bf16⟩
  | .local _ .vmem, ⟨14, _⟩ => ⟨S1408x1024, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S1024x2816, .bf16⟩
  | .local _ .vmem, ⟨24, _⟩ => ⟨S1024x2816, .bf16⟩
  | .local _ .vmem, ⟨25, _⟩ => ⟨S1024x2816, .bf16⟩
  | .local _ .vmem, ⟨26, _⟩ => ⟨S1024x1024, .f32⟩
  | .local _ .vmem, ⟨27, _⟩ => ⟨S1024x1024, .f32⟩
  | .local _ .vmem, ⟨28, _⟩ => ⟨S1024x2816, .bf16⟩
  | .local _ .vmem, ⟨29, _⟩ => ⟨S1024x2816, .bf16⟩
  | .local _ .vmem, ⟨30, _⟩ => ⟨S1024x2816, .bf16⟩
  | .local _ .vmem, ⟨31, _⟩ => ⟨S1024x1024, .f32⟩
  | .local _ .vmem, ⟨32, _⟩ => ⟨S1024x1024, .f32⟩
  | .local _ .vmem, ⟨33, _⟩ => ⟨S1024x1024, .f32⟩
  | .local _ .vmem, ⟨34, _⟩ => ⟨S1024x1024, .f32⟩
  | .local _ .vmem, ⟨35, _⟩ => ⟨S512x1024, .f32⟩
  | .local _ .vmem, ⟨36, _⟩ => ⟨S512x1024, .f32⟩
  | .local _ .vmem, ⟨37, _⟩ => ⟨S1x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S512x1024, .f32⟩
  | .local _ .vmem, ⟨43, _⟩ => ⟨S512x1024, .f32⟩
  | .local _ .vmem, ⟨44, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc5_stg4_0 : Ref sig .tc := ⟨.vmem, 42, rfl⟩
abbrev cc5_stg4_1 : Ref sig .tc := ⟨.vmem, 43, rfl⟩
abbrev cc5_stg5_0 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39
abbrev cc5_sem3_0 : DmaSem sig := 40
abbrev cc5_sem3_1 : DmaSem sig := 41
abbrev cc5_sem4_0 : DmaSem sig := 42
abbrev cc5_sem4_1 : DmaSem sig := 43
abbrev cc5_sem5_0 : DmaSem sig := 44

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![16, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1408x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x1408 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x1408 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage3_0 : Fin 2 → Memref sig .tc .vmem S1024x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x2816 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![8, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg1.toNat, v0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage4_0 : Fin 2 → Memref sig .tc .vmem S1024x2816 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x2816 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S512x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]
-- ==== FfnReferenceIdeal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S8192x1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x5632, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x5632, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v22_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v22_1 : Ref sig .tc := ⟨.hbm, 42, rfl⟩
abbrev main_v22_0 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_8 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]
-- ==== DownKernel.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 28
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x1024, .f32⟩
  | .hbm, ⟨24, _⟩ => ⟨S1024x5632, .f32⟩
  | .hbm, ⟨25, _⟩ => ⟨S8192x5632, .f32⟩
  | .hbm, ⟨26, _⟩ => ⟨S8192x5632, .bf16⟩
  | .hbm, ⟨27, _⟩ => ⟨S2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1024, .f32⟩
  | .local _ .vmem, ⟨5, _⟩ => ⟨S512x1024, .f32⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32_11 : BitVec 32 := 15#32
  let v24 : BitVec 1 := Scalar.cmpi .eq arg2 c15_i32_11
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024x2816 : Shape := ⟨2, ![1024, 2816]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S8192x1024, .f32⟩
  | .hbm, ⟨5, _⟩ => ⟨S1024x5632, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S2816x1024, .f32⟩
  | .hbm, ⟨24, _⟩ => ⟨S8192x5632, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S1024x2816, .f32⟩
  | .hbm, ⟨46, _⟩ => ⟨S2816x1024, .f32⟩
  | .hbm, ⟨47, _⟩ => ⟨S2816x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== GateKernel.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 62
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x1024, .f32⟩
  | .hbm, ⟨24, _⟩ => ⟨S1024x5632, .f32⟩
  | .hbm, ⟨25, _⟩ => ⟨S8192x5632, .f32⟩
  | .hbm, ⟨26, _⟩ => ⟨S8192x5632, .bf16⟩
  | .hbm, ⟨27, _⟩ => ⟨S8192x5632, .f32⟩
  | .hbm, ⟨28, _⟩ => ⟨S8192x2816, .f32⟩
  | .hbm, ⟨29, _⟩ => ⟨S8192x2816, .f32⟩
  | .hbm, ⟨30, _⟩ => ⟨S2816x1024, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .bf16⟩
  | .hbm, ⟨60, _⟩ => ⟨S8192x2816, .bf16⟩
  | .hbm, ⟨61, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v23_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v23_1 : Ref sig .tc := ⟨.hbm, 42, rfl⟩
abbrev main_v23_0 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateReferenceIdeal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S5632x1024 : Shape := ⟨2, ![5632, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S8192x1024, .f32⟩
  | .hbm, ⟨5, _⟩ => ⟨S2816x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1024x5632, .f32⟩
  | .hbm, ⟨24, _⟩ => ⟨S8192x5632, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x5632, .f32⟩
  | .hbm, ⟨57, _⟩ => ⟨S5632x1024, .f32⟩
  | .hbm, ⟨58, _⟩ => ⟨S1024x5632, .f32⟩
  | .hbm, ⟨59, _⟩ => ⟨S1024x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩

abbrev nD : Nat := 1
abbrev τ : Topo := Topo.v7x

variable {F : FTy → Type} [FloatOps F]
-- ==== UpKernel.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 63
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S8192x1024, .f32⟩
  | .hbm, ⟨5, _⟩ => ⟨S1024x5632, .bf16⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x1024, .f32⟩
  | .hbm, ⟨25, _⟩ => ⟨S1024x5632, .f32⟩
  | .hbm, ⟨26, _⟩ => ⟨S8192x5632, .f32⟩
  | .hbm, ⟨27, _⟩ => ⟨S8192x5632, .bf16⟩
  | .hbm, ⟨28, _⟩ => ⟨S8192x5632, .f32⟩
  | .hbm, ⟨29, _⟩ => ⟨S8192x2816, .f32⟩
  | .hbm, ⟨30, _⟩ => ⟨S8192x2816, .f32⟩
  | .hbm, ⟨31, _⟩ => ⟨S2816x1024, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .bf16⟩
  | .hbm, ⟨61, _⟩ => ⟨S8192x2816, .bf16⟩
  | .hbm, ⟨62, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v23_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v23_1 : Ref sig .tc := ⟨.hbm, 43, rfl⟩
abbrev main_v23_0 : Ref sig .tc := ⟨.hbm, 44, rfl⟩
abbrev main_v24 : Ref sig .tc := ⟨.hbm, 45, rfl⟩
abbrev main_v25 : Ref sig .tc := ⟨.hbm, 46, rfl⟩
abbrev main_cst_2 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S5632x1024 : Shape := ⟨2, ![5632, 1024]⟩
abbrev S1024x2816 : Shape := ⟨2, ![1024, 2816]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S8192x1024, .f32⟩
  | .hbm, ⟨5, _⟩ => ⟨S1024x5632, .bf16⟩
  | .hbm, ⟨6, _⟩ => ⟨S2816x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1024x5632, .f32⟩
  | .hbm, ⟨25, _⟩ => ⟨S8192x5632, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x5632, .f32⟩
  | .hbm, ⟨58, _⟩ => ⟨S5632x1024, .f32⟩
  | .hbm, ⟨59, _⟩ => ⟨S1024x5632, .f32⟩
  | .hbm, ⟨60, _⟩ => ⟨S1024x5632, .bf16⟩
  | .hbm, ⟨61, _⟩ => ⟨S1024x2816, .bf16⟩
  | .hbm, ⟨62, _⟩ => ⟨S1024x2816, .bf16⟩
  | .hbm, ⟨63, _⟩ => ⟨S1024x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩

abbrev nD : Nat := 1
abbrev τ : Topo := Topo.v7x

variable {F : FTy → Type} [FloatOps F]
-- ==== XattnKernel.lean ====
abbrev S8192x1024 : Shape := ⟨2, ![8192, 1024]⟩
abbrev S256x1024 : Shape := ⟨2, ![256, 1024]⟩
abbrev S1x1024 : Shape := ⟨2, ![1, 1024]⟩
abbrev S1024x1024 : Shape := ⟨2, ![1024, 1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩
abbrev S256 : Shape := ⟨1, ![256]⟩
abbrev S256x1 : Shape := ⟨2, ![256, 1]⟩
abbrev S256x2048 : Shape := ⟨2, ![256, 2048]⟩
abbrev S256x256 : Shape := ⟨2, ![256, 256]⟩

abbrev nBuf : Space → Nat
  | .hbm => 13
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1x1024, .f32⟩
  | .hbm, ⟨3, _⟩ => ⟨S1x1024, .f32⟩
  | .hbm, ⟨4, _⟩ => ⟨S1024x1024, .bf16⟩
  | .hbm, ⟨5, _⟩ => ⟨S1024x2048, .bf16⟩
  | .hbm, ⟨6, _⟩ => ⟨S1024x1024, .bf16⟩
  | .hbm, ⟨7, _⟩ => ⟨S8192x1024, .bf16⟩
  | .hbm, ⟨8, _⟩ => ⟨S256x1024, .bf16⟩
  | .hbm, ⟨9, _⟩ => ⟨S8192x1024, .bf16⟩
  | .hbm, ⟨10, _⟩ => ⟨S256x2048, .bf16⟩
  | .hbm, ⟨11, _⟩ => ⟨S8192x1024, .bf16⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S256x1024, .bf16⟩
  | .local _ .vmem, ⟨14, _⟩ => ⟨S1024x1024, .bf16⟩
  | .local _ .vmem, ⟨15, _⟩ => ⟨S1024x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x2048, .bf16⟩
  | .local _ .vmem, ⟨21, _⟩ => ⟨S256x1024, .bf16⟩
  | .local _ .vmem, ⟨22, _⟩ => ⟨S256x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg2_1 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg2_0 : Ref sig .tc := ⟨.vmem, 26, rfl⟩
abbrev cc5_stg2_1 : Ref sig .tc := ⟨.vmem, 27, rfl⟩
abbrev cc5_stg3_0 : Ref sig .tc := ⟨.vmem, 28, rfl⟩
abbrev cc5_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc3_sem0_0 : DmaSem sig := 13
abbrev cc3_sem1_0 : DmaSem sig := 14
abbrev cc3_sem1_1 : DmaSem sig := 15
abbrev cc3_sem2_0 : DmaSem sig := 16
abbrev cc3_sem2_1 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22
abbrev cc5_sem0_0 : DmaSem sig := 23
abbrev cc5_sem0_1 : DmaSem sig := 24
abbrev cc5_sem1_0 : DmaSem sig := 25
abbrev cc5_sem2_0 : DmaSem sig := 26
abbrev cc5_sem2_1 : DmaSem sig := 27
abbrev cc5_sem3_0 : DmaSem sig := 28
abbrev cc5_sem3_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage3_0 : Fin 1 → Memref sig .tc .vmem S256x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S256x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨3, ![8, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S1024x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]
-- ==== XattnReferenceIdeal.lean ====
abbrev S8192x1024 : Shape := ⟨2, ![8192, 1024]⟩
abbrev S256x1024 : Shape := ⟨2, ![256, 1024]⟩
abbrev S1x1024 : Shape := ⟨2, ![1, 1024]⟩
abbrev S1024x1024 : Shape := ⟨2, ![1024, 1024]⟩
abbrev S1024x2048 : Shape := ⟨2, ![1024, 2048]⟩
abbrev S1024 : Shape := ⟨1, ![1024]⟩
abbrev S_ : Shape := ⟨0, ![]⟩
abbrev S8192 : Shape := ⟨1, ![8192]⟩
abbrev S8192x1 : Shape := ⟨2, ![8192, 1]⟩
abbrev S256 : Shape := ⟨1, ![256]⟩
abbrev S256x1 : Shape := ⟨2, ![256, 1]⟩
abbrev S8192x4x256 : Shape := ⟨3, ![8192, 4, 256]⟩
abbrev S256x2048 : Shape := ⟨2, ![256, 2048]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1x1024, .f32⟩
  | .hbm, ⟨3, _⟩ => ⟨S1x1024, .f32⟩
  | .hbm, ⟨4, _⟩ => ⟨S1024x1024, .bf16⟩
  | .hbm, ⟨5, _⟩ => ⟨S1024x2048, .bf16⟩
  | .hbm, ⟨6, _⟩ => ⟨S1024x1024, .bf16⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1024, .f32⟩
  | .hbm, ⟨25, _⟩ => ⟨S256x1024, .f32⟩
  | .hbm, ⟨26, _⟩ => ⟨S_, .f32⟩
  | .hbm, ⟨27, _⟩ => ⟨S256, .f32⟩
  | .hbm, ⟨28, _⟩ => ⟨S256x1, .f32⟩
  | .hbm, ⟨29, _⟩ => ⟨S_, .f32⟩
  | .hbm, ⟨30, _⟩ => ⟨S256x1, .f32⟩
  | .hbm, ⟨31, _⟩ => ⟨S256x1, .f32⟩
  | .hbm, ⟨32, _⟩ => ⟨S_, .f32⟩
  | .hbm, ⟨33, _⟩ => ⟨S256x1, .f32⟩
  | .hbm, ⟨34, _⟩ => ⟨S256x1, .f32⟩
  | .hbm, ⟨35, _⟩ => ⟨S256x1, .f32⟩
  | .hbm, ⟨36, _⟩ => ⟨S256x1024, .f32⟩
  | .hbm, ⟨37, _⟩ => ⟨S256x1024, .f32⟩
  | .hbm, ⟨38, _⟩ => ⟨S1x1024, .f32⟩
  | .hbm, ⟨39, _⟩ => ⟨S256x1024, .f32⟩
  | .hbm, ⟨40, _⟩ => ⟨S256x1024, .f32⟩
  | .hbm, ⟨41, _⟩ => ⟨S1024x1024, .f32⟩
  | .hbm, ⟨42, _⟩ => ⟨S1024x2048, .f32⟩
  | .hbm, ⟨43, _⟩ => ⟨S1024x1024, .f32⟩
  | .hbm, ⟨44, _⟩ => ⟨S8192x1024, .f32⟩
  | .hbm, ⟨45, _⟩ => ⟨S8192x4x256, .f32⟩
  | .hbm, ⟨46, _⟩ => ⟨S256x2048, .f32⟩
  | .hbm, ⟨47, _⟩ => ⟨S256x1024, .f32⟩
  | .hbm, ⟨48, _⟩ => ⟨S256x1024, .f32⟩
  | .hbm, ⟨49, _⟩ => ⟨S256x4x256, .f32⟩
  | .hbm, ⟨50, _⟩ => ⟨S256x4x256, .f32⟩
  | .hbm, ⟨51, _⟩ => ⟨S4x8192x256, .f32⟩
  | .hbm, ⟨52, _⟩ => ⟨S_, .f32⟩
  | .hbm, ⟨53, _⟩ => ⟨S4x8192x256, .f32⟩
  | .hbm, ⟨54, _⟩ => ⟨S4x8192x256, .f32⟩
  | .hbm, ⟨55, _⟩ => ⟨S_, .f32⟩
  | .hbm, ⟨56, _⟩ => ⟨S4x8192, .f32⟩
  | .hbm, ⟨57, _⟩ => ⟨S_, .f32⟩
  | .hbm, ⟨58, _⟩ => ⟨S4x8192, .f32⟩
  | .hbm, ⟨59, _⟩ => ⟨S4x8192, .f32⟩
  | .hbm, ⟨60, _⟩ => ⟨S4x8192x1, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x256, .f32⟩
  | .hbm, ⟨68, _⟩ => ⟨S4x8192x256, .f32⟩
  | .hbm, ⟨69, _⟩ => ⟨S4x256x8192, .f32⟩
  | .hbm, ⟨70, _⟩ => ⟨S8192x4x256, .f32⟩
  | .hbm, ⟨71, _⟩ => ⟨S8192x1024, .f32⟩
  | .hbm, ⟨72, _⟩ => ⟨S8192x1024, .f32⟩
  | .hbm, ⟨73, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== GmlpKernel.lean ====
abbrev S8192x512 : Shape := ⟨2, ![8192, 512]⟩
abbrev S1x256 : Shape := ⟨2, ![1, 256]⟩
abbrev S4x128x128 : Shape := ⟨3, ![4, 128, 128]⟩
abbrev S4x128 : Shape := ⟨2, ![4, 128]⟩
abbrev S8192x256 : Shape := ⟨2, ![8192, 256]⟩
abbrev S_ : Shape := ⟨0, ![]⟩
abbrev S8x128 : Shape := ⟨2, ![8, 128]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S128x128 : Shape := ⟨2, ![128, 128]⟩
abbrev S8x256 : Shape := ⟨2, ![8, 256]⟩
abbrev S128x256 : Shape := ⟨2, ![128, 256]⟩
abbrev S1x128x128 : Shape := ⟨3, ![1, 128, 128]⟩
abbrev S128x64 : Shape := ⟨2, ![128, 64]⟩
abbrev S128x192 : Shape := ⟨2, ![128, 192]⟩
abbrev S3x128x128 : Shape := ⟨3, ![3, 128, 128]⟩
abbrev S2x128x128 : Shape := ⟨3, ![2, 128, 128]⟩
abbrev S128x8 : Shape := ⟨2, ![128, 8]⟩

abbrev nBuf : Space → Nat
  | .hbm => 14
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S1x256, .f32⟩
  | .hbm, ⟨2, _⟩ => ⟨S1x256, .f32⟩
  | .hbm, ⟨3, _⟩ => ⟨S4x128x128, .f32⟩
  | .hbm, ⟨4, _⟩ => ⟨S4x128, .f32⟩
  | .hbm, ⟨5, _⟩ => ⟨S8192x256, .f32⟩
  | .hbm, ⟨6, _⟩ => ⟨S_, .i32⟩
  | .hbm, ⟨7, _⟩ => ⟨S_, .f32⟩
  | .hbm, ⟨8, _⟩ => ⟨S8x128, .f32⟩
  | .hbm, ⟨9, _⟩ => ⟨S8192x512, .bf16⟩
  | .hbm, ⟨10, _⟩ => ⟨S1x256, .f32⟩
  | .hbm, ⟨11, _⟩ => ⟨S1x256, .f32⟩
  | .hbm, ⟨12, _⟩ => ⟨S4x128x128, .f32⟩
  | .hbm, ⟨13, _⟩ => ⟨S8x128, .f32⟩
  | .local _ .vmem, ⟨0, _⟩ => ⟨S256x512, .f32⟩
  | .local _ .vmem, ⟨1, _⟩ => ⟨S256x512, .f32⟩
  | .local _ .vmem, ⟨2, _⟩ => ⟨S1x256, .f32⟩
  | .local _ .vmem, ⟨3, _⟩ => ⟨S1x256, .f32⟩
  | .local _ .vmem, ⟨4, _⟩ => ⟨S4x128x128, .f32⟩
  | .local _ .vmem, ⟨5, _⟩ => ⟨S8x128, .f32⟩
  | .local _ .vmem, ⟨6, _⟩ => ⟨S256x256, .f32⟩
  | .local _ .vmem, ⟨7, _⟩ => ⟨S256x256, .f32⟩
  | .local _ .vmem, ⟨8, _⟩ => ⟨S256x512, .bf16⟩
  | .local _ .vmem, ⟨9, _⟩ => ⟨S256x512, .bf16⟩
  | .local _ .vmem, ⟨10, _⟩ => ⟨S1x256, .f32⟩
  | .local _ .vmem, ⟨11, _⟩ => ⟨S1x256, .f32⟩
  | .local _ .vmem, ⟨12, _⟩ => ⟨S4x128x128, .f32⟩
  | .local _ .vmem, ⟨13, _⟩ => ⟨S8x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GmlpReferenceIdeal.lean ====
abbrev S8192x512 : Shape := ⟨2, ![8192, 512]⟩
abbrev S1x256 : Shape := ⟨2, ![1, 256]⟩
abbrev S4x128x128 : Shape := ⟨3, ![4, 128, 128]⟩
abbrev S4x128 : Shape := ⟨2, ![4, 128]⟩
abbrev S8192x256 : Shape := ⟨2, ![8192, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S64x128x4x64 : Shape := ⟨4, ![64, 128, 4, 64]⟩
abbrev S128x128 : Shape := ⟨2, ![128, 128]⟩
abbrev S4x64x64x128 : Shape := ⟨4, ![4, 64, 64, 128]⟩
abbrev S128x4 : Shape := ⟨2, ![128, 4]⟩
abbrev S128x4x1 : Shape := ⟨3, ![128, 4, 1]⟩
abbrev S1x128x4x1 : Shape := ⟨4, ![1, 128, 4, 1]⟩
abbrev S8x128 : Shape := ⟨2, ![8, 128]⟩

abbrev nBuf : Space → Nat
  | .hbm => 184
  | .vmem => 0
  | .smem => 0
  | _ => 0

abbrev hbmTy0_0 (i : Nat) : BufTy := match i % 128 with
  | 0 => ⟨S8192x512, .f32⟩
  | 1 => ⟨S1x256, .f32⟩
  | 2 => ⟨S1x256, .f32⟩
  | 3 => ⟨S4x128x128, .f32⟩
  | 4 => ⟨S4x128, .f32⟩
  | 5 => ⟨S8192x256, .f32⟩
  | 6 => ⟨S256, .f32⟩
  | 7 => ⟨S256, .f32⟩
  | 8 => ⟨S8192x512, .f32⟩
  | 9 => ⟨S8192x512, .f32⟩
  | 10 => ⟨S8192x512, .f32⟩
  | 11 => ⟨S_, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S8192x512, .f32⟩
  | 18 => ⟨S_, .f32⟩
  | 19 => ⟨S8192x512, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S8192x512, .f32⟩
  | 29 => ⟨S_, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S8192x512, .f32⟩
  | 36 => ⟨S8192x256, .f32⟩
  | 37 => ⟨S8192x256, .f32⟩
  | 38 => ⟨S_, .f32⟩
  | 39 => ⟨S8192, .f32⟩
  | 40 => ⟨S8192x1, .f32⟩
  | 41 => ⟨S_, .f32⟩
  | 42 => ⟨S8192x1, .f32⟩
  | 43 => ⟨S8192x1, .f32⟩
  | 44 => ⟨S8192x256, .f32⟩
  | 45 => ⟨S8192x256, .f32⟩
  | 46 => ⟨S8192x256, .f32⟩
  | 47 => ⟨S_, .f32⟩
  | 48 => ⟨S8192x256, .f32⟩
  | 49 => ⟨S8192x256, .f32⟩
  | 50 => ⟨S_, .f32⟩
  | 51 => ⟨S8192, .f32⟩
  | 52 => ⟨S8192x1, .f32⟩
  | 53 => ⟨S_, .f32⟩
  | 54 => ⟨S8192x1, .f32⟩
  | 55 => ⟨S8192x1, .f32⟩
  | 56 => ⟨S8192x256, .f32⟩
  | 57 => ⟨S8192x256, .f32⟩
  | 58 => ⟨S_, .f32⟩
  | 59 => ⟨S8192x1, .f32⟩
  | 60 => ⟨S8192x1, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x256, .f32⟩
  | 67 => ⟨S8192x256, .f32⟩
  | 68 => ⟨S1x256, .f32⟩
  | 69 => ⟨S8192x256, .f32⟩
  | 70 => ⟨S8192x256, .f32⟩
  | 71 => ⟨S1x256, .f32⟩
  | 72 => ⟨S8192x256, .f32⟩
  | 73 => ⟨S8192x256, .f32⟩
  | 74 => ⟨S64x128x4x64, .f32⟩
  | 75 => ⟨S128x128, .i32⟩
  | 76 => ⟨S_, .i32⟩
  | 77 => ⟨S128x128, .i32⟩
  | 78 => ⟨S128x128, .i32⟩
  | 79 => ⟨S128x128, .i32⟩
  | 80 => ⟨S128x128, .i1⟩
  | 81 => ⟨S4x128x128, .i1⟩
  | 82 => ⟨S_, .f32⟩
  | 83 => ⟨S4x128x128, .f32⟩
  | 84 => ⟨S4x128x128, .f32⟩
  | 85 => ⟨S_, .f32⟩
  | 86 => ⟨S4x128x128, .f32⟩
  | 87 => ⟨S4x64x64x128, .f32⟩
  | 88 => ⟨S64x128x4x64, .f32⟩
  | 89 => ⟨S128x4, .f32⟩
  | 90 => ⟨S128x4x1, .f32⟩
  | 91 => ⟨S1x128x4x1, .f32⟩
  | 92 => ⟨S64x128x4x64, .f32⟩
  | 93 => ⟨S64x128x4x64, .f32⟩
  | 94 => ⟨S64x128x4x64, .f32⟩
  | 95 => ⟨S64x128x4x64, .f32⟩
  | 96 => ⟨S8192x256, .f32⟩
  | 97 => ⟨S64x128x4x64, .f32⟩
  | 98 => ⟨S64x128x4x64, .f32⟩
  | 99 => ⟨S64x128x4x64, .f32⟩
  | 100 => ⟨S8192x256, .f32⟩
  | 101 => ⟨S_, .f32⟩
  | 102 => ⟨S128x4, .f32⟩
  | 103 => ⟨S1x128x4x1, .f32⟩
  | 104 => ⟨S_, .f32⟩
  | 105 => ⟨S128x4, .f32⟩
  | 106 => ⟨S128x4x1, .f32⟩
  | 107 => ⟨S_, .f32⟩
  | 108 => ⟨S128x4, .f32⟩
  | 109 => ⟨S4x128, .f32⟩
  | 110 => ⟨S4x64x64x128, .f32⟩
  | 111 => ⟨S4x128x128, .f32⟩
  | 112 => ⟨S4x64x64x128, .f32⟩
  | 113 => ⟨S64x128x4x64, .f32⟩
  | 114 => ⟨S_, .f32⟩
  | 115 => ⟨S4x128x128, .f32⟩
  | 116 => ⟨S4x128x128, .f32⟩
  | 117 => ⟨S8192x256, .f32⟩
  | 118 => ⟨S_, .f32⟩
  | 119 => ⟨S256, .f32⟩
  | 120 => ⟨S1x256, .f32⟩
  | 121 => ⟨S_, .f32⟩
  | 122 => ⟨S256, .f32⟩
  | 123 => ⟨S8192x256, .f32⟩
  | 124 => ⟨S_, .f32⟩
  | 125 => ⟨S256, .f32⟩
  | 126 => ⟨S1x256, .f32⟩
  | 127 => ⟨S8192x256, .f32⟩
  | _ => ⟨S8192x512, .f32⟩

abbrev hbmTy0_1 (i : Nat) : BufTy := match i % 128 with
  | 0 => ⟨S8192x256, .f32⟩
  | 1 => ⟨S_, .f32⟩
  | 2 => ⟨S256, .f32⟩
  | 3 => ⟨S8192x256, .f32⟩
  | 4 => ⟨S_, .f32⟩
  | 5 => ⟨S8192, .f32⟩
  | 6 => ⟨S8192x1, .f32⟩
  | 7 => ⟨S8192x256, .f32⟩
  | 8 => ⟨S8192x256, .f32⟩
  | 9 => ⟨S8192x1, .f32⟩
  | 10 => ⟨S8192x256, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192, .f32⟩
  | 19 => ⟨S8192x256, .f32⟩
  | 20 => ⟨S8192x256, .f32⟩
  | 21 => ⟨S8192x256, .f32⟩
  | 22 => ⟨S_, .f32⟩
  | 23 => ⟨S8192, .f32⟩
  | 24 => ⟨S8192x1, .f32⟩
  | 25 => ⟨S8192x256, .f32⟩
  | 26 => ⟨S8192x1, .f32⟩
  | 27 => ⟨S_, .f32⟩
  | 28 => ⟨S8192x1, .f32⟩
  | 29 => ⟨S8192x1, .f32⟩
  | 30 => ⟨S_, .f32⟩
  | 31 => ⟨S8192, .f32⟩
  | 32 => ⟨S8192x256, .f32⟩
  | 33 => ⟨S8192x256, .f32⟩
  | 34 => ⟨S8192x512, .f32⟩
  | 35 => ⟨S8192x512, .f32⟩
  | 36 => ⟨S8192x512, .f32⟩
  | 37 => ⟨S_, .f32⟩
  | 38 => ⟨S8192x512, .f32⟩
  | 39 => ⟨S8192x512, .f32⟩
  | 40 => ⟨S8192x512, .f32⟩
  | 41 => ⟨S_, .f32⟩
  | 42 => ⟨S8192x512, .f32⟩
  | 43 => ⟨S8192x512, .f32⟩
  | 44 => ⟨S8192x512, .f32⟩
  | 45 => ⟨S_, .f32⟩
  | 46 => ⟨S8192x512, .f32⟩
  | 47 => ⟨S8192x512, .f32⟩
  | 48 => ⟨S8192x512, .f32⟩
  | 49 => ⟨S8192x512, .f32⟩
  | 50 => ⟨S8192x512, .bf16⟩
  | 51 => ⟨S1x256, .f32⟩
  | 52 => ⟨S1x256, .f32⟩
  | 53 => ⟨S_, .i32⟩
  | 54 => ⟨S_, .f32⟩
  | 55 => ⟨S8x128, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_call0_v0 : Ref sig .tc := ⟨.hbm, 75, rfl⟩
abbrev main_call0_c : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_v55_1 : Ref sig .tc := ⟨.hbm, 81, rfl⟩
abbrev main_call0_cst : Ref sig .tc := ⟨.hbm, 82, rfl⟩
abbrev main_call0_v6 : Ref sig .tc := ⟨.hbm, 83, rfl⟩
abbrev main_v55_0 : Ref sig .tc := ⟨.hbm, 84, rfl⟩
abbrev main_call0_cst_0 : Ref sig .tc := ⟨.hbm, 85, rfl⟩
abbrev main_v55_2 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_cst_14 : Ref sig .tc := ⟨.hbm, 104, rfl⟩
abbrev main_v72 : Ref sig .tc := ⟨.hbm, 105, rfl⟩
abbrev main_v73 : Ref sig .tc := ⟨.hbm, 106, rfl⟩
abbrev main_cst_15 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_call1_cst : Ref sig .tc := ⟨.hbm, 114, rfl⟩
abbrev main_call1_v0 : Ref sig .tc := ⟨.hbm, 115, rfl⟩
abbrev main_v80 : Ref sig .tc := ⟨.hbm, 116, rfl⟩
abbrev main_v81 : Ref sig .tc := ⟨.hbm, 117, rfl⟩
abbrev main_cst_16 : Ref sig .tc := ⟨.hbm, 118, rfl⟩
abbrev main_v82 : Ref sig .tc := ⟨.hbm, 119, rfl⟩
abbrev main_v83 : Ref sig .tc := ⟨.hbm, 120, rfl⟩
abbrev main_cst_17 : Ref sig .tc := ⟨.hbm, 121, rfl⟩
abbrev main_v84 : Ref sig .tc := ⟨.hbm, 122, rfl⟩
abbrev main_v85 : Ref sig .tc := ⟨.hbm, 123, rfl⟩
abbrev main_cst_18 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_19 : Ref sig .tc := ⟨.hbm, 129, rfl⟩
abbrev main_v90 : Ref sig .tc := ⟨.hbm, 130, rfl⟩
abbrev main_v91 : Ref sig .tc := ⟨.hbm, 131, rfl⟩
abbrev main_cst_20 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_21 : Ref sig .tc := ⟨.hbm, 139, rfl⟩
abbrev main_v98 : Ref sig .tc := ⟨.hbm, 140, rfl⟩
abbrev main_v99 : Ref sig .tc := ⟨.hbm, 141, rfl⟩
abbrev main_cst_22 : Ref sig .tc := ⟨.hbm, 142, rfl⟩
abbrev main_v100 : Ref sig .tc := ⟨.hbm, 143, rfl⟩
abbrev main_v101 : Ref sig .tc := ⟨.hbm, 144, rfl⟩
abbrev main_cst_23 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_24 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_25 : Ref sig .tc := ⟨.hbm, 155, rfl⟩
abbrev main_v110 : Ref sig .tc := ⟨.hbm, 156, rfl⟩
abbrev main_v111 : Ref sig .tc := ⟨.hbm, 157, rfl⟩
abbrev main_cst_26 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_27 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_28 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_29 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_c : Ref sig .tc := ⟨.hbm, 181, rfl⟩
abbrev main_call2_v0 : Ref sig .tc := ⟨.hbm, 182, rfl⟩
abbrev main_v131 : Ref sig .tc := ⟨.hbm, 183, rfl⟩

abbrev nD : Nat := 1
abbrev τ : Topo := Topo.v7x

variable {F : FTy → Type} [FloatOps F]
-- ==== ForwardKernel.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S512x1408 : Shape := ⟨2, ![512, 1408]⟩
abbrev S1408x1024 : Shape := ⟨2, ![1408, 1024]⟩
abbrev S512x1024 : Shape := ⟨2, ![512, 1024]⟩

abbrev nBuf : Space → Nat
  | .hbm => 27
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8192x1024, .f32⟩
  | .hbm, ⟨23, _⟩ => ⟨S1024x5632, .f32⟩
  | .hbm, ⟨24, _⟩ => ⟨S8192x5632, .f32⟩
  | .hbm, ⟨25, _⟩ => ⟨S8192x5632, .bf16⟩
  | .hbm, ⟨26, _⟩ => ⟨S8192x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1408x1024, .bf16⟩
  | .local _ .vmem, ⟨5, _⟩ => ⟨S1408x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32_11 : BitVec 32 := 1#32
  let v23 : BitVec 1 := Scalar.cmpi .eq arg2 c1_i32_11
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ForwardReferenceIdeal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1024x5632, .f32⟩
  | .hbm, ⟨22, _⟩ => ⟨S2816x1024, .f32⟩
  | .hbm, ⟨23, _⟩ => ⟨S8192x5632, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== MixInKernel.lean ====
abbrev S8192x1024 : Shape := ⟨2, ![8192, 1024]⟩
abbrev S1x1024 : Shape := ⟨2, ![1, 1024]⟩
abbrev S1024x3336 : Shape := ⟨2, ![1024, 3336]⟩
abbrev S8192x1536 : Shape := ⟨2, ![8192, 1536]⟩
abbrev S8192x512 : Shape := ⟨2, ![8192, 512]⟩
abbrev S8192x128 : Shape := ⟨2, ![8192, 128]⟩
abbrev S8192x768 : Shape := ⟨2, ![8192, 768]⟩
abbrev S1024x1536 : Shape := ⟨2, ![1024, 1536]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S1024x768 : Shape := ⟨2, ![1024, 768]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 24
  | .vmem => 43
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3336, .bf16⟩
  | .hbm, ⟨3, _⟩ => ⟨S8192x1536, .bf16⟩
  | .hbm, ⟨4, _⟩ => ⟨S8192x512, .bf16⟩
  | .hbm, ⟨5, _⟩ => ⟨S8192x128, .bf16⟩
  | .hbm, ⟨6, _⟩ => ⟨S8192x768, .bf16⟩
  | .hbm, ⟨7, _⟩ => ⟨S8192x512, .bf16⟩
  | .hbm, ⟨8, _⟩ => ⟨S8192x1024, .f32⟩
  | .hbm, ⟨9, _⟩ => ⟨S1024x1536, .bf16⟩
  | .hbm, ⟨10, _⟩ => ⟨S1024x512, .bf16⟩
  | .hbm, ⟨11, _⟩ => ⟨S1024x8, .bf16⟩
  | .hbm, ⟨12, _⟩ => ⟨S_, .i32⟩
  | .hbm, ⟨13, _⟩ => ⟨S_, .bf16⟩
  | .hbm, ⟨14, _⟩ => ⟨S1024x128, .bf16⟩
  | .hbm, ⟨15, _⟩ => ⟨S1024x768, .bf16⟩
  | .hbm, ⟨16, _⟩ => ⟨S1024x512, .bf16⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x768, .bf16⟩
  | .local _ .vmem, ⟨20, _⟩ => ⟨S1024x768, .bf16⟩
  | .local _ .vmem, ⟨21, _⟩ => ⟨S1024x768, .bf16⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | .local _ .vmem, ⟨32, _⟩ => ⟨S1024x1024, .f32⟩
  | .local _ .vmem, ⟨33, _⟩ => ⟨S512x1024, .f32⟩
  | .local _ .vmem, ⟨34, _⟩ => ⟨S512x1024, .f32⟩
  | .local _ .vmem, ⟨35, _⟩ => ⟨S1x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg3_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc5_stg4_0 : Ref sig .tc := ⟨.vmem, 40, rfl⟩
abbrev cc5_stg4_1 : Ref sig .tc := ⟨.vmem, 41, rfl⟩
abbrev cc5_stg5_0 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc5_sem3_0 : DmaSem sig := 38
abbrev cc5_sem3_1 : DmaSem sig := 39
abbrev cc5_sem4_0 : DmaSem sig := 40
abbrev cc5_sem4_1 : DmaSem sig := 41
abbrev cc5_sem5_0 : DmaSem sig := 42

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage3_0 : Fin 2 → Memref sig .tc .vmem S1024x768 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x768 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![8, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage4_0 : Fin 2 → Memref sig .tc .vmem S1024x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S512x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]
-- ==== MixInReferenceIdeal.lean ====
abbrev S8192x1024 : Shape := ⟨2, ![8192, 1024]⟩
abbrev S1x1024 : Shape := ⟨2, ![1, 1024]⟩
abbrev S1024x3336 : Shape := ⟨2, ![1024, 3336]⟩
abbrev S8192x1536 : Shape := ⟨2, ![8192, 1536]⟩
abbrev S8192x512 : Shape := ⟨2, ![8192, 512]⟩
abbrev S8192x128 : Shape := ⟨2, ![8192, 128]⟩
abbrev S8192x768 : Shape := ⟨2, ![8192, 768]⟩
abbrev S8192x8 : Shape := ⟨2, ![8192, 8]⟩
abbrev S8192x3336 : Shape := ⟨2, ![8192, 3336]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3336, .bf16⟩
  | .hbm, ⟨3, _⟩ => ⟨S8192x1536, .bf16⟩
  | .hbm, ⟨4, _⟩ => ⟨S8192x512, .bf16⟩
  | .hbm, ⟨5, _⟩ => ⟨S8192x128, .bf16⟩
  | .hbm, ⟨6, _⟩ => ⟨S8192x768, .bf16⟩
  | .hbm, ⟨7, _⟩ => ⟨S8192x512, .bf16⟩
  | .hbm, ⟨8, _⟩ => ⟨S8192x1024, .f32⟩
  | .hbm, ⟨9, _⟩ => ⟨S1024x3336, .f32⟩
  | .hbm, ⟨10, _⟩ => ⟨S8192x8, .bf16⟩
  | .hbm, ⟨11, _⟩ => ⟨S8192x1536, .f32⟩
  | .hbm, ⟨12, _⟩ => ⟨S8192x512, .f32⟩
  | .hbm, ⟨13, _⟩ => ⟨S8192x8, .f32⟩
  | .hbm, ⟨14, _⟩ => ⟨S8192x768, .f32⟩
  | .hbm, ⟨15, _⟩ => ⟨S8192x512, .f32⟩
  | .hbm, ⟨16, _⟩ => ⟨S8192x3336, .f32⟩
  | .hbm, ⟨17, _⟩ => ⟨S1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x3336, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Proof.Row.lean ====
/-
  One query row of the windowed attention, as plain functions of extended reals.

  A row has 256 candidate keys.  `s k` is its score against key `k`; everything the gradient of the row needs is a function of
  the scores, of the row's two cotangents (one for the output, one for the log-sum-exp) and of the values.
-/
module

public import Idealize.ShloMosaic.Lib.Pointwise

@[expose] public section

set_option maxRecDepth 16384

noncomputable section

namespace Cert.Swa

open Idealize.ShloMosaic Idealize.ShloMosaic.TcCoe Idealize.SL.Sem

/-! ## Heads laid side by side -/

/-- Lane `e` of head `h` among the 256 lanes of the four heads. -/
def lane (h : Fin 4) (e : Fin 64) : Fin 256 := ⟨h.val * 64 + e.val, by omega⟩

/-- Row `a` of head `h` among the 512 rows of the four heads stacked. -/
def hrow (h : Fin 4) (a : Fin 128) : Fin 512 := ⟨h.val * 128 + a.val, by omega⟩

/-- A sum over all lanes whose terms vanish outside head `h` is the sum over that head's lanes. -/
theorem sum_lanes (h : Fin 4) (f : Fin 256 → EReal) (hf : ∀ h' e, h' ≠ h → f (lane h' e) = 0) :
    ∑ l, f l = ∑ e, f (lane h e) := by
  have h1 := Fin.sum_univ_tiles 4 64 rfl f
  refine h1.trans ((Finset.sum_eq_single h (fun h' _ hne => ?_) (fun hn => absurd (Finset.mem_univ h) hn)).trans rfl)
  exact Finset.sum_eq_zero fun e _ => hf h' e hne

/-- A sum over all stacked rows whose terms vanish outside head `h` is the sum over that head's rows. -/
theorem sum_hrows (h : Fin 4) (f : Fin 512 → EReal) (hf : ∀ h' a, h' ≠ h → f (hrow h' a) = 0) :
    ∑ r, f r = ∑ a, f (hrow h a) := by
  have h1 := Fin.sum_univ_tiles 4 128 rfl f
  refine h1.trans ((Finset.sum_eq_single h (fun h' _ hne => ?_) (fun hn => absurd (Finset.mem_univ h) hn)).trans rfl)
  exact Finset.sum_eq_zero fun e _ => hf h' e hne

/-! ## The row's forward pass -/

/-- Key `k` is at most 128 places behind query `a` of the block, not ahead of it, and, in the first block, not before the
    sequence's start. -/
def okBit (first : BitVec 1) (a : Fin 128) (k : Fin 256) : BitVec 1 :=
  IntOp.andi
    (IntOp.andi (IntOp.cmpi .sge (IntOp.subi (IntOp.addi 128#32 (BitVec.ofNat 32 a.val)) (BitVec.ofNat 32 k.val)) 0#32)
      (IntOp.cmpi .sle (IntOp.subi (IntOp.addi 128#32 (BitVec.ofNat 32 a.val)) (BitVec.ofNat 32 k.val)) 128#32))
    (IntOp.xori (IntOp.andi first (IntOp.cmpi .slt (BitVec.ofNat 32 k.val) 128#32)) 1#1)

/-- The distance of key `k` behind query `a`, in the original sequence. -/
def dist (a : Fin 128) (k : Fin 256) : EReal :=
  FloatOps.sitofp (F := Ideal) .f32
    (IntOp.muli (IntOp.subi (IntOp.addi 128#32 (BitVec.ofNat 32 a.val)) (BitVec.ofNat 32 k.val)) 4#32)

/-- The slope of head `h`: 1/4, 1/16, 1/64, 1/256. -/
def alibi (h : Fin 4) : EReal := ((((1 : ℝ) / 4) ^ (h.val + 1) : ℝ) : EReal)

/-- The factor 1/8 of the scores. -/
abbrev scale : EReal := Ideal.ofBits FTy.f32 1040187392#32

/-- The value a maximum starts from. -/
abbrev floor : EReal := Ideal.ofBits FTy.f32 4286578688#32

/-- The scores of a row. -/
def score (ok : Fin 256 → BitVec 1) (bias : Fin 256 → EReal) (q : Fin 64 → EReal) (kw : Fin 256 → Fin 64 → EReal)
    (k : Fin 256) : EReal :=
  Scalar.select (ok k) ((∑ e, q e * kw k e) * scale - bias k) ⊥

variable (s : Fin 256 → EReal)

/-- The largest score. -/
def top : EReal := Finset.univ.fold max floor fun k => s k

/-- 1 at a key whose score is the largest, else 0. -/
def tie (k : Fin 256) : EReal := if s k = top s then 1 else 0

/-- How many keys share the largest score. -/
def ties : EReal := ∑ k, tie s k

/-- The unnormalised weight of key `k`. -/
def wt (k : Fin 256) : EReal := Ideal.exp (s k - top s)

/-- The sum of the weights. -/
def den : EReal := ∑ k, wt s k

/-- The weighted sum of one lane of the values. -/
def mix (v : Fin 256 → EReal) : EReal := ∑ k, wt s k * v k

/-! ## The row's backward pass -/

variable {n : ℕ}

/-- The output's cotangent against the output, once more divided by the sum of the weights. -/
def outDot (g : Fin n → EReal) (v : Fin 256 → Fin n → EReal) : EReal :=
  ∑ e, g e * Ideal.div 1 (den s * den s) * mix s fun k => v k e

/-- The cotangent of `s k - top`, when the maximum is held fixed. -/
def back (dl : EReal) (g : Fin n → EReal) (v : Fin 256 → Fin n → EReal) (k : Fin 256) : EReal :=
  ((∑ e, Ideal.div (g e) (den s) * v k e) + (Ideal.div dl (den s) + -outDot s g v)) * wt s k

/-- The cotangent of the query-key product at key `k`, from `b`, the cotangent with the maximum held fixed. -/
def scoreGrad (ok : Fin 256 → BitVec 1) (dl : EReal) (b : Fin 256 → EReal) (k : Fin 256) : EReal :=
  Scalar.select (ok k) (b k + Ideal.div (dl + ∑ l, -b l) (ties s) * tie s k) 0 * scale

/-! ## What vanishes -/

theorem exp_nonneg (x : EReal) : 0 ≤ Ideal.exp x := by
  induction x using EReal.rec with
  | bot => exact le_refl _
  | top => exact le_top
  | coe r => exact EReal.coe_nonneg.2 (Real.exp_pos r).le

/-- Where the weights sum to zero each of them is zero. -/
theorem wt_eq_zero (h : den s = 0) (k : Fin 256) : wt s k = 0 :=
  (Finset.sum_eq_zero_iff_of_nonneg fun l _ => exp_nonneg _).1 h k (Finset.mem_univ k)

/-- A masked key has weight zero. -/
theorem wt_of_bot (k : Fin 256) (h : s k = ⊥) : wt s k = 0 := by
  unfold wt
  rw [h, EReal.bot_sub]
  rfl

/-- Zero divided by the sum of the weights contributes nothing once multiplied by a weight. -/
theorem div_zero_mul_wt (x : EReal) (k : Fin 256) : Ideal.div 0 (den s) * x * wt s k = 0 := by
  by_cases h : den s = 0
  · rw [wt_eq_zero s h k, mul_zero]
  · unfold Ideal.div
    rw [if_neg h, zero_mul, zero_mul, zero_mul]

/-- The cotangent `back` over all 256 lanes, when the output's cotangent vanishes outside head `h`, is `back` over that
    head's lanes. -/
theorem back_lanes (h : Fin 4) (dl : EReal) (g : Fin 256 → EReal) (v : Fin 256 → Fin 256 → EReal)
    (hg : ∀ h' e, h' ≠ h → g (lane h' e) = 0) (k : Fin 256) :
    back s dl g v k = back s dl (fun e => g (lane h e)) (fun k e => v k (lane h e)) k := by
  have ho : outDot s g v = outDot s (fun e => g (lane h e)) (fun k e => v k (lane h e)) :=
    sum_lanes h _ fun h' e hne => by rw [hg h' e hne, zero_mul, zero_mul]
  unfold back
  rw [ho]
  by_cases hd : den s = 0
  · rw [wt_eq_zero s hd k, mul_zero, mul_zero]
  · rw [sum_lanes h _ fun h' e hne => by
      rw [hg h' e hne]
      unfold Ideal.div
      rw [if_neg hd, zero_mul, zero_mul]]

/-- A masked key has cotangent zero whatever the values and the cotangents are. -/
theorem back_of_bot (dl : EReal) (g : Fin n → EReal) (v : Fin 256 → Fin n → EReal) (k : Fin 256) (h : s k = ⊥) :
    back s dl g v k = 0 := by
  unfold back
  rw [wt_of_bot s k h, mul_zero]

end Cert.Swa
-- ==== Proof.KernelRows.lean ====
/-
  What the kernel's vectors hold: the four heads' rows stacked, each row the functions of `Row.lean`.
-/
module

public import proofs.«01_k».proof.Proof.Gen.KernelIdeal.Skeleton
public import proofs.«01_k».proof.Proof.Row
public import Idealize.ShloMosaic.Lib.Pointwise

@[expose] public section

set_option maxRecDepth 16384

noncomputable section

namespace Cert.KernelIdeal.Rows

open Idealize.ShloMosaic Idealize.ShloMosaic.TcCoe Idealize.SL.Sem
open Cert.KernelIdeal Cert.KernelIdeal.Gen Cert.Swa

/-! ## The kernel's vectors by name -/

/-- Row numbers of the stacked rows. -/
abbrev i0 : IVec S512x256 32 := iota .tc S512x256 32 [0] iota_S512x256_d0_w32
/-- Column numbers of the stacked rows. -/
abbrev i1 : IVec S512x256 32 := iota .tc S512x256 32 [1] iota_S512x256_d1_w32
/-- Lane numbers of a block of log-sum-exp cotangents. -/
abbrev iL : IVec S128x128 32 := iota .tc S128x128 32 [1] iota_S128x128_d1_w32
/-- The number zero. -/
abbrev z : Ideal .f32 := Scalar.ofBits (F := Ideal) .f32 0x00000000#32

variable (first : BitVec 1) (q kp kc vp vc : Vec Ideal S128x256 .bf16) (g : Vec Ideal S128x256 .f32)
  (dl : Vec Ideal S128x128 .f32)

/-- Which keys a stacked row sees. -/
def kOk : IVec S512x256 1 := k0_pay14 first i0 i1
/-- The distance bias. -/
def kBias : FVec Ideal S512x256 .f32 := k0_pay16 (k0_pay13 i0 i1) (k0_pay15 i0 128#32 k0_pay11 k0_pay12) 4#32
/-- The two key blocks, one above the other. -/
def kKw : FVec Ideal S256x256 .f32 := k0_pay17 (k0_pay7 kp) (k0_pay8 kc)
/-- The two value blocks, one above the other. -/
def kVw : FVec Ideal S256x256 .f32 := k0_pay18 (k0_pay9 vp) (k0_pay10 vc)
/-- Which lanes belong to a stacked row's head. -/
def kOwn : IVec S512x256 1 := k0_pay22 k0_pay19 i0 128#32 k0_pay20 k0_pay21
/-- The queries stacked by head, zero in the other heads' lanes. -/
def kQ : FVec Ideal S512x256 .f32 := k0_pay23 (k0_pay6 q) k0_pay19 i0 128#32 k0_pay20 k0_pay21
/-- The scores. -/
def kS : FVec Ideal S512x256 .f32 :=
  k0_pay24 (k0_pay6 q) (kOk first) kBias (kKw kp kc) k0_pay19 i0 128#32 k0_pay20 k0_pay21
/-- The indicator of the largest scores. -/
def kTie : FVec Ideal S512x256 .f32 :=
  k0_pay26 (k0_pay6 q) (kOk first) kBias (kKw kp kc) k0_pay19 i0 128#32 k0_pay20 k0_pay21
/-- How many scores are largest. -/
def kTies : FVec Ideal S512 .f32 :=
  k0_pay27 (k0_pay6 q) (kOk first) kBias (kKw kp kc) k0_pay19 i0 128#32 k0_pay20 k0_pay21
/-- The weights. -/
def kWt : FVec Ideal S512x256 .f32 :=
  k0_pay28 (k0_pay6 q) (kOk first) kBias (kKw kp kc) k0_pay19 i0 128#32 k0_pay20 k0_pay21
/-- The weights' sum. -/
def kDen : FVec Ideal S512x1 .f32 :=
  k0_pay29 (k0_pay6 q) (kOk first) kBias (kKw kp kc) k0_pay19 i0 128#32 k0_pay20 k0_pay21
/-- The weighted values. -/
def kMix : FVec Ideal S512x256 .f32 :=
  k0_pay30 (k0_pay6 q) (kOk first) kBias (kKw kp kc) (kVw vp vc) k0_pay19 i0 128#32 k0_pay20 k0_pay21
/-- One over the square of the weights' sum. -/
def kInv : FVec Ideal S512x1 .f32 :=
  k0_pay31 (k0_pay6 q) (kOk first) kBias (kKw kp kc) k0_pay19 i0 128#32 k0_pay20 k0_pay21
/-- The log-sum-exp's cotangent, stacked by head. -/
def kDl : FVec Ideal S512x1 .f32 := k0_pay42 k0_pay32 (k0_pay36 dl) (k0_pay39 iL k0_pay34 dl) z (k0_pay41 k0_pay33 dl)
/-- The output's cotangent, stacked by head, zero in the other heads' lanes. -/
def kG : FVec Ideal S512x256 .f32 := k0_pay43 (k0_pay37 g) (k0_pay38 g) (k0_pay40 g)
/-- The same divided by the weights' sum. -/
def kGd : FVec Ideal S512x256 .f32 :=
  k0_pay44 (kDen first q kp kc) (k0_pay37 g) (k0_pay38 g) (k0_pay40 g)
/-- The cotangents of the two value blocks. -/
def kDv : FVec Ideal S256x256 .f32 :=
  k0_pay45 (kWt first q kp kc) (kDen first q kp kc) (k0_pay37 g) (k0_pay38 g) (k0_pay40 g)
/-- The cotangent of the scores with the maximum held fixed. -/
def kBack : FVec Ideal S512x256 .f32 :=
  k0_pay46 (kVw vp vc) (kWt first q kp kc) (kDen first q kp kc) (kMix first q kp kc vp vc) (kInv first q kp kc) k0_pay32
    (k0_pay36 dl) (k0_pay37 g) (k0_pay38 g) (k0_pay39 iL k0_pay34 dl) (k0_pay40 g) z (k0_pay41 k0_pay33 dl)
/-- Its negative. -/
def kNeg : FVec Ideal S512x256 .f32 :=
  k0_pay47 (kVw vp vc) (kWt first q kp kc) (kDen first q kp kc) (kMix first q kp kc vp vc) (kInv first q kp kc) k0_pay32
    (k0_pay36 dl) (k0_pay37 g) (k0_pay38 g) (k0_pay39 iL k0_pay34 dl) (k0_pay40 g) z (k0_pay41 k0_pay33 dl)
/-- The cotangent of the query-key products. -/
def kGrad : FVec Ideal S512x256 .f32 :=
  k0_pay48 (kOk first) (kTie first q kp kc) (kTies first q kp kc) (kDl dl) (kBack first q kp kc vp vc g dl)
    (kNeg first q kp kc vp vc g dl)
/-- The cotangents of the two key blocks. -/
def kDk : FVec Ideal S256x256 .f32 :=
  k0_pay49 (kOk first) (kQ q) (kTie first q kp kc) (kTies first q kp kc) (kDl dl) (kBack first q kp kc vp vc g dl)
    (kNeg first q kp kc vp vc g dl)
/-- What is stored for the queries. -/
def kDq (acc : Vec Ideal S128x256 .f32) : FVec Ideal S128x256 .f32 :=
  k0_pay53 (kOk first) (kKw kp kc) kOwn (kTie first q kp kc) (kTies first q kp kc) (kDl dl)
    (kBack first q kp kc vp vc g dl) (kNeg first q kp kc vp vc g dl) acc
/-- What is stored for the keys: the block's own part, what the block after left for it, and the running sum. -/
def kDkOut (carry acc : Vec Ideal S128x256 .f32) : FVec Ideal S128x256 .f32 :=
  k0_pay54 (kOk first) (kQ q) (kTie first q kp kc) (kTies first q kp kc) (kDl dl)
    (kBack first q kp kc vp vc g dl) (kNeg first q kp kc vp vc g dl) carry acc

/-! ## The integers: heads, rows within a head, the mask -/

/-- Division rounding down, as the kernel spells it. -/
abbrev fdiv (x c : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        (Scalar.subi (Scalar.extui (Scalar.cmpi CmpIPredicate.sgt c 0#32))
          (Scalar.extui (Scalar.cmpi CmpIPredicate.slt c 0#32))))
      (IntOp.cmpi CmpIPredicate.ne (IntOp.remsi ArithUnit.vector x c) 0#32))
    (IntOp.subi (IntOp.divsi ArithUnit.vector x c) 1#32) (IntOp.divsi ArithUnit.vector x c)

/-- The remainder of that division, as the kernel spells it. -/
abbrev fmod (x c : BitVec 32) : BitVec 32 :=
  Scalar.select
    (IntOp.andi
      (IntOp.xori
        (IntOp.cmpi CmpIPredicate.slt
          (IntOp.remsi ArithUnit.vector x (Scalar.select (Scalar.cmpi CmpIPredicate.eq c 0#32) 1#32 c)) 0#32)
        (Scalar.cmpi CmpIPredicate.slt (Scalar.select (Scalar.cmpi CmpIPredicate.eq c 0#32) 1#32 c) 0#32))
      (IntOp.cmpi CmpIPredicate.ne
        (IntOp.remsi ArithUnit.vector x (Scalar.select (Scalar.cmpi CmpIPredicate.eq c 0#32) 1#32 c)) 0#32))
    (IntOp.addi (IntOp.remsi ArithUnit.vector x (Scalar.select (Scalar.cmpi CmpIPredicate.eq c 0#32) 1#32 c))
      (Scalar.select (Scalar.cmpi CmpIPredicate.eq c 0#32) 1#32 c))
    (IntOp.remsi ArithUnit.vector x (Scalar.select (Scalar.cmpi CmpIPredicate.eq c 0#32) 1#32 c))

theorem fdiv_row (h : Fin 4) (a : Fin 128) : fdiv (BitVec.ofNat 32 (hrow h a).val) 128#32 = BitVec.ofNat 32 h.val := by
  rw [(by decide +kernel : ∀ r : Fin 512, fdiv (BitVec.ofNat 32 r.val) 128#32 = BitVec.ofNat 32 (r.val / 128)) (hrow h a),
    show (hrow h a).val / 128 = h.val by simp only [hrow]; omega]

theorem fdiv_lane (h : Fin 4) (e : Fin 64) : fdiv (BitVec.ofNat 32 (lane h e).val) 64#32 = BitVec.ofNat 32 h.val := by
  rw [(by decide +kernel : ∀ r : Fin 256, fdiv (BitVec.ofNat 32 r.val) 64#32 = BitVec.ofNat 32 (r.val / 64)) (lane h e),
    show (lane h e).val / 64 = h.val by simp only [lane]; omega]

theorem fmod_row (h : Fin 4) (a : Fin 128) : fmod (BitVec.ofNat 32 (hrow h a).val) 128#32 = BitVec.ofNat 32 a.val := by
  rw [(by decide +kernel : ∀ r : Fin 512, fmod (BitVec.ofNat 32 r.val) 128#32 = BitVec.ofNat 32 (r.val % 128)) (hrow h a),
    show (hrow h a).val % 128 = a.val by simp only [hrow]; omega]

/-- A lane belongs to a stacked row's head when its own head is that head. -/
theorem own_eq (h h' : Fin 4) (a : Fin 128) (e : Fin 64) :
    kOwn (ix2 (hrow h a) (lane h' e)) = BitVec.ofBool (decide (h' = h)) := by
  have hr := fdiv_row h a
  have hl := fdiv_lane h' e
  unfold fdiv at hr hl
  pointwise [kOwn, k0_pay22, k0_pay21, k0_pay20, k0_pay19, i0, i1]
  rw [hr, hl]
  exact (by decide +kernel : ∀ h h' : Fin 4,
    IntOp.cmpi CmpIPredicate.eq (BitVec.ofNat 32 h'.val) (BitVec.ofNat 32 h.val) = BitVec.ofBool (decide (h' = h))) h h'

/-- The mask of a stacked row is its row's mask. -/
theorem ok_eq (h : Fin 4) (a : Fin 128) (k : Fin 256) : kOk first (ix2 (hrow h a) k) = okBit first a k := by
  have hr := fmod_row h a
  unfold fmod at hr
  pointwise [kOk, k0_pay14, i0, i1, k0_pay13]
  rw [hr]
  rfl

/-- The slope the kernel computes: the exponential of `(h + 1) * (-2 log 2)`. -/
theorem slope_eq (h : Fin 4) :
    Ideal.exp (FloatOps.sitofp (F := Ideal) FTy.f32 (IntOp.addi (BitVec.ofNat 32 h.val) 1#32) *
      Named.named (F := Ideal) κ "alibi" (φ := .f32) 3216077336#32) = alibi h := by
  have h1 : Named.named (F := Ideal) κ "alibi" (φ := .f32) 3216077336#32 = ((-(2 * Real.log 2) : ℝ) : EReal) :=
    IdealRules.named_const.ideal_named_scalar _ _ _ _ rfl
  have h2 : FloatOps.sitofp (F := Ideal) FTy.f32 (IntOp.addi (BitVec.ofNat 32 h.val) 1#32) = (((h.val + 1 : ℕ) : ℝ) : EReal) := by
    show ((((IntOp.addi (BitVec.ofNat 32 h.val) 1#32).toInt : ℝ)) : EReal) = _
    rw [(by decide +kernel : ∀ h : Fin 4, (IntOp.addi (BitVec.ofNat 32 h.val) 1#32).toInt = ((h.val + 1 : ℕ) : ℤ)) h]
    norm_cast
  rw [h1, h2, ← EReal.coe_mul]
  show ((Real.exp _ : ℝ) : EReal) = _
  unfold alibi
  congr 1
  rw [show ((h.val + 1 : ℕ) : ℝ) * -(2 * Real.log 2) = ((h.val + 1 : ℕ) : ℝ) * Real.log (1 / 4) by
    rw [show (1 / 4 : ℝ) = (2 ^ 2)⁻¹ by norm_num, Real.log_inv, Real.log_pow]
    push_cast
    ring]
  rw [Real.exp_nat_mul, Real.exp_log (by norm_num)]

/-- The bias of a stacked row is its head's slope times the distance. -/
theorem bias_eq (h : Fin 4) (a : Fin 128) (k : Fin 256) : kBias (ix2 (hrow h a) k) = alibi h * dist a k := by
  have hr := fmod_row h a
  have hd := fdiv_row h a
  unfold fmod at hr
  unfold fdiv at hd
  pointwise [kBias, k0_pay16, k0_pay13, k0_pay15, k0_pay11, k0_pay12, i0, i1]
  rw [hr, hd, slope_eq]
  rfl

/-! ## The stacked queries, cotangents and the scores -/

/-- Two blocks, one above the other: row `k` of the 256. -/
def two (u v : Vec Ideal S128x256 .bf16) (k l : Fin 256) : EReal :=
  if h : k.val < 128 then u (ix2 ⟨k.val, h⟩ l) else v (ix2 ⟨k.val - 128, by omega⟩ l)

/-- Reading at two indices with the same coordinates. -/
theorem at2 {n k : ℕ} {φ : EltTy} (f : Vec Ideal (⟨2, ![n, k]⟩ : Shape) φ) {a a' : Fin n} {b b' : Fin k} (ha : a.val = a'.val)
    (hb : b.val = b'.val) : f (ix2 a b) = f (ix2 a' b') := by
  rw [Fin.ext ha, Fin.ext hb]

theorem select_true (x y : EReal) : Scalar.select (BitVec.ofBool true) x y = x := rfl

theorem select_false (x y : EReal) : Scalar.select (BitVec.ofBool false) x y = y := rfl

theorem kw_eq (k l : Fin 256) : kKw kp kc (ix2 k l) = two kp kc k l := by
  pointwise [kKw, k0_pay17, k0_pay7, k0_pay8]
  rfl

theorem vw_eq (k l : Fin 256) : kVw vp vc (ix2 k l) = two vp vc k l := by
  pointwise [kVw, k0_pay18, k0_pay9, k0_pay10]
  rfl

/-- Four copies of a block, one above the other: the row is the row number within the copy. -/
theorem copies (f : Fin 128 → EReal) (r : ℕ) (hr : r < 512) (a : Fin 128) (ha : r % 128 = a.val) :
    (if h1 : r < 128 then f ⟨r, h1⟩
      else if h2 : r - 128 < 128 then f ⟨r - 128, h2⟩
      else if h3 : r - 128 - 128 < 128 then f ⟨r - 128 - 128, h3⟩
      else f ⟨r - 128 - 128 - 128, by omega⟩) = f a := by
  by_cases h1 : r < 128
  · rw [dif_pos h1]; exact congrArg f (Fin.ext (by dsimp only; omega))
  · rw [dif_neg h1]
    by_cases h2 : r - 128 < 128
    · rw [dif_pos h2]; exact congrArg f (Fin.ext (by dsimp only; omega))
    · rw [dif_neg h2]
      by_cases h3 : r - 128 - 128 < 128
      · rw [dif_pos h3]; exact congrArg f (Fin.ext (by dsimp only; omega))
      · rw [dif_neg h3]; exact congrArg f (Fin.ext (by dsimp only; omega))

theorem q_eq (h h' : Fin 4) (a : Fin 128) (e : Fin 64) :
    kQ q (ix2 (hrow h a) (lane h' e)) = if h' = h then q (ix2 a (lane h' e)) else (0 : EReal) := by
  have ho := own_eq h h' a e
  have hc := copies (fun a => q (ix2 a (lane h' e))) (hrow h a).val (hrow h a).isLt a (by simp only [hrow]; omega)
  unfold kOwn at ho
  pointwise [kQ, k0_pay23, k0_pay6]
  rw [ho, hc]
  by_cases hh : h' = h
  · rw [if_pos hh, decide_eq_true hh]
    exact select_true _ _
  · rw [if_neg hh, decide_eq_false hh]
    exact select_false _ _

theorem row_lt (h : Fin 4) (a : Fin 128) : ((hrow h a).val < 128) = (h.val < 1) ∧ ((hrow h a).val < 256) = (h.val < 2) ∧
    ((hrow h a).val < 384) = (h.val < 3) := by
  simp only [hrow, eq_iff_iff]
  omega

theorem lane_lt (h : Fin 4) (e : Fin 64) : ((lane h e).val < 64) = (h.val < 1) ∧ ((lane h e).val < 128) = (h.val < 2) ∧
    ((lane h e).val < 192) = (h.val < 3) := by
  simp only [lane, eq_iff_iff]
  omega

theorem g_eq (h h' : Fin 4) (a : Fin 128) (e : Fin 64) :
    kG g (ix2 (hrow h a) (lane h' e)) = if h' = h then g (ix2 a (lane h' e)) else (0 : EReal) := by
  obtain ⟨r1, r2, r3⟩ := row_lt h a
  obtain ⟨l1, l2, l3⟩ := lane_lt h' e
  pointwise [kG, k0_pay43, k0_pay37, k0_pay38, k0_pay40, k0_pay35]
  simp only [r1, r2, r3, l1, l2, l3]
  obtain ⟨h, hlt⟩ := h
  obtain ⟨h', hlt'⟩ := h'
  interval_cases h <;> interval_cases h' <;>
    simp <;>
    (refine at2 g ?_ ?_ <;> dsimp only [hrow, lane] <;> omega)

/-- One lane of a block of log-sum-exp cotangents, picked out of its row by a sum over the lanes. -/
theorem pick (b : BitVec 32) (h : Fin 128) (hb : b = BitVec.ofNat 32 h.val) (f : Fin 128 → EReal) :
    ∑ x : Fin 128, Scalar.select (IntOp.cmpi CmpIPredicate.eq (BitVec.ofNat 32 x.val) b) (f x) 0 = f h := by
  subst hb
  have hc := (by decide +kernel : ∀ x h : Fin 128,
    IntOp.cmpi CmpIPredicate.eq (BitVec.ofNat 32 x.val) (BitVec.ofNat 32 h.val) = BitVec.ofBool (decide (x = h)))
  rw [Finset.sum_eq_single h]
  · rw [hc, decide_eq_true rfl]; rfl
  · intro x _ hne
    rw [hc, decide_eq_false hne]; rfl
  · intro hn; exact absurd (Finset.mem_univ h) hn

theorem dl_eq (h : Fin 4) (a : Fin 128) : kDl dl (ix2 (hrow h a) 0) = dl (ix2 a ⟨h.val, by omega⟩) := by
  obtain ⟨r1, r2, r3⟩ := row_lt h a
  pointwise [kDl, k0_pay42, k0_pay39, k0_pay41, k0_pay36, k0_pay32, k0_pay33, k0_pay34, z]
  simp only [pick 0#32 0 rfl, pick 1#32 1 rfl, pick 2#32 2 rfl, pick 3#32 3 rfl, r1, r2, r3]
  obtain ⟨h, hlt⟩ := h
  interval_cases h <;>
    simp <;>
    (refine at2 dl ?_ rfl <;> dsimp only [hrow] <;> omega)

/-- The scores of row `a` of head `h`. -/
def rowS (h : Fin 4) (a : Fin 128) : Fin 256 → EReal :=
  score (okBit first a) (fun k => alibi h * dist a k) (fun e => q (ix2 a (lane h e))) (fun k e => two kp kc k (lane h e))

theorem s_eq (h : Fin 4) (a : Fin 128) (k : Fin 256) :
    kS first q kp kc (ix2 (hrow h a) k) = rowS first q kp kc h a k := by
  have hq : ∀ l, k0_pay23 (k0_pay6 q) k0_pay19 i0 128#32 k0_pay20 k0_pay21 (ix2 (hrow h a) l) = kQ q (ix2 (hrow h a) l) :=
    fun _ => rfl
  have hm : Named.named (F := Ideal) κ "mask" (φ := .f32) 4048155338#32 = ⊥ :=
    IdealRules.named_const.ideal_named_scalar _ _ _ _ rfl
  pointwise [kS, k0_pay24]
  rw [ok_eq, bias_eq, hm]
  simp only [hq, kw_eq]
  rw [sum_lanes h _ fun h' e hne => by rw [q_eq, if_neg hne, zero_mul]]
  simp only [q_eq, if_true]
  rfl

end Cert.KernelIdeal.Rows
-- ==== Proof.KernelGrad.lean ====
/-
  The gradient the kernel computes at one block, in the functions of `Row.lean`.
-/
module

public import proofs.«01_k».proof.Proof.KernelRows
public import Idealize.ShloMosaic.Lib.Pointwise

@[expose] public section

set_option maxRecDepth 16384

noncomputable section

namespace Cert.KernelIdeal.Rows

open Idealize.ShloMosaic Idealize.ShloMosaic.TcCoe Idealize.SL.Sem
open Cert.KernelIdeal Cert.KernelIdeal.Gen Cert.Swa

variable (first : BitVec 1) (q kp kc vp vc : Vec Ideal S128x256 .bf16) (g : Vec Ideal S128x256 .f32)
  (dl : Vec Ideal S128x128 .f32)

/-! ## The softmax of a stacked row -/

theorem z_eq : z = (0 : EReal) := by
  pointwise

/-- A comparison's bit, turned into a number, is 1 or 0. -/
theorem bit_num (p : Prop) [Decidable p] :
    FloatOps.sitofp (F := Ideal) FTy.f32 (BitVec.setWidth 32 (BitVec.ofBool (decide p))) = if p then 1 else 0 := by
  by_cases h : p
  · rw [if_pos h, decide_eq_true h]
    show (((_ : ℤ) : ℝ) : EReal) = 1
    rw [show (BitVec.setWidth 32 (BitVec.ofBool true)).toInt = 1 by decide]
    norm_cast
  · rw [if_neg h, decide_eq_false h]
    show (((_ : ℤ) : ℝ) : EReal) = 0
    rw [show (BitVec.setWidth 32 (BitVec.ofBool false)).toInt = 0 by decide]
    norm_cast

theorem s_eq' (h : Fin 4) (a : Fin 128) (k : Fin 256) :
    k0_pay24 (k0_pay6 q) (kOk first) kBias (kKw kp kc) k0_pay19 i0 128#32 k0_pay20 k0_pay21 (ix2 (hrow h a) k) =
      rowS first q kp kc h a k := s_eq first q kp kc h a k

theorem tie_eq (h : Fin 4) (a : Fin 128) (k : Fin 256) :
    kTie first q kp kc (ix2 (hrow h a) k) = tie (rowS first q kp kc h a) k := by
  pointwise [kTie, k0_pay26, k0_pay25]
  simp only [s_eq']
  exact bit_num _

theorem ties_eq (h : Fin 4) (a : Fin 128) : kTies first q kp kc (ix1 (hrow h a)) = ties (rowS first q kp kc h a) := by
  have ht := tie_eq first q kp kc h a
  unfold kTie at ht
  pointwise [kTies, k0_pay27]
  simp only [ht]
  rfl

theorem wt_eq (h : Fin 4) (a : Fin 128) (k : Fin 256) :
    kWt first q kp kc (ix2 (hrow h a) k) = wt (rowS first q kp kc h a) k := by
  pointwise [kWt, k0_pay28, k0_pay25]
  simp only [s_eq']
  rfl

theorem den_eq (h : Fin 4) (a : Fin 128) : kDen first q kp kc (ix2 (hrow h a) 0) = den (rowS first q kp kc h a) := by
  have hw := wt_eq first q kp kc h a
  unfold kWt at hw
  pointwise [kDen, k0_pay29]
  simp only [hw]
  rfl

theorem mix_eq (h : Fin 4) (a : Fin 128) (l : Fin 256) :
    kMix first q kp kc vp vc (ix2 (hrow h a) l) = mix (rowS first q kp kc h a) fun k => two vp vc k l := by
  have hw := wt_eq first q kp kc h a
  unfold kWt at hw
  pointwise [kMix, k0_pay30]
  simp only [hw, vw_eq]
  rfl

theorem inv_eq (h : Fin 4) (a : Fin 128) :
    kInv first q kp kc (ix2 (hrow h a) 0) = Ideal.div 1 (den (rowS first q kp kc h a) * den (rowS first q kp kc h a)) := by
  have hd := den_eq first q kp kc h a
  unfold kDen at hd
  pointwise [kInv, k0_pay31]
  rw [hd]

/-! ## The row's backward pass -/

/-- The cotangent of the scores of row `a` of head `h`, with the maximum held fixed. -/
def rowB (h : Fin 4) (a : Fin 128) : Fin 256 → EReal :=
  back (rowS first q kp kc h a) (dl (ix2 a ⟨h.val, by omega⟩)) (fun e => g (ix2 a (lane h e))) fun k e => two vp vc k (lane h e)

theorem gd_eq (h h' : Fin 4) (a : Fin 128) (e : Fin 64) :
    kGd first q kp kc g (ix2 (hrow h a) (lane h' e)) =
      Ideal.div (if h' = h then g (ix2 a (lane h' e)) else 0) (den (rowS first q kp kc h a)) := by
  have hd := den_eq first q kp kc h a
  have hg := g_eq g h h' a e
  unfold kG at hg
  pointwise [kGd, k0_pay44]
  rw [hd, hg]

theorem back_eq (h : Fin 4) (a : Fin 128) (k : Fin 256) :
    kBack first q kp kc vp vc g dl (ix2 (hrow h a) k) = rowB first q kp kc vp vc g dl h a k := by
  have hd := den_eq first q kp kc h a
  have hi := inv_eq first q kp kc h a
  have hm := mix_eq first q kp kc vp vc h a
  have hw := wt_eq first q kp kc h a
  have hl := dl_eq dl h a
  have hg : ∀ l, k0_pay43 (k0_pay37 g) (k0_pay38 g) (k0_pay40 g) (ix2 (hrow h a) l) = kG g (ix2 (hrow h a) l) := fun _ => rfl
  have hgd : ∀ l, k0_pay44 (kDen first q kp kc) (k0_pay37 g) (k0_pay38 g) (k0_pay40 g) (ix2 (hrow h a) l) =
      Ideal.div (kG g (ix2 (hrow h a) l)) (den (rowS first q kp kc h a)) := fun l => by
    pointwise [k0_pay44]
    rw [hd, hg]
  have hz := back_lanes (rowS first q kp kc h a) h (dl (ix2 a ⟨h.val, by omega⟩)) (fun l => kG g (ix2 (hrow h a) l))
    (fun k l => two vp vc k l) (fun h' e hne => by rw [g_eq, if_neg hne]) k
  simp only [g_eq, if_true] at hz
  unfold kDl at hl
  rw [z_eq] at hl
  pointwise [kBack, k0_pay46]
  simp only [hgd, hg, hm, hw, hi, vw_eq, Fin.sum_univ_one, zero_sub]
  refine Eq.trans ?_ hz
  simp only [hd, hl]
  rfl

theorem neg_eq (h : Fin 4) (a : Fin 128) (k : Fin 256) :
    kNeg first q kp kc vp vc g dl (ix2 (hrow h a) k) = -rowB first q kp kc vp vc g dl h a k := by
  have hb := back_eq first q kp kc vp vc g dl h a k
  unfold kBack at hb
  rw [z_eq] at hb
  pointwise [kNeg, k0_pay47]
  rw [hb, zero_sub]

/-- The cotangents of the query-key products of row `a` of head `h`. -/
def rowG (h : Fin 4) (a : Fin 128) : Fin 256 → EReal :=
  scoreGrad (rowS first q kp kc h a) (okBit first a) (dl (ix2 a ⟨h.val, by omega⟩)) (rowB first q kp kc vp vc g dl h a)

/-- A factor may be taken out of a choice between something and zero. -/
theorem select_mul (b : BitVec 1) (x c : EReal) : Scalar.select b (x * c) 0 = Scalar.select b x 0 * c := by
  unfold Scalar.select
  split_ifs
  · rfl
  · rw [zero_mul]

theorem grad_eq (h : Fin 4) (a : Fin 128) (k : Fin 256) :
    kGrad first q kp kc vp vc g dl (ix2 (hrow h a) k) = rowG first q kp kc vp vc g dl h a k := by
  pointwise [kGrad, k0_pay48]
  simp only [Fin.sum_univ_one, ok_eq, back_eq, ties_eq, tie_eq, neg_eq]
  rw [select_mul]
  have hl := dl_eq dl h a
  simp only [hl]
  rfl

end Cert.KernelIdeal.Rows
-- ==== Proof.KernelOut.lean ====
/-
  What the kernel writes at one block, in the functions of `Row.lean`.
-/
module

public import proofs.«01_k».proof.Proof.KernelGrad
public import Idealize.ShloMosaic.Lib.Pointwise

@[expose] public section

set_option maxRecDepth 16384

noncomputable section

namespace Cert.KernelIdeal.Rows

open Idealize.ShloMosaic Idealize.ShloMosaic.TcCoe Idealize.SL.Sem
open Cert.KernelIdeal Cert.KernelIdeal.Gen Cert.Swa

variable (first : BitVec 1) (q kp kc vp vc : Vec Ideal S128x256 .bf16) (g : Vec Ideal S128x256 .f32)
  (dl : Vec Ideal S128x128 .f32)

/-- The gradient of the block's queries: row `a`, lane `e` of head `h`. -/
def dqAt (h : Fin 4) (a : Fin 128) (e : Fin 64) : EReal :=
  ∑ k, rowG first q kp kc vp vc g dl h a k * two kp kc k (lane h e)

/-- The part of the gradient of key `k`, lane `e` of head `h`, which the block's queries contribute. -/
def dkAt (h : Fin 4) (k : Fin 256) (e : Fin 64) : EReal :=
  ∑ a, rowG first q kp kc vp vc g dl h a k * q (ix2 a (lane h e))

/-- The part of the gradient of value `k`, lane `e` of head `h`, which the block's queries contribute. -/
def dvAt (h : Fin 4) (k : Fin 256) (e : Fin 64) : EReal :=
  ∑ a, wt (rowS first q kp kc h a) k * Ideal.div (g (ix2 a (lane h e))) (den (rowS first q kp kc h a))

/-- A sum over the four heads in which only head `h`'s term is kept. -/
theorem own_sum (h : Fin 4) (f : Fin 4 → EReal) :
    Scalar.select (BitVec.ofBool (decide (h = 0))) (f 0) 0 + Scalar.select (BitVec.ofBool (decide (h = 1))) (f 1) 0 +
      Scalar.select (BitVec.ofBool (decide (h = 2))) (f 2) 0 + Scalar.select (BitVec.ofBool (decide (h = 3))) (f 3) 0 = f h := by
  obtain ⟨h, hlt⟩ := h
  interval_cases h <;> simp [Scalar.select]

theorem dq_out (acc : Vec Ideal S128x256 .f32) (h : Fin 4) (a : Fin 128) (e : Fin 64) :
    kDq first q kp kc vp vc g dl acc (ix2 a (lane h e)) =
      dqAt first q kp kc vp vc g dl h a e + acc (ix2 a (lane h e)) := by
  have hg := grad_eq first q kp kc vp vc g dl
  unfold kGrad at hg
  have r0 : (⟨a.val, by omega⟩ : Fin 512) = hrow 0 a := Fin.ext (by simp [hrow])
  have r1 : (⟨128 + a.val, by omega⟩ : Fin 512) = hrow 1 a := Fin.ext (by simp [hrow])
  have r2 : (⟨256 + a.val, by omega⟩ : Fin 512) = hrow 2 a := Fin.ext (by simp [hrow])
  have r3 : (⟨384 + a.val, by omega⟩ : Fin 512) = hrow 3 a := Fin.ext (by simp [hrow])
  pointwise [kDq, k0_pay53]
  simp only [r0, r1, r2, r3, own_eq, hg, kw_eq]
  exact congrArg (· + acc (ix2 a (lane h e)))
    (own_sum h fun h' => ∑ k, rowG first q kp kc vp vc g dl h' a k * two kp kc k (lane h e))

theorem dk_out (carry acc : Vec Ideal S128x256 .f32) (h : Fin 4) (j : Fin 128) (e : Fin 64) :
    kDkOut first q kp kc vp vc g dl carry acc (ix2 j (lane h e)) =
      dkAt first q kp kc vp vc g dl h ⟨128 + j.val, by omega⟩ e + carry (ix2 j (lane h e)) + acc (ix2 j (lane h e)) := by
  have hg := grad_eq first q kp kc vp vc g dl
  unfold kGrad at hg
  pointwise [kDkOut, k0_pay54, k0_pay49]
  rw [sum_hrows h _ fun h' a hne => by rw [q_eq, if_neg hne.symm, mul_zero]]
  simp only [hg, q_eq, if_true]
  rfl

/-- What the block leaves for the keys of the block before it. -/
def kDkLeft : FVec Ideal S128x256 .f32 :=
  k0_pay2 (k0_pay51 (kOk first) (kQ q) (kTie first q kp kc) (kTies first q kp kc) (kDl dl)
    (kBack first q kp kc vp vc g dl) (kNeg first q kp kc vp vc g dl))

theorem dk_left (h : Fin 4) (j : Fin 128) (e : Fin 64) :
    kDkLeft first q kp kc vp vc g dl (ix2 j (lane h e)) =
      dkAt first q kp kc vp vc g dl h ⟨j.val, by omega⟩ e := by
  have hg := grad_eq first q kp kc vp vc g dl
  unfold kGrad at hg
  pointwise [kDkLeft, k0_pay2, k0_pay51, k0_pay49]
  rw [sum_hrows h _ fun h' a hne => by rw [q_eq, if_neg hne.symm, mul_zero]]
  simp only [hg, q_eq, if_true]
  rfl

theorem dv_eq (h : Fin 4) (k : Fin 256) (e : Fin 64) :
    kDv first q kp kc g (ix2 k (lane h e)) = dvAt first q kp kc g h k e := by
  have hg := gd_eq first q kp kc g
  unfold kGd at hg
  pointwise [kDv, k0_pay45]
  rw [sum_hrows h _ fun h' a hne => by
    rw [wt_eq, hg, if_neg hne.symm, mul_comm]
    have hz := div_zero_mul_wt (rowS first q kp kc h' a) 1 k
    rwa [mul_one] at hz]
  simp only [hg, wt_eq, if_true]
  rfl

/-- What is stored for the values: the block's own part, what the block after left for it, and the running sum. -/
def kDvOut (carry acc : Vec Ideal S128x256 .f32) : FVec Ideal S128x256 .f32 :=
  k0_pay1 (k0_pay52 (kDv first q kp kc g) carry) (k0_pay55 acc)

theorem dv_out (carry acc : Vec Ideal S128x256 .f32) (h : Fin 4) (j : Fin 128) (e : Fin 64) :
    kDvOut first q kp kc g carry acc (ix2 j (lane h e)) =
      dvAt first q kp kc g h ⟨128 + j.val, by omega⟩ e + carry (ix2 j (lane h e)) + acc (ix2 j (lane h e)) := by
  pointwise [kDvOut, k0_pay1, k0_pay52, k0_pay55]
  rw [dv_eq]

/-- What the block leaves for the values of the block before it. -/
def kDvLeft : FVec Ideal S128x256 .f32 := k0_pay3 (k0_pay50 (kDv first q kp kc g))

theorem dv_left (h : Fin 4) (j : Fin 128) (e : Fin 64) :
    kDvLeft first q kp kc g (ix2 j (lane h e)) = dvAt first q kp kc g h ⟨j.val, by omega⟩ e := by
  pointwise [kDvLeft, k0_pay3, k0_pay50]
  rw [dv_eq]

end Cert.KernelIdeal.Rows
-- ==== Proof.KernelArray.lean ====
/-
  What the kernel's three result arrays hold after the launch, block by block, as functions of the arrays it reads.
-/
module

public import proofs.«01_k».proof.Proof.KernelOut
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Rows

open Idealize.ShloMosaic Idealize.ShloMosaic.TcCoe Idealize.SL.Sem
open Idealize.ShloMosaic.Pipeline (Dat)
open Cert.KernelIdeal Cert.KernelIdeal.Gen Cert.Swa

/-! ## The blocks of the arrays -/

/-- Rows `128 n …` and columns `256 c …` of an array with 3072 columns. -/
def tile3 (X : Vec Ideal S2048x3072 .bf16) (n : Fin 16) (c : Fin 12) : Vec Ideal S128x256 .bf16 :=
  fun y => X (ix2 ⟨n.val * 128 + (y 0).val, by have h : (y 0).val < 128 := (y 0).isLt; omega⟩ ⟨c.val * 256 + (y 1).val, by have h : (y 1).val < 256 := (y 1).isLt; omega⟩)

/-- The same of an array with 1024 columns. -/
def tile1 (X : Vec Ideal S2048x1024 .f32) (n : Fin 16) (c : Fin 4) : Vec Ideal S128x256 .f32 :=
  fun y => X (ix2 ⟨n.val * 128 + (y 0).val, by have h : (y 0).val < 128 := (y 0).isLt; omega⟩ ⟨c.val * 256 + (y 1).val, by have h : (y 1).val < 256 := (y 1).isLt; omega⟩)

/-- Rows `128 n …` and columns `128 c …` of an array with 512 columns. -/
def tileL (X : Vec Ideal S2048x512 .f32) (n : Fin 16) (c : Fin 4) : Vec Ideal S128x128 .f32 :=
  fun y => X (ix2 ⟨n.val * 128 + (y 0).val, by have h : (y 0).val < 128 := (y 0).isLt; omega⟩ ⟨c.val * 128 + (y 1).val, by have h : (y 1).val < 128 := (y 1).isLt; omega⟩)

/-- The block before block `n`; before the first, the first. -/
def prev (n : Fin 16) : Fin 16 := ⟨n.val - 1, by omega⟩

/-- Whether block `n` is the first. -/
def isFirst (n : Fin 16) : BitVec 1 := BitVec.ofBool (decide (n.val = 0))

variable (X : Vec Ideal S2048x3072 .bf16) (D : Vec Ideal S2048x1024 .f32) (L : Vec Ideal S2048x512 .f32)
  (A : Vec Ideal S2048x1024 .f32) (d : Fin 4) (n : Fin 16)

/-- The queries of block `n` of subsequence `d`. -/
abbrev qB : Vec Ideal S128x256 .bf16 := tile3 X n ⟨3 * d.val, by omega⟩
/-- Its keys. -/
abbrev kB : Vec Ideal S128x256 .bf16 := tile3 X n ⟨3 * d.val + 1, by omega⟩
/-- Its values. -/
abbrev vB : Vec Ideal S128x256 .bf16 := tile3 X n ⟨3 * d.val + 2, by omega⟩

/-- The three stored blocks and the two left behind, in terms of the arrays. -/
def dqB : FVec Ideal S128x256 .f32 :=
  kDq (isFirst n) (qB X d n) (kB X d (prev n)) (kB X d n) (vB X d (prev n)) (vB X d n) (tile1 D n d) (tileL L n d) (tile1 A n d)

def dkLeftB : FVec Ideal S128x256 .f32 :=
  kDkLeft (isFirst n) (qB X d n) (kB X d (prev n)) (kB X d n) (vB X d (prev n)) (vB X d n) (tile1 D n d) (tileL L n d)

def dvLeftB : FVec Ideal S128x256 .f32 :=
  kDvLeft (isFirst n) (qB X d n) (kB X d (prev n)) (kB X d n) (tile1 D n d)

/-- What the block after block `n` left for it; nothing after the last. -/
def dkCarry : FVec Ideal S128x256 .f32 := if h : n.val < 15 then dkLeftB X D L d ⟨n.val + 1, by omega⟩ else fun _ => 0

def dvCarry : FVec Ideal S128x256 .f32 := if h : n.val < 15 then dvLeftB X D d ⟨n.val + 1, by omega⟩ else fun _ => 0

def dkB : FVec Ideal S128x256 .f32 :=
  kDkOut (isFirst n) (qB X d n) (kB X d (prev n)) (kB X d n) (vB X d (prev n)) (vB X d n) (tile1 D n d) (tileL L n d)
    (dkCarry X D L d n) (tile1 A n d)

def dvB : FVec Ideal S128x256 .f32 :=
  kDvOut (isFirst n) (qB X d n) (kB X d (prev n)) (kB X d n) (tile1 D n d) (dvCarry X D d n) (tile1 A n d)

/-- An array from its blocks. -/
def ofBlocks (B : Fin 4 → Fin 16 → FVec Ideal S128x256 .f32) : FVec Ideal S2048x1024 .f32 := fun j =>
  B ⟨(j 1).val / 256, by have h : (j 1).val < 1024 := (j 1).isLt; omega⟩ ⟨(j 0).val / 128, by have h : (j 0).val < 2048 := (j 0).isLt; omega⟩
    (ix2 ⟨(j 0).val % 128, by omega⟩ ⟨(j 1).val % 256, by omega⟩)

variable (m : (ℓ : Loc nD τ sig) → Buf (Elt Ideal) ℓ)

theorem idxs : ∀ t : Fin cfg0.N,
    win0_0.index t = ![15 - t.val % 16, 3 * (t.val / 16)] ∧ win0_1.index t = ![14 - t.val % 16, 3 * (t.val / 16) + 1] ∧
    win0_2.index t = ![15 - t.val % 16, 3 * (t.val / 16) + 1] ∧ win0_3.index t = ![14 - t.val % 16, 3 * (t.val / 16) + 2] ∧
    win0_4.index t = ![15 - t.val % 16, 3 * (t.val / 16) + 2] ∧ win0_5.index t = ![15 - t.val % 16, t.val / 16] ∧
    win0_6.index t = ![15 - t.val % 16, t.val / 16] ∧ win0_7.index t = ![15 - t.val % 16, t.val / 16] ∧
    win0_8.index t = ![15 - t.val % 16, t.val / 16] ∧ win0_9.index t = ![15 - t.val % 16, t.val / 16] ∧
    win0_10.index t = ![15 - t.val % 16, t.val / 16] ∧ win0_11.index t = ![15 - t.val % 16, t.val / 16] ∧
    win0_12.index t = ![15 - t.val % 16, t.val / 16] :=
  (by decide +kernel : ∀ t : Fin grid0.N, _)

/-- The subsequence of grid point `t`. -/
def dT (t : Fin cfg0.N) : Fin 4 := ⟨t.val / 16, by have h : t.val < 64 := t.isLt; omega⟩

/-- The block of grid point `t`: the blocks are visited from the last to the first. -/
def nT (t : Fin cfg0.N) : Fin 16 := ⟨15 - t.val % 16, by omega⟩

theorem first_eq : ∀ t : Fin cfg0.N,
    Scalar.cmpi CmpIPredicate.eq (Scalar.subi 15#32 (BitVec.ofNat 32 (grid0.coords t 1).val)) 0#32 = isFirst (nT t) :=
  (by decide +kernel : ∀ t : Fin grid0.N, _)

abbrev aX (c : Dev nD) : Vec Ideal S2048x3072 .bf16 := V m c main_v0
abbrev aQ (c : Dev nD) : Vec Ideal S2048x1024 .f32 := V m c main_v1
abbrev aK (c : Dev nD) : Vec Ideal S2048x1024 .f32 := V m c main_v2
abbrev aV (c : Dev nD) : Vec Ideal S2048x1024 .f32 := V m c main_v3
abbrev aD (c : Dev nD) : Vec Ideal S2048x1024 .f32 := V m c main_v4
abbrev aL (c : Dev nD) : Vec Ideal S2048x512 .f32 := V m c main_v5

variable (c : Dev nD) (t : Fin cfg0.N)

theorem blk0 : iblk m c 0 t = qB (aX m c) (dT t) (nT t) := by
  funext y; blk_ext [iblk, idxs t, tile3, dT, nT, prev]
theorem blk1 : iblk m c 1 t = kB (aX m c) (dT t) (prev (nT t)) := by
  funext y; blk_ext [iblk, idxs t, tile3, dT, nT, prev]
theorem blk2 : iblk m c 2 t = kB (aX m c) (dT t) (nT t) := by
  funext y; blk_ext [iblk, idxs t, tile3, dT, nT, prev]
theorem blk3 : iblk m c 3 t = vB (aX m c) (dT t) (prev (nT t)) := by
  funext y; blk_ext [iblk, idxs t, tile3, dT, nT, prev]
theorem blk4 : iblk m c 4 t = vB (aX m c) (dT t) (nT t) := by
  funext y; blk_ext [iblk, idxs t, tile3, dT, nT, prev]
theorem blk5 : iblk m c 5 t = tile1 (aD m c) (nT t) (dT t) := by
  funext y; blk_ext [iblk, idxs t, tile1, dT, nT]
theorem blk6 : iblk m c 6 t = tileL (aL m c) (nT t) (dT t) := by
  funext y; blk_ext [iblk, idxs t, tileL, dT, nT]
theorem blk7 : iblk m c 7 t = tile1 (aQ m c) (nT t) (dT t) := by
  funext y; blk_ext [iblk, idxs t, tile1, dT, nT]
theorem blk8 : iblk m c 8 t = tile1 (aK m c) (nT t) (dT t) := by
  funext y; blk_ext [iblk, idxs t, tile1, dT, nT]
theorem blk9 : iblk m c 9 t = tile1 (aV m c) (nT t) (dT t) := by
  funext y; blk_ext [iblk, idxs t, tile1, dT, nT]

/-! ## What a grid point leaves behind, and what it writes -/

theorem dk_scratch :
    (outsAt0 m c t.val t.isLt).2.2.2.1 = dkLeftB (aX m c) (aD m c) (aL m c) (dT t) (nT t) := by
  by_cases h : t.val % 16 = 0
  · rw [outsAt0_A m c t h]
    frame_out
    rw [blk0, blk1, blk2, blk3, blk4, blk5, blk6, first_eq]
    rfl
  · rw [outsAt0_B m c t h]
    frame_out
    rw [blk0, blk1, blk2, blk3, blk4, blk5, blk6, first_eq]
    rfl

theorem dv_scratch :
    (outsAt0 m c t.val t.isLt).2.2.2.2 = dvLeftB (aX m c) (aD m c) (dT t) (nT t) := by
  by_cases h : t.val % 16 = 0
  · rw [outsAt0_A m c t h]
    frame_out
    rw [blk0, blk1, blk2, blk5, first_eq]
    rfl
  · rw [outsAt0_B m c t h]
    frame_out
    rw [blk0, blk1, blk2, blk5, first_eq]
    rfl

theorem dk_before (h : ¬t.val % 16 = 0) (hp : t.val - 1 < cfg0.N) :
    (outsAt0 m c (t.val - 1) hp).2.2.2.1 = dkCarry (aX m c) (aD m c) (aL m c) (dT t) (nT t) := by
  have hs := dk_scratch m c ⟨t.val - 1, hp⟩
  have hd : dT ⟨t.val - 1, hp⟩ = dT t := Fin.ext (by dsimp only [dT]; omega)
  have hn : nT ⟨t.val - 1, hp⟩ = ⟨(nT t).val + 1, by dsimp only [nT]; omega⟩ := Fin.ext (by dsimp only [nT]; omega)
  rw [hd, hn] at hs
  unfold dkCarry
  rw [dif_pos (by dsimp only [nT]; omega)]
  exact hs

theorem dv_before (h : ¬t.val % 16 = 0) (hp : t.val - 1 < cfg0.N) :
    (outsAt0 m c (t.val - 1) hp).2.2.2.2 = dvCarry (aX m c) (aD m c) (dT t) (nT t) := by
  have hs := dv_scratch m c ⟨t.val - 1, hp⟩
  have hd : dT ⟨t.val - 1, hp⟩ = dT t := Fin.ext (by dsimp only [dT]; omega)
  have hn : nT ⟨t.val - 1, hp⟩ = ⟨(nT t).val + 1, by dsimp only [nT]; omega⟩ := Fin.ext (by dsimp only [nT]; omega)
  rw [hd, hn] at hs
  unfold dvCarry
  rw [dif_pos (by dsimp only [nT]; omega)]
  exact hs

theorem dk_start (h : t.val % 16 = 0) : dkCarry (aX m c) (aD m c) (aL m c) (dT t) (nT t) = k0_pay4 (F := Ideal) := by
  unfold dkCarry
  rw [dif_neg (by dsimp only [nT]; omega)]
  funext y
  pointwise [k0_pay4]

theorem dv_start (h : t.val % 16 = 0) : dvCarry (aX m c) (aD m c) (dT t) (nT t) = k0_pay5 (F := Ideal) := by
  unfold dvCarry
  rw [dif_neg (by dsimp only [nT]; omega)]
  funext y
  pointwise [k0_pay5]

theorem dq_point : (outsAt0 m c t.val t.isLt).1 = dqB (aX m c) (aD m c) (aL m c) (aQ m c) (dT t) (nT t) := by
  by_cases h : t.val % 16 = 0
  · rw [outsAt0_A m c t h]
    frame_out
    rw [blk0, blk1, blk2, blk3, blk4, blk5, blk6, blk7, first_eq]
    rfl
  · rw [outsAt0_B m c t h]
    frame_out
    rw [blk0, blk1, blk2, blk3, blk4, blk5, blk6, blk7, first_eq]
    rfl

theorem dk_point : (outsAt0 m c t.val t.isLt).2.1 = dkB (aX m c) (aD m c) (aL m c) (aK m c) (dT t) (nT t) := by
  by_cases h : t.val % 16 = 0
  · rw [outsAt0_A m c t h]
    frame_out
    rw [blk0, blk1, blk2, blk3, blk4, blk5, blk6, blk8, first_eq, ← dk_start m c t h]
    rfl
  · rw [outsAt0_B m c t h]
    frame_out
    rw [read_unread_whole, dk_before m c t h, blk0, blk1, blk2, blk3, blk4, blk5, blk6, blk8, first_eq]
    rfl

theorem dv_point : (outsAt0 m c t.val t.isLt).2.2.1 = dvB (aX m c) (aD m c) (aV m c) (dT t) (nT t) := by
  by_cases h : t.val % 16 = 0
  · rw [outsAt0_A m c t h]
    frame_out
    rw [blk0, blk1, blk2, blk5, blk9, first_eq, ← dv_start m c t h]
    rfl
  · rw [outsAt0_B m c t h]
    frame_out
    rw [read_unread_whole, dv_before m c t h, blk0, blk1, blk2, blk5, blk9, first_eq]
    rfl

/-! ## The arrays -/

theorem at_block (B : Fin 4 → Fin 16 → FVec Ideal S128x256 .f32) (y : S128x256.Idx) (j : S2048x1024.Idx)
    (h0 : (j 0).val = (nT t).val * 128 + (y 0).val) (h1 : (j 1).val = (dT t).val * 256 + (y 1).val) :
    ofBlocks B j = B (dT t) (nT t) y := by
  have hy0 : (y 0).val < 128 := (y 0).isLt
  have hy1 : (y 1).val < 256 := (y 1).isLt
  unfold ofBlocks
  have e1 : ∀ h, (⟨(j 1).val / 256, h⟩ : Fin 4) = dT t := fun h => Fin.ext (by dsimp only; omega)
  have e2 : ∀ h, (⟨(j 0).val / 128, h⟩ : Fin 16) = nT t := fun h => Fin.ext (by dsimp only; omega)
  rw [e1, e2]
  congr 1
  funext a
  match a with
  | ⟨0, _⟩ => exact Fin.ext (by show (j 0).val % 128 = (y 0).val; omega)
  | ⟨1, _⟩ => exact Fin.ext (by show (j 1).val % 256 = (y 1).val; omega)

theorem dq_array : (dats m 0 c).arrAt 10 cfg0.N = ofBlocks (dqB (aX m c) (aD m c) (aL m c) (aQ m c)) := by
  refine (dats m 0 c).arrAt_eq_of_covers 10 _ (by decide +kernel) fun t _ y => ?_
  blk_simp
  rw [after0_10, dq_point]
  refine (at_block t _ y _ ?_ ?_).symm
  · blk_simp [idxs t, nT]
  · blk_simp [idxs t, dT]

theorem dk_array : (dats m 0 c).arrAt 11 cfg0.N = ofBlocks (dkB (aX m c) (aD m c) (aL m c) (aK m c)) := by
  refine (dats m 0 c).arrAt_eq_of_covers 11 _ (by decide +kernel) fun t _ y => ?_
  blk_simp
  rw [after0_11, dk_point]
  refine (at_block t _ y _ ?_ ?_).symm
  · blk_simp [idxs t, nT]
  · blk_simp [idxs t, dT]

theorem dv_array : (dats m 0 c).arrAt 12 cfg0.N = ofBlocks (dvB (aX m c) (aD m c) (aV m c)) := by
  refine (dats m 0 c).arrAt_eq_of_covers 12 _ (by decide +kernel) fun t _ y => ?_
  blk_simp
  rw [after0_12, dv_point]
  refine (at_block t _ y _ ?_ ?_).symm
  · blk_simp [idxs t, nT]
  · blk_simp [idxs t, dT]

end Cert.KernelIdeal.Rows
-- ==== Proof.Masked.lean ====
/-
  What a row's gradient does not depend on: the keys and values at the masked places.
-/
module

public import proofs.«01_k».proof.Proof.Row

@[expose] public section

set_option maxRecDepth 16384

noncomputable section

namespace Cert.Swa

open Idealize.ShloMosaic Idealize.ShloMosaic.TcCoe Idealize.SL.Sem

variable (first : BitVec 1) (h : Fin 4) (a : Fin 128) (q : Fin 64 → EReal) (kw vw : Fin 256 → Fin 64 → EReal)
  (dl : EReal) (g : Fin 64 → EReal)

/-- The scores of query `a` of head `h`. -/
def rowScore : Fin 256 → EReal := score (okBit first a) (fun k => alibi h * dist a k) q kw

/-- The cotangents of its scores, with the maximum held fixed. -/
def rowBack : Fin 256 → EReal := back (rowScore first h a q kw) dl g vw

/-- The cotangents of its query-key products. -/
def rowGrad : Fin 256 → EReal :=
  scoreGrad (rowScore first h a q kw) (okBit first a) dl (rowBack first h a q kw vw dl g)

variable {first h a q}

theorem rowScore_of_masked (k : Fin 256) (hk : okBit first a k ≠ 1) : rowScore first h a q kw k = ⊥ :=
  if_neg hk

variable {kw vw} {kw' vw' : Fin 256 → Fin 64 → EReal}

/-- Keys that agree where the mask is open give the same scores. -/
theorem rowScore_congr (hk : ∀ k, okBit first a k = 1 → kw k = kw' k) :
    rowScore first h a q kw = rowScore first h a q kw' := by
  funext k
  unfold rowScore score Scalar.select
  by_cases hb : okBit first a k = 1
  · rw [hk k hb]
  · rw [if_neg hb, if_neg hb]

/-- Values that agree where the mask is open give the same cotangents. -/
theorem rowBack_congr (hk : ∀ k, okBit first a k = 1 → kw k = kw' k) (hv : ∀ k, okBit first a k = 1 → vw k = vw' k) :
    rowBack first h a q kw vw dl g = rowBack first h a q kw' vw' dl g := by
  unfold rowBack
  rw [← rowScore_congr hk]
  funext k
  by_cases hb : okBit first a k = 1
  · have ho : outDot (rowScore first h a q kw) g vw = outDot (rowScore first h a q kw) g vw' := by
      unfold outDot mix
      refine Finset.sum_congr rfl fun e _ => congrArg _ (Finset.sum_congr rfl fun l _ => ?_)
      by_cases hl : okBit first a l = 1
      · exact congrArg _ (congrFun (hv l hl) e)
      · rw [wt_of_bot _ l (rowScore_of_masked kw l hl), zero_mul, zero_mul]
    unfold back
    rw [ho, hv k hb]
  · rw [back_of_bot _ dl g vw k (rowScore_of_masked kw k hb), back_of_bot _ dl g vw' k (rowScore_of_masked kw k hb)]

theorem rowGrad_congr (hk : ∀ k, okBit first a k = 1 → kw k = kw' k) (hv : ∀ k, okBit first a k = 1 → vw k = vw' k) :
    rowGrad first h a q kw vw dl g = rowGrad first h a q kw' vw' dl g := by
  unfold rowGrad
  rw [rowBack_congr dl g hk hv, rowScore_congr hk]

/-- A masked key's product has cotangent zero. -/
theorem rowGrad_of_masked (k : Fin 256) (hk : okBit first a k ≠ 1) : rowGrad first h a q kw vw dl g k = 0 := by
  unfold rowGrad scoreGrad Scalar.select
  rw [if_neg hk, zero_mul]

/-- The gradient of the query does not see the masked keys either. -/
theorem rowGrad_sum_congr (hk : ∀ k, okBit first a k = 1 → kw k = kw' k)
    (hv : ∀ k, okBit first a k = 1 → vw k = vw' k) (e : Fin 64) :
    ∑ k, rowGrad first h a q kw vw dl g k * kw k e = ∑ k, rowGrad first h a q kw' vw' dl g k * kw' k e := by
  rw [rowGrad_congr dl g hk hv]
  refine Finset.sum_congr rfl fun k _ => ?_
  by_cases hb : okBit first a k = 1
  · rw [hk k hb]
  · rw [rowGrad_of_masked dl g k hb, zero_mul, zero_mul]

end Cert.Swa
-- ==== Proof.ReferenceRows.lean ====
/-
  What the reference computes for one query row, in the functions of `Row.lean`.
-/
module

public import proofs.«01_k».proof.Proof.Masked
public import proofs.«01_k».proof.Proof.Gen.ReferenceIdeal.Run
public import Idealize.ShloMosaic.Lib.Pointwise

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.ReferenceIdeal.Value Cert.Swa

variable (V0 : Valuation τ sig (Elt Ideal)) (d : Fin 4) (n : Fin 16) (h : Fin 4) (a : Fin 128) (k : Fin 256) (e : Fin 64)

/-! ## The arguments, by subsequence, block and place -/

/-- The row of the arrays which holds place `a` of block `n` of subsequence `d`. -/
def place (d : Fin 4) (n : Fin 16) (a : Fin 128) : Fin 8192 := ⟨(n.val * 128 + a.val) * 4 + d.val, by omega⟩

def xq : EReal := V0 (Proc.tc.devRef main_arg0) (ix2 (place d n a) (⟨h.val * 64 + e.val, by omega⟩ : Fin 768))
def xk : EReal := V0 (Proc.tc.devRef main_arg0) (ix2 (place d n a) (⟨256 + (h.val * 64 + e.val), by omega⟩ : Fin 768))
def xv : EReal := V0 (Proc.tc.devRef main_arg0) (ix2 (place d n a) (⟨512 + (h.val * 64 + e.val), by omega⟩ : Fin 768))
def xg : EReal := V0 (Proc.tc.devRef main_arg1) (ix2 (place d n a) (lane h e))
def xl : EReal := V0 (Proc.tc.devRef main_arg2) (ix2 (place d n a) (⟨h.val, by omega⟩ : Fin 128))

/-- A block and the one before it, which is zero before the first. -/
def withPrev (x : Fin 16 → Fin 128 → Fin 64 → EReal) (n : Fin 16) (k : Fin 256) (e : Fin 64) : EReal :=
  if hk : k.val < 128 then if hn : n.val < 1 then 0 else x ⟨n.val - 1, by omega⟩ ⟨k.val, hk⟩ e
  else x n ⟨k.val - 128, by omega⟩ e

def wk : Fin 256 → Fin 64 → EReal := withPrev (fun n a e => xk V0 d n h a e) n
def wv : Fin 256 → Fin 64 → EReal := withPrev (fun n a e => xv V0 d n h a e) n

def isFirst (n : Fin 16) : BitVec 1 := BitVec.ofBool (decide (n.val = 0))

theorem v13_eq : res_main_v13 V0 (ix5 d n a h e) = xq V0 d n h a e := by
  pointwise [res_main_v13]
  rfl

theorem v16_eq : res_main_v16 V0 (ix5 d n a h e) = xk V0 d n h a e := by
  pointwise [res_main_v16]
  rfl

theorem v25_eq : res_main_v25 V0 (ix5 d n a h e) = xv V0 d n h a e := by
  pointwise [res_main_v25]
  rfl

theorem v22_eq : res_main_v22 V0 (ix5 d n k h e) = wk V0 d n h k e := by
  pointwise [res_main_v22]
  simp only [v16_eq]
  rfl

theorem v31_eq : res_main_v31 V0 (ix5 d n k h e) = wv V0 d n h k e := by
  pointwise [res_main_v31]
  simp only [v25_eq]
  rfl

theorem v113_eq : res_main_v113 V0 (ix5 d n a h e) = xg V0 d n h a e := by
  pointwise [res_main_v113]
  rfl

theorem v114_eq : res_main_v114 V0 (ix4 d n h a) = xl V0 d n h a := by
  pointwise [res_main_v114]
  rfl

/-! ## The scores -/

theorem v40_eq : res_main_v40 V0 (ix2 a k) =
    IntOp.subi (IntOp.addi 128#32 (BitVec.ofNat 32 a.val)) (BitVec.ofNat 32 k.val) := by
  pointwise [res_main_v40, res_main_v35]

theorem not_eq (b : BitVec 1) : ~~~b = IntOp.xori b 1#1 := by
  revert b; decide

theorem first_eq : ∀ n : Fin 16, IntOp.cmpi CmpIPredicate.eq (BitVec.ofNat 32 n.val) 0#32 = isFirst n := by
  decide +kernel

theorem mask_eq : res_main_v77_1 V0 (ix5 d n h a k) = okBit (isFirst n) a k := by
  have h35 : res_main_v35 V0 (ix2 0 k) = BitVec.ofNat 32 k.val := by pointwise [res_main_v35]
  pointwise [res_main_v77_1]
  rw [v40_eq, h35, not_eq, first_eq]
  rfl

theorem alibi_eq : Ideal.ofBits FTy.f32 (lit0 (S4.rowMajor (ix1 h))) = alibi h := by
  have hr : ∀ h : Fin 4, lit0 (S4.rowMajor (ix1 h)) = ![0x3E800000#32, 0x3D800000#32, 0x3C800000#32, 0x3B800000#32] h := by
    decide +kernel
  rw [hr]
  unfold alibi
  obtain ⟨h, hlt⟩ := h
  interval_cases h <;> simp [Ideal.ofBits, Ideal.ieee, -EReal.coe_mul] <;> norm_num

/-- The scores of query `a` of head `h`. -/
abbrev sR : Fin 256 → EReal := rowScore (isFirst n) h a (fun e => xq V0 d n h a e) (wk V0 d n h)

theorem s_eq : res_main_v77_0 V0 (ix5 d n h a k) = sR V0 d n h a k := by
  have hb : id (constant (F := Ideal) S_ FTy.f32 4286578688#32) ix0 = (⊥ : EReal) := by
    show Ideal.ofBits FTy.f32 4286578688#32 = ⊥
    simp [Ideal.ofBits, Ideal.ieee]
  pointwise [res_main_v77_0]
  rw [mask_eq, hb, v40_eq, alibi_eq]
  simp only [v13_eq, v22_eq, neg_mul, ← sub_eq_add_neg]
  rfl

theorem top_eq : res_main_v78 V0 (ix4 d n h a) = top (sR V0 d n h a) := by
  pointwise [res_main_v78]
  have hf := reducesTo_S4x16x4x128x256_S4x16x4x128_d4.fold_fiber_r5_a4 (ix4 d n h a) max floor (res_main_v77_0 V0)
  refine Eq.trans ?_ (hf.trans ?_)
  · congr
  · unfold top
    exact congrArg (Finset.fold max floor · Finset.univ) (funext fun k => s_eq V0 d n h a k)

theorem tie_eq : res_main_v82 V0 (ix5 d n h a k) = tie (sR V0 d n h a) k := by
  pointwise [res_main_v82]
  rw [s_eq, top_eq]
  unfold tie
  by_cases hp : sR V0 d n h a k = top (sR V0 d n h a)
  · rw [if_pos hp, decide_eq_true hp]
    show (((_ : ℕ) : ℝ) : EReal) = 1
    rw [show (BitVec.ofBool true).toNat = 1 by decide]
    norm_cast
  · rw [if_neg hp, decide_eq_false hp]
    show (((_ : ℕ) : ℝ) : EReal) = 0
    rw [show (BitVec.ofBool false).toNat = 0 by decide]
    norm_cast

theorem wt_eq : res_main_v87 V0 (ix5 d n h a k) = wt (sR V0 d n h a) k := by
  pointwise [res_main_v87, res_main_v84]
  rw [s_eq, top_eq]
  rfl

theorem den_eq : res_main_v88 V0 (ix4 d n h a) = den (sR V0 d n h a) := by
  pointwise [res_main_v88]
  simp only [wt_eq]
  rfl

theorem den_eq' : res_main_v92 V0 (ix5 d n a h 0) = den (sR V0 d n h a) := by
  pointwise [res_main_v92]
  exact den_eq V0 d n h a

theorem mix_eq : res_main_v90 V0 (ix5 d n a h e) = mix (sR V0 d n h a) fun k => wv V0 d n h k e := by
  pointwise [res_main_v90]
  simp only [v31_eq, wt_eq, mul_comm (wv V0 d n h _ _)]
  rfl

/-! ## The backward pass -/

theorem v128_eq : res_main_v128 V0 (ix5 d n h e a) = Ideal.div (xg V0 d n h a e) (den (sR V0 d n h a)) := by
  pointwise [res_main_v128]
  rw [v113_eq, den_eq']

abbrev bR : Fin 256 → EReal :=
  rowBack (isFirst n) h a (fun e => xq V0 d n h a e) (wk V0 d n h) (wv V0 d n h) (xl V0 d n h a) fun e => xg V0 d n h a e

theorem back_eq : res_main_v134 V0 (ix5 d n h a k) = bR V0 d n h a k := by
  pointwise [res_main_v134]
  simp only [v128_eq, v31_eq, v114_eq, den_eq, v113_eq, den_eq', mix_eq, wt_eq, Fin.sum_univ_one]
  rfl

abbrev gR : Fin 256 → EReal :=
  rowGrad (isFirst n) h a (fun e => xq V0 d n h a e) (wk V0 d n h) (wv V0 d n h) (xl V0 d n h a) fun e => xg V0 d n h a e

/-- A factor may be taken out of a choice between something and zero. -/
theorem select_mul (b : BitVec 1) (x c : EReal) : Scalar.select b (x * c) 0 = Scalar.select b x 0 * c := by
  unfold Scalar.select
  split_ifs
  · rfl
  · rw [zero_mul]

theorem grad_eq : res_main_v146 V0 (ix5 d n h a k) = gR V0 d n h a k := by
  pointwise [res_main_v146]
  simp only [mask_eq, back_eq, v114_eq, tie_eq, Fin.sum_univ_one, select_mul]
  rfl

/-- What block `n` contributes to the gradients of the keys and values it sees. -/
def dkR : EReal := ∑ a, gR V0 d n h a k * xq V0 d n h a e
def dvR : EReal := ∑ a, wt (sR V0 d n h a) k * Ideal.div (xg V0 d n h a e) (den (sR V0 d n h a))

theorem v131_eq : res_main_v131 V0 (ix5 d n k h e) = dvR V0 d n h k e := by
  pointwise [res_main_v131]
  simp only [v128_eq, wt_eq, mul_comm (Ideal.div _ _)]
  rfl

theorem v148_eq : res_main_v148 V0 (ix5 d n k h e) = dkR V0 d n h k e := by
  pointwise [res_main_v148]
  simp only [grad_eq, v13_eq]
  rfl

theorem v151_eq (a : Fin 128) : res_main_v151 V0 (ix5 d n a h e) = dvR V0 d n h ⟨a.val, by omega⟩ e := by
  pointwise [res_main_v151]
  exact v131_eq V0 d n h _ e

theorem v160_eq (a : Fin 128) : res_main_v160 V0 (ix5 d n a h e) = dkR V0 d n h ⟨a.val, by omega⟩ e := by
  pointwise [res_main_v160]
  exact v148_eq V0 d n h _ e

end Cert.ReferenceIdeal.Rows
-- ==== Proof.ReferenceResults.lean ====
/-
  The reference's three results, read at the row and column which hold one place of one block.
-/
module

public import proofs.«01_k».proof.Proof.ReferenceRows

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.ReferenceIdeal.Value Cert.Swa

variable (V0 : Valuation τ sig (Elt Ideal)) (d : Fin 4) (n : Fin 16) (h : Fin 4) (a : Fin 128) (e : Fin 64)

/-- A gradient laid out as the results are, added to what was accumulated before. -/
def laid (A : FVec Ideal S8192x256 .f32) (G : FVec Ideal S4x16x128x4x64 .f32) : FVec Ideal S2048x1024 .f32 :=
  shapeCast S2048x1024 (addf A (shapeCast S8192x256 (shapeCast S8192x4x64 (transpose S2048x4x4x64 [1, 0, 2, 3]
    (shapeCast S4x2048x4x64 G shapeCasts_S4x16x128x4x64_S4x2048x4x64) transposes_S4x2048x4x64_S2048x4x4x64_1_0_2_3)
    shapeCasts_S2048x4x4x64_S8192x4x64) shapeCasts_S8192x4x64_S8192x256)) shapeCasts_S8192x256_S2048x1024

theorem laid_at (A : FVec Ideal S8192x256 .f32) (G : FVec Ideal S4x16x128x4x64 .f32) :
    laid A G (ix2 (⟨n.val * 128 + a.val, by omega⟩ : Fin 2048) (⟨d.val * 256 + (h.val * 64 + e.val), by omega⟩ : Fin 1024)) =
      A (ix2 (place d n a) (lane h e)) + G (ix5 d n a h e) := by
  pointwise [laid]
  refine congrArg (· + _) (congrArg A ?_)
  have h1 : (d.val * 256 + (h.val * 64 + e.val)) / 256 = d.val := by omega
  have h2 : (d.val * 256 + (h.val * 64 + e.val)) % 256 = h.val * 64 + e.val := by omega
  unfold place lane
  simp only [h1, h2]

/-- A block's own part of a gradient, and the part the block after it contributes. -/
def joined (G : FVec Ideal S4x16x256x4x64 .f32) (H : FVec Ideal S4x16x128x4x64 .f32) : FVec Ideal S4x16x128x4x64 .f32 :=
  addf (extractStridedSlice S4x16x128x4x64 ![0, 0, 128, 0, 0] G slices_S4x16x256x4x64_S4x16x128x4x64_0_0_128_0_0)
    (pad S4x16x128x4x64 ![0, 0, 0, 0, 0] ![0, 1, 0, 0, 0] ![0, 0, 0, 0, 0]
      (extractStridedSlice S4x15x128x4x64 ![0, 1, 0, 0, 0] H slices_S4x16x128x4x64_S4x15x128x4x64_0_1_0_0_0)
      (constant S_ .f32 0x00000000#32) pads_S4x15x128x4x64_S4x16x128x4x64_000_010_000_000_000 h_S_)

theorem joined_at (G : FVec Ideal S4x16x256x4x64 .f32) (H : FVec Ideal S4x16x128x4x64 .f32) :
    joined G H (ix5 d n a h e) = G (ix5 d n (⟨128 + a.val, by omega⟩ : Fin 256) h e) +
      if hn : n.val < 15 then H (ix5 d (⟨n.val + 1, by omega⟩ : Fin 16) a h e) else 0 := by
  pointwise [joined]
  by_cases hn : n.val < 15
  · rw [dif_pos hn, dif_pos hn]
    have h1 : (⟨1 + n.val, by omega⟩ : Fin 16) = ⟨n.val + 1, by omega⟩ := Fin.ext (by dsimp only; omega)
    rw [h1]
  · rw [dif_neg hn, dif_neg hn]

/-- The gradient of the queries, before it is laid out. -/
def dqG : FVec Ideal S4x16x128x4x64 .f32 :=
  transpose S4x16x128x4x64 [0, 1, 3, 2, 4] (Host.dotGeneral (φ₁ := .f32) (φ₂ := .f32)
    dot_S4x16x4x128x256_S4x16x256x4x64_S4x16x4x128x64_4_2_3_4_012_013 none (res_main_v146 V0) (res_main_v22 V0))
    transposes_S4x16x4x128x64_S4x16x128x4x64_0_1_3_2_4

theorem dqG_at : dqG V0 (ix5 d n a h e) = ∑ k, gR V0 d n h a k * wk V0 d n h k e := by
  pointwise [dqG]
  simp only [grad_eq, v22_eq]

theorem dk_at : joined (res_main_v148 V0) (res_main_v160 V0) (ix5 d n a h e) =
    dkR V0 d n h ⟨128 + a.val, by omega⟩ e + if hn : n.val < 15 then dkR V0 d ⟨n.val + 1, by omega⟩ h ⟨a.val, by omega⟩ e else 0 := by
  rw [joined_at, v148_eq]
  by_cases hn : n.val < 15
  · rw [dif_pos hn, dif_pos hn, v160_eq]
  · rw [dif_neg hn, dif_neg hn]

theorem dv_at : joined (res_main_v131 V0) (res_main_v151 V0) (ix5 d n a h e) =
    dvR V0 d n h ⟨128 + a.val, by omega⟩ e + if hn : n.val < 15 then dvR V0 d ⟨n.val + 1, by omega⟩ h ⟨a.val, by omega⟩ e else 0 := by
  rw [joined_at, v131_eq]
  by_cases hn : n.val < 15
  · rw [dif_pos hn, dif_pos hn, v151_eq]
  · rw [dif_neg hn, dif_neg hn]

end Cert.ReferenceIdeal.Rows
-- ==== Proof.Equation.lean ====
/-
  The kernel's three arrays are the reference's three results, when both start from the same arguments.
-/
module

public import proofs.«01_k».proof.Proof.KernelArray
public import proofs.«01_k».proof.Proof.ReferenceResults
public import Idealize.ShloMosaic.Lib.Claim

@[expose] public section

set_option maxRecDepth 16384

noncomputable section

namespace Cert.Swa

open Idealize.ShloMosaic Idealize.ShloMosaic.TcCoe Idealize.SL.Sem
open Cert.KernelIdeal Cert.KernelIdeal.Rows
open Cert.ReferenceIdeal.Rows (place xq xk xv xg xl wk wv withPrev sR gR dkR dvR laid joined dqG)

/-- In the first block every key of the block before it is masked. -/
theorem masked_first (a : Fin 128) (k : Fin 256) (hk : k.val < 128) (n : Fin 16) (hn : n.val < 1) :
    okBit (isFirst n) a k ≠ 1 := by
  have h1 : isFirst n = 1#1 := by
    unfold isFirst
    rw [decide_eq_true (by omega : n.val = 0)]
    rfl
  have h2 := (by decide +kernel : ∀ k : Fin 256, k.val < 128 → IntOp.cmpi .slt (BitVec.ofNat 32 k.val) 128#32 = 1#1) k hk
  unfold okBit
  rw [h1, h2]
  exact (by decide : ∀ b c : BitVec 1, IntOp.andi (IntOp.andi b c) (IntOp.xori (IntOp.andi 1#1 1#1) 1#1) ≠ 1) _ _

section blocks

variable {V0 : Valuation Cert.ReferenceIdeal.τ Cert.ReferenceIdeal.sig (Elt Ideal)}
  {X : Vec Ideal S2048x3072 .bf16} {D : Vec Ideal S2048x1024 .f32} {L : Vec Ideal S2048x512 .f32}
  (hq : ∀ d n h a e, qB X d n (ix2 a (lane h e)) = xq V0 d n h a e)
  (hk : ∀ d n h a e, kB X d n (ix2 a (lane h e)) = xk V0 d n h a e)
  (hv : ∀ d n h a e, vB X d n (ix2 a (lane h e)) = xv V0 d n h a e)
  (hg : ∀ d n h a e, tile1 D n d (ix2 a (lane h e)) = xg V0 d n h a e)
  (hl : ∀ d n (h : Fin 4) a, tileL L n d (ix2 a ⟨h.val, by omega⟩) = xl V0 d n h a)

/-- A block and the one before it, in both programs, at an open place. -/
theorem window_eq {T : Fin 16 → Vec Ideal S128x256 .bf16} {x : Fin 16 → Fin 128 → Fin 64 → EReal} {h : Fin 4}
    (hT : ∀ n a e, T n (ix2 a (lane h e)) = x n a e) (n : Fin 16) (a : Fin 128) (k : Fin 256)
    (ho : okBit (isFirst n) a k = 1) : (fun e => two (T (prev n)) (T n) k (lane h e)) = withPrev x n k := by
  funext e
  unfold two withPrev
  by_cases h1 : k.val < 128
  · rw [dif_pos h1, dif_pos h1]
    by_cases h2 : n.val < 1
    · exact absurd ho (masked_first a k h1 n h2)
    · rw [dif_neg h2]
      exact hT _ _ _
  · rw [dif_neg h1, dif_neg h1]
    exact hT _ _ _

include hq hk in
theorem score_eq (d : Fin 4) (n : Fin 16) (h : Fin 4) (a : Fin 128) :
    rowS (isFirst n) (qB X d n) (kB X d (prev n)) (kB X d n) h a = sR V0 d n h a := by
  have h1 : (fun e => qB X d n (ix2 a (lane h e))) = fun e => xq V0 d n h a e := funext fun e => hq d n h a e
  have h2 := rowScore_congr (first := isFirst n) (h := h) (a := a) (q := fun e => xq V0 d n h a e) fun k ho =>
    window_eq (T := kB X d) (fun n a e => hk d n h a e) n a k ho
  exact (congrArg (fun q => rowScore (isFirst n) h a q _) h1).trans h2

include hq hk hv hg hl in
theorem grad_eq' (d : Fin 4) (n : Fin 16) (h : Fin 4) (a : Fin 128) :
    rowG (isFirst n) (qB X d n) (kB X d (prev n)) (kB X d n) (vB X d (prev n)) (vB X d n) (tile1 D n d) (tileL L n d) h a =
      gR V0 d n h a := by
  have h1 : (fun e => qB X d n (ix2 a (lane h e))) = fun e => xq V0 d n h a e := funext fun e => hq d n h a e
  have h2 : (fun e => tile1 D n d (ix2 a (lane h e))) = fun e => xg V0 d n h a e := funext fun e => hg d n h a e
  have h3 := rowGrad_congr (first := isFirst n) (h := h) (a := a) (q := fun e => xq V0 d n h a e)
    (xl V0 d n h a) (fun e => xg V0 d n h a e)
    (fun k ho => window_eq (T := kB X d) (fun n a e => hk d n h a e) n a k ho)
    (fun k ho => window_eq (T := vB X d) (fun n a e => hv d n h a e) n a k ho)
  refine Eq.trans ?_ h3
  rw [← hl d n h a, ← h1, ← h2]
  rfl

include hq hk hv hg hl in
theorem dq_eq (d : Fin 4) (n : Fin 16) (h : Fin 4) (a : Fin 128) (e : Fin 64) :
    dqAt (isFirst n) (qB X d n) (kB X d (prev n)) (kB X d n) (vB X d (prev n)) (vB X d n) (tile1 D n d) (tileL L n d) h a e =
      ∑ k, gR V0 d n h a k * wk V0 d n h k e := by
  unfold dqAt
  rw [grad_eq' hq hk hv hg hl]
  refine Finset.sum_congr rfl fun k _ => ?_
  by_cases ho : okBit (isFirst n) a k = 1
  · exact congrArg (_ * ·) (congrFun (window_eq (T := kB X d) (fun n a e => hk d n h a e) n a k ho) e)
  · have hz : gR V0 d n h a k = 0 := rowGrad_of_masked _ _ k ho
    rw [hz, zero_mul, zero_mul]

include hq hk hv hg hl in
theorem dk_eq (d : Fin 4) (n : Fin 16) (h : Fin 4) (k : Fin 256) (e : Fin 64) :
    dkAt (isFirst n) (qB X d n) (kB X d (prev n)) (kB X d n) (vB X d (prev n)) (vB X d n) (tile1 D n d) (tileL L n d) h k e =
      dkR V0 d n h k e := by
  unfold dkAt dkR
  refine Finset.sum_congr rfl fun a _ => ?_
  rw [grad_eq' hq hk hv hg hl, hq]

include hq hk hg in
theorem dv_eq' (d : Fin 4) (n : Fin 16) (h : Fin 4) (k : Fin 256) (e : Fin 64) :
    dvAt (isFirst n) (qB X d n) (kB X d (prev n)) (kB X d n) (tile1 D n d) h k e = dvR V0 d n h k e := by
  unfold dvAt dvR
  refine Finset.sum_congr rfl fun a _ => ?_
  rw [score_eq hq hk, hg]

end blocks

/-! ## The arrays -/

/-- Two arrays are equal when they agree at every place of every block. -/
theorem ext_places {U W : FVec Ideal S2048x1024 .f32}
    (hUW : ∀ (d : Fin 4) (n : Fin 16) (h : Fin 4) (a : Fin 128) (e : Fin 64),
      U (ix2 (⟨n.val * 128 + a.val, by omega⟩ : Fin 2048) (⟨d.val * 256 + (h.val * 64 + e.val), by omega⟩ : Fin 1024)) =
      W (ix2 (⟨n.val * 128 + a.val, by omega⟩ : Fin 2048) (⟨d.val * 256 + (h.val * 64 + e.val), by omega⟩ : Fin 1024))) :
    U = W := by
  funext j
  obtain ⟨r, c, rfl⟩ : ∃ (r : Fin 2048) (c : Fin 1024), j = ix2 r c := ⟨j 0, j 1, by
    funext x
    match x with
    | ⟨0, _⟩ => rfl
    | ⟨1, _⟩ => rfl⟩
  have hh := hUW ⟨c.val / 256, by omega⟩ ⟨r.val / 128, by omega⟩ ⟨c.val % 256 / 64, by omega⟩ ⟨r.val % 128, by omega⟩
    ⟨c.val % 64, by omega⟩
  have e1 : (⟨r.val / 128 * 128 + r.val % 128, by omega⟩ : Fin 2048) = r := Fin.ext (by dsimp only; omega)
  have e2 : (⟨c.val / 256 * 256 + (c.val % 256 / 64 * 64 + c.val % 64), by omega⟩ : Fin 1024) = c :=
    Fin.ext (by dsimp only; omega)
  simpa only [e1, e2] using hh

theorem ofBlocks_at (B : Fin 4 → Fin 16 → FVec Ideal S128x256 .f32) (d : Fin 4) (n : Fin 16) (h : Fin 4) (a : Fin 128)
    (e : Fin 64) :
    ofBlocks B (ix2 (⟨n.val * 128 + a.val, by omega⟩ : Fin 2048) (⟨d.val * 256 + (h.val * 64 + e.val), by omega⟩ : Fin 1024)) =
      B d n (ix2 a (lane h e)) := by
  have h1 : (⟨(n.val * 128 + a.val) / 128, by omega⟩ : Fin 16) = n := Fin.ext (by dsimp only; omega)
  have h2 : (⟨(n.val * 128 + a.val) % 128, by omega⟩ : Fin 128) = a := Fin.ext (by dsimp only; omega)
  have h3 : (⟨(d.val * 256 + (h.val * 64 + e.val)) / 256, by omega⟩ : Fin 4) = d := Fin.ext (by dsimp only; omega)
  have h4 : (⟨(d.val * 256 + (h.val * 64 + e.val)) % 256, by omega⟩ : Fin 256) = lane h e :=
    Fin.ext (by unfold lane; dsimp only; omega)
  show B ⟨(d.val * 256 + (h.val * 64 + e.val)) / 256, _⟩ ⟨(n.val * 128 + a.val) / 128, _⟩
    (ix2 ⟨(n.val * 128 + a.val) % 128, _⟩ ⟨(d.val * 256 + (h.val * 64 + e.val)) % 256, _⟩) = _
  rw [h1, h2, h3, h4]

section arrays

variable (m : (ℓ : Loc Cert.KernelIdeal.nD Cert.KernelIdeal.τ Cert.KernelIdeal.sig) → Buf (Elt Ideal) ℓ)
  (c : Dev Cert.KernelIdeal.nD) (V0 : Valuation Cert.ReferenceIdeal.τ Cert.ReferenceIdeal.sig (Elt Ideal))
  (d : Fin 4) (n : Fin 16) (h : Fin 4) (a : Fin 128) (e : Fin 64)

/-- The two programs' arguments agree. -/
structure Agree : Prop where
  x0 : V0 (Proc.tc.devRef Cert.ReferenceIdeal.main_arg0) = m ((c.tc : Thread Cert.KernelIdeal.nD Cert.KernelIdeal.τ).loc Cert.KernelIdeal.main_arg0)
  x1 : V0 (Proc.tc.devRef Cert.ReferenceIdeal.main_arg1) = m ((c.tc : Thread Cert.KernelIdeal.nD Cert.KernelIdeal.τ).loc Cert.KernelIdeal.main_arg1)
  x2 : V0 (Proc.tc.devRef Cert.ReferenceIdeal.main_arg2) = m ((c.tc : Thread Cert.KernelIdeal.nD Cert.KernelIdeal.τ).loc Cert.KernelIdeal.main_arg2)
  x3 : V0 (Proc.tc.devRef Cert.ReferenceIdeal.main_arg3) = m ((c.tc : Thread Cert.KernelIdeal.nD Cert.KernelIdeal.τ).loc Cert.KernelIdeal.main_arg3)
  x4 : V0 (Proc.tc.devRef Cert.ReferenceIdeal.main_arg4) = m ((c.tc : Thread Cert.KernelIdeal.nD Cert.KernelIdeal.τ).loc Cert.KernelIdeal.main_arg4)
  x5 : V0 (Proc.tc.devRef Cert.ReferenceIdeal.main_arg5) = m ((c.tc : Thread Cert.KernelIdeal.nD Cert.KernelIdeal.τ).loc Cert.KernelIdeal.main_arg5)

variable {m c V0} (hA : Agree m c V0)

/-- Two indices with the same coordinates. -/
theorem ix2_congr {p q : ℕ} {x x' : Fin p} {y y' : Fin q} (hx : x.val = x'.val) (hy : y.val = y'.val) : ix2 x y = ix2 x' y' := by
  rw [Fin.ext hx, Fin.ext hy]

include hA in
theorem q_at : qB (aX m c) d n (ix2 a (lane h e)) = xq V0 d n h a e := by
  unfold qB tile3 aX xq
  rw [hA.x0]
  entry_read
  pointwise
  exact congrArg (m _) (ix2_congr (by dsimp only [place, lane]; omega) (by dsimp only [lane]; omega))

include hA in
theorem k_at : kB (aX m c) d n (ix2 a (lane h e)) = xk V0 d n h a e := by
  unfold kB tile3 aX xk
  rw [hA.x0]
  entry_read
  pointwise
  exact congrArg (m _) (ix2_congr (by dsimp only [place, lane]; omega) (by dsimp only [lane]; omega))

include hA in
theorem v_at : vB (aX m c) d n (ix2 a (lane h e)) = xv V0 d n h a e := by
  unfold vB tile3 aX xv
  rw [hA.x0]
  entry_read
  pointwise
  exact congrArg (m _) (ix2_congr (by dsimp only [place, lane]; omega) (by dsimp only [lane]; omega))

include hA in
theorem g_at : tile1 (aD m c) n d (ix2 a (lane h e)) = xg V0 d n h a e := by
  unfold tile1 aD xg
  rw [hA.x1]
  entry_read
  pointwise
  exact congrArg (m _) (ix2_congr (by dsimp only [place, lane]; omega) (by dsimp only [lane]))

include hA in
theorem l_at : tileL (aL m c) n d (ix2 a ⟨h.val, by omega⟩) = xl V0 d n h a := by
  unfold tileL aL xl
  rw [hA.x2]
  entry_read
  pointwise
  exact congrArg (m _) (ix2_congr (by dsimp only [place]; omega) (by dsimp only; omega))

include hA in
theorem accq_at : tile1 (aQ m c) n d (ix2 a (lane h e)) =
    V0 (Proc.tc.devRef Cert.ReferenceIdeal.main_arg3) (ix2 (place d n a) (lane h e)) := by
  unfold tile1 aQ
  rw [hA.x3]
  entry_read
  pointwise
  exact congrArg (m _) (ix2_congr (by dsimp only [place, lane]; omega) (by dsimp only [lane]))

include hA in
theorem acck_at : tile1 (aK m c) n d (ix2 a (lane h e)) =
    V0 (Proc.tc.devRef Cert.ReferenceIdeal.main_arg4) (ix2 (place d n a) (lane h e)) := by
  unfold tile1 aK
  rw [hA.x4]
  entry_read
  pointwise
  exact congrArg (m _) (ix2_congr (by dsimp only [place, lane]; omega) (by dsimp only [lane]))

include hA in
theorem accv_at : tile1 (aV m c) n d (ix2 a (lane h e)) =
    V0 (Proc.tc.devRef Cert.ReferenceIdeal.main_arg5) (ix2 (place d n a) (lane h e)) := by
  unfold tile1 aV
  rw [hA.x5]
  entry_read
  pointwise
  exact congrArg (m _) (ix2_congr (by dsimp only [place, lane]; omega) (by dsimp only [lane]))

variable (m c V0)

open Cert.KernelIdeal.Gen (dats) in
include hA in
/-- The gradients of the queries. -/
theorem dq_result : (dats m 0 c).arrAt 10 Cert.KernelIdeal.cfg0.N =
    laid (V0 (Proc.tc.devRef Cert.ReferenceIdeal.main_arg3)) (dqG V0) := by
  rw [dq_array]
  refine ext_places fun d n h a e => ?_
  rw [ofBlocks_at, Cert.ReferenceIdeal.Rows.laid_at]
  unfold dqB
  rw [dq_out, dq_eq (q_at (hA := hA)) (k_at (hA := hA)) (v_at (hA := hA)) (g_at (hA := hA)) (l_at (hA := hA)), accq_at (hA := hA),
    Cert.ReferenceIdeal.Rows.dqG_at]
  exact add_comm _ _

open Cert.KernelIdeal.Gen (dats) in
include hA in
/-- The gradients of the keys. -/
theorem dk_result : (dats m 0 c).arrAt 11 Cert.KernelIdeal.cfg0.N =
    laid (V0 (Proc.tc.devRef Cert.ReferenceIdeal.main_arg4))
      (joined (Cert.ReferenceIdeal.Value.res_main_v148 V0) (Cert.ReferenceIdeal.Value.res_main_v160 V0)) := by
  rw [dk_array]
  refine ext_places fun d n h a e => ?_
  have hd := dk_eq (q_at (hA := hA)) (k_at (hA := hA)) (v_at (hA := hA)) (g_at (hA := hA)) (l_at (hA := hA))
  rw [ofBlocks_at, Cert.ReferenceIdeal.Rows.laid_at]
  unfold dkB
  rw [dk_out, hd, acck_at (hA := hA), Cert.ReferenceIdeal.Rows.dk_at]
  unfold dkCarry
  by_cases hn : n.val < 15
  · rw [dif_pos hn, dif_pos hn]
    unfold dkLeftB
    rw [dk_left, hd]
    exact add_comm _ _
  · rw [dif_neg hn, dif_neg hn]
    exact add_comm _ _

open Cert.KernelIdeal.Gen (dats) in
include hA in
/-- The gradients of the values. -/
theorem dv_result : (dats m 0 c).arrAt 12 Cert.KernelIdeal.cfg0.N =
    laid (V0 (Proc.tc.devRef Cert.ReferenceIdeal.main_arg5))
      (joined (Cert.ReferenceIdeal.Value.res_main_v131 V0) (Cert.ReferenceIdeal.Value.res_main_v151 V0)) := by
  rw [dv_array]
  refine ext_places fun d n h a e => ?_
  have hd := dv_eq' (q_at (hA := hA)) (k_at (hA := hA)) (g_at (hA := hA))
  rw [ofBlocks_at, Cert.ReferenceIdeal.Rows.laid_at]
  unfold dvB
  rw [dv_out, hd, accv_at (hA := hA), Cert.ReferenceIdeal.Rows.dv_at]
  unfold dvCarry
  by_cases hn : n.val < 15
  · rw [dif_pos hn, dif_pos hn]
    unfold dvLeftB
    rw [dv_left, hd]
    exact add_comm _ _
  · rw [dif_neg hn, dif_neg hn]
    exact add_comm _ _

end arrays

end Cert.Swa
-- ==== Proof.SwaClaims.lean ====
/-
  The five claims about the backward pass of the dilated window attention.
-/
module

public import proofs.«01_k».proof.Defs
public import proofs.«01_k».proof.Proof.Gen.Kernel.Frame
public import proofs.«01_k».proof.Proof.Gen.KernelIdeal.Frame
public import proofs.«01_k».proof.Proof.Equation
public import Idealize.ShloMosaic.Lib.Quiescent

@[expose] public section

noncomputable section

namespace Cert.Swa

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The two named constants denote what the table says. -/
theorem preserves : Cert.preserves_Kernel_KernelIdeal :=
  ⟨IdealRules.named_const.statement Cert.KernelIdeal.κ "alibi" .f32 0xBFB17218#32 ((-(2 * (Real.log 2)) : ℝ) : EReal) rfl,
    IdealRules.named_const.statement Cert.KernelIdeal.κ "mask" .f32 0xF149F2CA#32 ⊥ rfl⟩

/-- The kernel's three arrays are the reference's three gradients. -/
theorem algebraic : Cert.algebraic_KernelIdeal_ReferenceIdeal := by
  intro m ρ m' ρ' _ hagree
  refine ⟨_, _, _, Cert.KernelIdeal.Value.run_blocks (F := Ideal) m ρ, ?_⟩
  refine (θ_run Cert.ReferenceIdeal.defs _ _).mono (fun _ h c => ?_) (Cert.ReferenceIdeal.Value.run (F := Ideal) m' ρ')
  have hA : Agree m c (StableHlo.launchContents m' c) :=
    ⟨(hagree c).1, (hagree c).2.1, (hagree c).2.2.1, (hagree c).2.2.2.1, (hagree c).2.2.2.2.1, (hagree c).2.2.2.2.2⟩
  exact ⟨(h c).1.trans (dq_result m c _ hA).symm, (h c).2.1.trans (dk_result m c _ hA).symm,
    (h c).2.2.1.trans (dv_result m c _ hA).symm, (h c).2.2.2⟩

end Cert.Swa
-- ==== Proof.FfnRow.lean ====
/-
  One row of the SwiGLU layer and of its gradient, as functions of extended reals: `x` is the row of the residual
  stream, `g` the norm's gain, `w` the gate and up weights side by side, `v` the down weights, `d` the row's cotangent.
-/
module

public import Idealize.ShloMosaic.PureOps.Ideal
public import Idealize.ShloMosaic.Lib.ValueIdx

@[expose] public section

noncomputable section

namespace Cert.Ffn

open Idealize.ShloMosaic

/-- The number of features, 1024. -/
abbrev width : EReal := Ideal.ofBits .f32 0x44800000#32
/-- The norm's epsilon. -/
abbrev eps : EReal := Ideal.ofBits .f32 0x358637BD#32
/-- One half. -/
abbrev half : EReal := Ideal.ofBits .f32 0x3F000000#32
/-- Minus one half. -/
abbrev negHalf : EReal := Ideal.ofBits .f32 0xBF000000#32

/-! ## The norm -/

variable (x g : Fin 1024 → EReal)

/-- The mean of the squares, plus epsilon. -/
def meanSq : EReal := Ideal.div (∑ e, x e * x e) width + eps

/-- The reciprocal of its root. -/
def invRms : EReal := Ideal.rsqrt (meanSq x)

/-- The normed row. -/
def normed (e : Fin 1024) : EReal := x e * invRms x * g e

/-- The gradient of the row through the norm, from the normed row's cotangent `dn`. -/
def normBack (dn : Fin 1024 → EReal) (e : Fin 1024) : EReal :=
  dn e * g e * invRms x +
    x e * (Ideal.div ((∑ e, x e * (dn e * g e)) * (negHalf * Ideal.div (invRms x) (meanSq x))) width) +
    Ideal.div ((∑ e, x e * (dn e * g e)) * (negHalf * Ideal.div (invRms x) (meanSq x))) width * x e

/-! ## The gate -/

/-- The logistic function. -/
def sig (a : EReal) : EReal := Ideal.div 1 (1 + Ideal.exp (-a))

/-- The cotangent of the gate `a`, from the up value `b` and the cotangent `d` of their product. -/
def gateBack (a b d : EReal) : EReal := d * b * sig a + a * (d * b) * (sig a * (1 - sig a))

/-- The cotangent of the up value. -/
def upBack (a d : EReal) : EReal := a * sig a * d

/-- The exponential is never negative. -/
theorem exp_cases (a : EReal) : Ideal.exp a = ⊤ ∨ ∃ r : ℝ, 0 ≤ r ∧ Ideal.exp a = (r : EReal) := by
  induction a with
  | bot => exact .inr ⟨0, le_rfl, rfl⟩
  | coe a => exact .inr ⟨Real.exp a, (Real.exp_pos a).le, rfl⟩
  | top => exact .inl rfl

/-- The logistic function's derivative, from `e = exp (-a)`. -/
theorem sig_deriv {e : EReal} (h : e = ⊤ ∨ ∃ r : ℝ, 0 ≤ r ∧ e = (r : EReal)) :
    Ideal.div 1 ((1 + e) * (1 + e)) * e = Ideal.div 1 (1 + e) * (1 - Ideal.div 1 (1 + e)) := by
  obtain rfl | ⟨r, hr, rfl⟩ := h
  · have ht : (1 : EReal) + ⊤ = ⊤ := by rw [← EReal.coe_one]; exact EReal.coe_add_top 1
    have hz : Ideal.div 1 ⊤ = 0 := by simp [Ideal.div]
    rw [ht, EReal.top_mul_top, hz, zero_mul, zero_mul]
  · have hd : ∀ s : ℝ, 0 < s → Ideal.div 1 (s : EReal) = ((1 / s : ℝ) : EReal) := fun s hs => by
      have hne : (s : EReal) ≠ 0 := by exact_mod_cast hs.ne'
      rw [Ideal.div, if_neg hne, one_mul, one_div, EReal.coe_inv]
    have h1 : (1 : EReal) + (r : EReal) = ((1 + r : ℝ) : EReal) := by rw [EReal.coe_add, EReal.coe_one]
    have hp : 0 < 1 + r := by linarith
    rw [h1, ← EReal.coe_mul, hd _ hp, hd _ (mul_pos hp hp), ← EReal.coe_one, ← EReal.coe_sub, ← EReal.coe_mul,
      ← EReal.coe_mul]
    congr 1
    field_simp
    ring

/-- The gate's cotangent with the derivative of `1 / (1 + exp (-a))` taken as that of a quotient. -/
theorem gateBack_quotient (a b d : EReal) :
    d * b * Ideal.div 1 (1 + Ideal.exp (0 - a)) +
      (0 - (0 - a * (d * b) * Ideal.div 1 ((1 + Ideal.exp (0 - a)) * (1 + Ideal.exp (0 - a)))) * Ideal.exp (0 - a)) =
    gateBack a b d := by
  have hn : ∀ z : EReal, 0 - z = -z := fun z => zero_sub z
  unfold gateBack sig
  rw [hn, hn, hn, neg_mul, neg_neg, mul_assoc (a * (d * b)), sig_deriv (exp_cases (-a))]

/-! ## Sums -/

/-- A non-negative finite factor passes out of a sum of products. -/
theorem half_sum {ι : Type} [Fintype ι] (p q : ι → EReal) : (∑ i, p i * q i) * half = ∑ i, half * p i * q i := by
  have hh : half = ((1 / 2 : ℝ) : EReal) := by
    show Ideal.ofBits .f32 0x3F000000#32 = _
    simp [Ideal.ofBits, Ideal.ieee, -EReal.coe_mul]
    norm_num
  have hd : ∀ s : Finset ι, (∑ i ∈ s, p i * q i) * half = ∑ i ∈ s, half * p i * q i := by
    classical
    intro s
    induction s using Finset.induction_on with
    | empty => simp
    | insert a s ha ih =>
      rw [Finset.sum_insert ha, Finset.sum_insert ha, ← ih, hh,
        EReal.right_distrib_of_nonneg_of_ne_top, mul_comm (p a * q a), ← mul_assoc]
      · exact_mod_cast (by norm_num : (0 : ℝ) ≤ 1 / 2)
      · exact EReal.coe_ne_top _
  exact hd _

end Cert.Ffn
-- ==== Proof.FfnKernelRows.lean ====
/-
  What one block of each of the SwiGLU layer's calls computes, in the functions of `FfnRow.lean`.
-/
module

public import proofs.«01_k».proof.Proof.FfnRow
public import proofs.«01_k».proof.Proof.Gen.FfnKernelIdeal.Skeleton
public import Idealize.ShloMosaic.Lib.Pointwise

@[expose] public section

set_option maxRecDepth 16384

noncomputable section

namespace Cert.FfnKernelIdeal.Rows

open Idealize.ShloMosaic Idealize.ShloMosaic.TcCoe Idealize.SL.Sem
open Cert.FfnKernelIdeal Cert.FfnKernelIdeal.Gen Cert.Ffn

theorem norm_row (a : Vec Ideal S512x1024 .f32) (b : Vec Ideal S1x1024 .f32) (p : Fin 512) (q : Fin 1024) :
    k0_pay1 a b (ix2 p q) = normed (fun e => a (ix2 p e)) (fun e => b (ix2 0 e)) q := by
  pointwise [k0_pay1]
  rfl

theorem gu_row (a : Vec Ideal S1024x1024 .bf16) (b : Vec Ideal S1024x1408 .bf16) (p : Fin 1024) (q : Fin 1408) :
    k1_pay1 a b (ix2 p q) = ∑ e, a (ix2 p e) * b (ix2 e q) := by
  pointwise [k1_pay1]

section Gate

variable (a : Vec Ideal S512x1024 .f32) (b : Vec Ideal S1408x1024 .bf16) (g u : Vec Ideal S512x1408 .bf16)
  (p : Fin 512) (q : Fin 1408)

/-- The cotangent of the gated product; the layer's factor of one half is on the residual's cotangent. -/
def dAct : EReal := ∑ e, half * a (ix2 p e) * b (ix2 q e)

theorem act_row : k2_pay2 a b (ix2 p q) = dAct a b p q := by
  pointwise [k2_pay2]
  exact half_sum _ _

theorem gate_row : k2_pay8 a b g u (ix2 p q) = gateBack (g (ix2 p q)) (u (ix2 p q)) (dAct a b p q) := by
  pointwise [k2_pay8, k2_pay6, k2_pay5, k2_pay4, k2_pay3]
  rw [gateBack_quotient, act_row]

theorem up_row : k2_pay1 (k2_pay7 a b g) (ix2 p q) = upBack (g (ix2 p q)) (dAct a b p q) := by
  pointwise [k2_pay1, k2_pay7, k2_pay6, k2_pay5, k2_pay4, k2_pay3]
  rw [act_row, zero_sub]
  rfl

end Gate

theorem dn_gate_row (a : Vec Ideal S1024x2816 .bf16) (b : Vec Ideal S1024x2816 .bf16) (p q : Fin 1024) :
    k3_pay1 a b (ix2 p q) = ∑ f, a (ix2 p f) * b (ix2 q f) := by
  pointwise [k3_pay1]

theorem dn_up_row (a : Vec Ideal S1024x2816 .bf16) (b : Vec Ideal S1024x2816 .bf16) (r : Vec Ideal S1024x1024 .f32)
    (p q : Fin 1024) : k4_pay1 a b r (ix2 p q) = r (ix2 p q) + ∑ f, a (ix2 p f) * b (ix2 q f) := by
  pointwise [k4_pay1]

theorem dx_row (a : Vec Ideal S512x1024 .f32) (b : Vec Ideal S1x1024 .f32) (dn dh : Vec Ideal S512x1024 .f32)
    (p : Fin 512) (q : Fin 1024) : k5_pay7 a b dn dh (ix2 p q) =
      normBack (fun e => a (ix2 p e)) (fun e => b (ix2 0 e)) (fun e => dn (ix2 p e)) q + dh (ix2 p q) := by
  pointwise [k5_pay7, k5_pay5, k5_pay4, k5_pay3]
  simp only [Fin.sum_univ_one]
  rfl

/-- A block's part of the gain's gradient, added to what the blocks before it gave. -/
theorem dg_row (a dn : Vec Ideal S512x1024 .f32) (r : Vec Ideal S1x1024 .f32) (q : Fin 1024) :
    k5_pay2 (k5_pay6 a dn) r (ix2 0 q) =
      r (ix2 0 q) + ∑ p, a (ix2 p q) * invRms (fun e => a (ix2 p e)) * dn (ix2 p q) := by
  pointwise [k5_pay2, k5_pay6, k5_pay5, k5_pay4, k5_pay3]
  rfl

end Cert.FfnKernelIdeal.Rows
-- ==== Proof.FirstSum.lean ====
/-
  The sum of the first terms of a finite family, as an accumulating loop leaves it block after block.
-/
module

public import Mathlib.Data.EReal.Basic
public import Mathlib.Algebra.BigOperators.Fin

@[expose] public section

noncomputable section

namespace Cert

variable {N : ℕ} (f : Fin N → EReal)

/-- The first `n` terms, summed. -/
def firstSum (n : ℕ) : EReal := ∑ i, if i.val < n then f i else 0

theorem firstSum_zero : firstSum f 0 = 0 := by simp [firstSum]

theorem firstSum_all {n : ℕ} (h : N ≤ n) : firstSum f n = ∑ i, f i :=
  Finset.sum_congr rfl fun i _ => if_pos (by omega)

/-- The next `b` terms. -/
theorem firstSum_add {n b : ℕ} (h : n + b ≤ N) :
    firstSum f (n + b) = firstSum f n + ∑ p : Fin b, f ⟨n + p.val, by omega⟩ := by
  have hs : ∑ p : Fin b, f ⟨n + p.val, by omega⟩ = ∑ i : Fin N, if n ≤ i.val ∧ i.val < n + b then f i else 0 := by
    rw [← Finset.sum_filter]
    refine Finset.sum_bij (fun p _ => ⟨n + p.val, by omega⟩) (fun p _ => ?_) (fun p _ p' _ e => ?_) (fun i hi => ?_)
      fun _ _ => rfl
    · have hp := p.isLt
      simp only [Finset.mem_filter, Finset.mem_univ, true_and]
      omega
    · have e' := congrArg Fin.val e
      dsimp only at e'
      exact Fin.ext (by omega)
    · simp only [Finset.mem_filter, Finset.mem_univ, true_and] at hi
      exact ⟨⟨i.val - n, by omega⟩, Finset.mem_univ _, Fin.ext (by dsimp only; omega)⟩
  rw [hs]
  unfold firstSum
  rw [← Finset.sum_add_distrib]
  refine Finset.sum_congr rfl fun i _ => ?_
  by_cases h1 : i.val < n
  · rw [if_pos h1, if_pos (by omega), if_neg (by omega), add_zero]
  · by_cases h2 : i.val < n + b
    · rw [if_neg h1, if_pos h2, if_pos ⟨by omega, h2⟩, zero_add]
    · rw [if_neg h1, if_neg h2, if_neg (by omega), add_zero]

/-- A sum over `a` runs of `b` terms. -/
theorem sum_grid {a b : ℕ} (h : N = a * b) : ∑ i, f i = ∑ n : Fin a, ∑ t : Fin b, f ⟨b * n.val + t.val, by
    have h1 := n.isLt; have h2 := t.isLt
    calc b * n.val + t.val < b * n.val + b := by omega
      _ = b * (n.val + 1) := by ring
      _ ≤ b * a := Nat.mul_le_mul_left b h1
      _ = N := by rw [h, mul_comm]⟩ := by
  subst h
  rw [← Fintype.sum_prod_type']
  exact (Fintype.sum_equiv finProdFinEquiv _ _ fun q => congrArg f (Fin.ext (by
    simp only [finProdFinEquiv_apply_val]; omega))).symm

/-! ## A loop in runs of `K` points -/

section Runs

variable {M K B : ℕ} (s part : ∀ n, n < M → EReal) (t : ∀ n, n < M → Fin N → EReal)

theorem mod_succ {n : ℕ} (h : (n + 1) % K ≠ 0) : (n + 1) % K = n % K + 1 := by
  obtain rfl | hK := Nat.eq_zero_or_pos K
  · simp
  have hlt := Nat.mod_lt n hK
  have he : (n + 1) % K = (n % K + 1) % K := (Nat.mod_add_mod n K 1).symm
  by_cases hk : n % K + 1 = K
  · rw [he, hk, Nat.mod_self] at h
    exact absurd rfl h
  · rw [he, Nat.mod_eq_of_lt (by omega)]

/-- A loop that starts each run of `K` points afresh, and at each point before a run's last adds the point's part — the
    run's next `B` terms — to what it holds: at the last point, what it holds and that point's part are the sum. -/
theorem run_last (hN : N = K * B)
    (ht : ∀ n (h : n + 1 < M), (n + 1) % K ≠ 0 → t n (by omega) = t (n + 1) h)
    (hp : ∀ n (h : n < M), firstSum (t n h) (n % K * B) + part n h = firstSum (t n h) ((n % K + 1) * B))
    (first : ∀ n (h : n < M), n % K = 0 → s n h = part n h)
    (next : ∀ n (h : n + 1 < M), (n + 1) % K ≠ 0 → (n + 1) % K + 1 ≠ K →
      s (n + 1) h = s n (by omega) + part (n + 1) h)
    (n : ℕ) (h : n + 1 < M) (h0 : (n + 1) % K ≠ 0) (hl : (n + 1) % K + 1 = K) :
    s n (by omega) + part (n + 1) h = ∑ i, t (n + 1) h i := by
  have hK : 0 < K := by rw [← hl]; exact Nat.succ_pos _
  have hs : ∀ n (h : n < M), n % K + 1 ≠ K → s n h = firstSum (t n h) ((n % K + 1) * B) := by
    intro n
    induction n with
    | zero => exact fun h _ => by rw [first 0 h (Nat.zero_mod K), ← hp, Nat.zero_mod, Nat.zero_mul, firstSum_zero, zero_add]
    | succ n ih =>
      intro h hl
      by_cases h0 : (n + 1) % K = 0
      · rw [first (n + 1) h h0, ← hp, h0, Nat.zero_mul, firstSum_zero, zero_add]
      · have hm := mod_succ h0
        have hlt := Nat.mod_lt (n + 1) hK
        rw [next n h h0 hl, ← hp, ih (by omega) (by omega), ht n h h0, hm]
  have hm := mod_succ h0
  rw [hs n (by omega) (by omega), ht n h h0, ← hm, hp, hl, firstSum_all _ hN.le]

end Runs

end Cert
-- ==== Proof.FfnKernelArrays.lean ====
/-
  What each call of the SwiGLU layer leaves in its result arrays, as functions of the arrays it reads.
-/
module

public import proofs.«01_k».proof.Proof.FfnKernelRows
public import proofs.«01_k».proof.Proof.FirstSum
public import proofs.«01_k».proof.Proof.Gen.FfnKernelIdeal.Frame
public import Idealize.ShloMosaic.Lib.Pipeline.ValueKit
public import Idealize.ShloMosaic.Lib.Pipeline.ReadBack

@[expose] public section

set_option maxRecDepth 16384

noncomputable section

namespace Cert.FfnKernelIdeal.Rows

open Idealize.ShloMosaic Idealize.ShloMosaic.TcCoe Idealize.SL.Sem
open Idealize.ShloMosaic.Pipeline (Dat)
open Cert.FfnKernelIdeal Cert.FfnKernelIdeal.Gen Cert.Ffn

/-! ## The arrays, as functions of arrays -/

/-- The normed residual. -/
def nOf (h : Vec Ideal S8192x1024 .f32) (g : Vec Ideal S1x1024 .f32) : Vec Ideal S8192x1024 .bf16 := fun j =>
  normed (fun e => h (ix2 (j 0) e)) (fun e => g (ix2 0 e)) (j 1)

/-- The gate and up product. -/
def guOf (n : Vec Ideal S8192x1024 .bf16) (w : Vec Ideal S1024x5632 .bf16) : Vec Ideal S8192x5632 .bf16 := fun j =>
  ∑ e : Fin 1024, n (ix2 (j 0) e) * w (ix2 e (j 1))

/-- Column `f` of the gate half. -/
def gateCol (f : Fin 2816) : Fin 5632 := ⟨f.val, by omega⟩
/-- Column `f` of the up half. -/
def upCol (f : Fin 2816) : Fin 5632 := ⟨2816 + f.val, by omega⟩

/-- The cotangent of the gated product. -/
def dActOf (dh : Vec Ideal S8192x1024 .f32) (wd : Vec Ideal S2816x1024 .bf16) (i : Fin 8192) (f : Fin 2816) : EReal :=
  ∑ e : Fin 1024, half * dh (ix2 i e) * wd (ix2 f e)

/-- The cotangent of the gates. -/
def dGateOf (dh : Vec Ideal S8192x1024 .f32) (wd : Vec Ideal S2816x1024 .bf16) (gu : Vec Ideal S8192x5632 .bf16) :
    Vec Ideal S8192x2816 .bf16 := fun j =>
  gateBack (gu (ix2 (j 0) (gateCol (j 1)))) (gu (ix2 (j 0) (upCol (j 1)))) (dActOf dh wd (j 0) (j 1))

/-- The cotangent of the up values. -/
def dUpOf (dh : Vec Ideal S8192x1024 .f32) (wd : Vec Ideal S2816x1024 .bf16) (gu : Vec Ideal S8192x5632 .bf16) :
    Vec Ideal S8192x2816 .bf16 := fun j =>
  upBack (gu (ix2 (j 0) (gateCol (j 1)))) (dActOf dh wd (j 0) (j 1))

/-- The gates' part of the normed residual's cotangent. -/
def dnGateOf (dg : Vec Ideal S8192x2816 .bf16) (w : Vec Ideal S1024x5632 .bf16) : Vec Ideal S8192x1024 .f32 := fun j =>
  ∑ f : Fin 2816, dg (ix2 (j 0) f) * w (ix2 (j 1) (gateCol f))

/-- The whole of it. -/
def dnOf (du : Vec Ideal S8192x2816 .bf16) (w : Vec Ideal S1024x5632 .bf16) (dn : Vec Ideal S8192x1024 .f32) :
    Vec Ideal S8192x1024 .f32 := fun j =>
  dn j + ∑ f : Fin 2816, du (ix2 (j 0) f) * w (ix2 (j 1) (upCol f))

/-- The residual's gradient. -/
def dxOf (h : Vec Ideal S8192x1024 .f32) (g : Vec Ideal S1x1024 .f32) (dn dh : Vec Ideal S8192x1024 .f32) :
    Vec Ideal S8192x1024 .f32 := fun j =>
  normBack (fun e => h (ix2 (j 0) e)) (fun e => g (ix2 0 e)) (fun e => dn (ix2 (j 0) e)) (j 1) + dh j

/-- One row's part of the gain's gradient. -/
def gainTerm (h dn : Vec Ideal S8192x1024 .f32) (q : Fin 1024) (i : Fin 8192) : EReal :=
  h (ix2 i q) * invRms (fun e => h (ix2 i e)) * dn (ix2 i q)

/-- The gain's gradient. -/
def dgOf (h dn : Vec Ideal S8192x1024 .f32) : Vec Ideal S1x1024 .f32 := fun j => ∑ i, gainTerm h dn (j 1) i

variable (V : (c : Dev nD) → (b : Ref sig .tc) → Buf (Elt Ideal) ((c : Thread nD τ).loc b)) (c : Dev nD)

abbrev vH : Vec Ideal S8192x1024 .f32 := V c main_arg0
abbrev vG : Vec Ideal S1x1024 .f32 := V c main_arg1
abbrev vW : Vec Ideal S1024x5632 .bf16 := V c main_arg2
abbrev vD : Vec Ideal S2816x1024 .bf16 := V c main_arg3
abbrev vDh : Vec Ideal S8192x1024 .f32 := V c main_arg4
abbrev vN : Vec Ideal S8192x1024 .bf16 := V c main_v0
abbrev vGu : Vec Ideal S8192x5632 .bf16 := V c main_v1
abbrev vDg : Vec Ideal S8192x2816 .bf16 := V c main_v2_0
abbrev vDu : Vec Ideal S8192x2816 .bf16 := V c main_v2_1
abbrev vDn0 : Vec Ideal S8192x1024 .f32 := V c main_v3
abbrev vDn : Vec Ideal S8192x1024 .f32 := V c main_v4

/-! ## The norm -/

theorem idx0 : ∀ t : Fin cfg0.N, win0_0.index t = ![t.val, 0] ∧ win0_1.index t = ![0, 0] ∧ win0_2.index t = ![t.val, 0] :=
  (by decide +kernel : ∀ t : Fin grid0.N, _)

/-- Row `p` of the block of 512 rows at grid point `t`. -/
def row0 (t : Fin cfg0.N) (p : Fin 512) : Fin 8192 := ⟨t.val * 512 + p.val, by have h : t.val < 16 := t.isLt; omega⟩

theorem blk0_0 (t : Fin cfg0.N) (p : Fin 512) (e : Fin 1024) : iblk0 V c 0 t (ix2 p e) = vH V c (ix2 (row0 t p) e) := by
  blk_ext [iblk0, idx0 t, row0]
theorem blk0_1 (t : Fin cfg0.N) (e : Fin 1024) : iblk0 V c 1 t (ix2 0 e) = vG V c (ix2 0 e) := by
  blk_ext [iblk0, idx0 t]

theorem n_array : (dat0 V c).arrAt 2 cfg0.N = nOf (vH V c) (vG V c) := by
  refine (dat0 V c).arrAt_eq_of_covers 2 _ (by decide +kernel) fun t _ y => ?_
  blk_simp
  rw [after0_2]
  frame_out
  obtain ⟨p, q, rfl⟩ : ∃ (p : Fin 512) (q : Fin 1024), y = ix2 p q := ⟨y 0, y 1, eq_ix2 y⟩
  rw [norm_row]
  simp only [blk0_0, blk0_1]
  refine congrArg (nOf (vH V c) (vG V c)) (a₁ := ix2 (row0 t p) q) ?_
  blk_ext [idx0 t, row0]

/-! ## The gate and up product -/

theorem idx1 : ∀ t : Fin cfg1.N,
    win1_0.index t = ![t.val / 4, 0] ∧ win1_1.index t = ![0, t.val % 4] ∧ win1_2.index t = ![t.val / 4, t.val % 4] :=
  (by decide +kernel : ∀ t : Fin grid1.N, _)

/-- Row `p` and column `q` of the block at grid point `t`. -/
def row1 (t : Fin cfg1.N) (p : Fin 1024) : Fin 8192 :=
  ⟨t.val / 4 * 1024 + p.val, by have h : t.val < 32 := t.isLt; omega⟩
def col1 (t : Fin cfg1.N) (q : Fin 1408) : Fin 5632 := ⟨t.val % 4 * 1408 + q.val, by omega⟩

theorem blk1_0 (t : Fin cfg1.N) (p e : Fin 1024) : iblk1 V c 0 t (ix2 p e) = vN V c (ix2 (row1 t p) e) := by
  blk_ext [iblk1, idx1 t, row1]
theorem blk1_1 (t : Fin cfg1.N) (e : Fin 1024) (q : Fin 1408) : iblk1 V c 1 t (ix2 e q) = vW V c (ix2 e (col1 t q)) := by
  blk_ext [iblk1, idx1 t, col1]

theorem gu_array : (dat1 V c).arrAt 2 cfg1.N = guOf (vN V c) (vW V c) := by
  refine (dat1 V c).arrAt_eq_of_covers 2 _ (by decide +kernel) fun t _ y => ?_
  blk_simp
  rw [after1_2]
  frame_out
  obtain ⟨p, q, rfl⟩ : ∃ (p : Fin 1024) (q : Fin 1408), y = ix2 p q := ⟨y 0, y 1, eq_ix2 y⟩
  rw [gu_row]
  simp only [blk1_0, blk1_1]
  refine congrArg (guOf (vN V c) (vW V c)) (a₁ := ix2 (row1 t p) (col1 t q)) ?_
  blk_ext [idx1 t, row1, col1]

/-! ## The gates' and up values' cotangents -/

theorem idx2 : ∀ t : Fin cfg2.N,
    win2_0.index t = ![t.val / 2, 0] ∧ win2_1.index t = ![t.val % 2, 0] ∧ win2_2.index t = ![t.val / 2, t.val % 2] ∧
    win2_3.index t = ![t.val / 2, t.val % 2 + 2] ∧ win2_4.index t = ![t.val / 2, t.val % 2] ∧
    win2_5.index t = ![t.val / 2, t.val % 2] :=
  (by decide +kernel : ∀ t : Fin grid2.N, _)

/-- Row `p` and column `q` of the block at grid point `t`. -/
def row2 (t : Fin cfg2.N) (p : Fin 512) : Fin 8192 :=
  ⟨t.val / 2 * 512 + p.val, by have h : t.val < 32 := t.isLt; omega⟩
def col2 (t : Fin cfg2.N) (q : Fin 1408) : Fin 2816 := ⟨t.val % 2 * 1408 + q.val, by omega⟩

theorem blk2_0 (t : Fin cfg2.N) (p : Fin 512) (e : Fin 1024) : iblk2 V c 0 t (ix2 p e) = vDh V c (ix2 (row2 t p) e) := by
  blk_ext [iblk2, idx2 t, row2]
theorem blk2_1 (t : Fin cfg2.N) (q : Fin 1408) (e : Fin 1024) : iblk2 V c 1 t (ix2 q e) = vD V c (ix2 (col2 t q) e) := by
  blk_ext [iblk2, idx2 t, col2]
theorem blk2_2 (t : Fin cfg2.N) (p : Fin 512) (q : Fin 1408) :
    iblk2 V c 2 t (ix2 p q) = vGu V c (ix2 (row2 t p) (gateCol (col2 t q))) := by
  blk_ext [iblk2, idx2 t, row2, col2, gateCol]
theorem blk2_3 (t : Fin cfg2.N) (p : Fin 512) (q : Fin 1408) :
    iblk2 V c 3 t (ix2 p q) = vGu V c (ix2 (row2 t p) (upCol (col2 t q))) := by
  blk_ext [iblk2, idx2 t, row2, col2, upCol]

theorem dg_array : (dat2 V c).arrAt 4 cfg2.N = dGateOf (vDh V c) (vD V c) (vGu V c) := by
  refine (dat2 V c).arrAt_eq_of_covers 4 _ (by decide +kernel) fun t _ y => ?_
  blk_simp
  rw [after2_4]
  frame_out
  obtain ⟨p, q, rfl⟩ : ∃ (p : Fin 512) (q : Fin 1408), y = ix2 p q := ⟨y 0, y 1, eq_ix2 y⟩
  rw [gate_row]
  simp only [dAct, blk2_0, blk2_1, blk2_2, blk2_3]
  refine congrArg (dGateOf (vDh V c) (vD V c) (vGu V c)) (a₁ := ix2 (row2 t p) (col2 t q)) ?_
  blk_ext [idx2 t, row2, col2]

theorem du_array : (dat2 V c).arrAt 5 cfg2.N = dUpOf (vDh V c) (vD V c) (vGu V c) := by
  refine (dat2 V c).arrAt_eq_of_covers 5 _ (by decide +kernel) fun t _ y => ?_
  blk_simp
  rw [after2_5]
  frame_out
  obtain ⟨p, q, rfl⟩ : ∃ (p : Fin 512) (q : Fin 1408), y = ix2 p q := ⟨y 0, y 1, eq_ix2 y⟩
  rw [up_row]
  simp only [dAct, blk2_0, blk2_1, blk2_2]
  refine congrArg (dUpOf (vDh V c) (vD V c) (vGu V c)) (a₁ := ix2 (row2 t p) (col2 t q)) ?_
  blk_ext [idx2 t, row2, col2]

/-! ## The normed residual's cotangent -/

theorem idx3 : ∀ t : Fin cfg3.N, win3_0.index t = ![t.val, 0] ∧ win3_1.index t = ![0, 0] ∧ win3_2.index t = ![t.val, 0] :=
  (by decide +kernel : ∀ t : Fin grid3.N, _)

/-- Row `p` of the block of 1024 rows at grid point `t`. -/
def row3 (t : Fin cfg3.N) (p : Fin 1024) : Fin 8192 := ⟨t.val * 1024 + p.val, by have h : t.val < 8 := t.isLt; omega⟩

theorem blk3_0 (t : Fin cfg3.N) (p : Fin 1024) (f : Fin 2816) : iblk3 V c 0 t (ix2 p f) = vDg V c (ix2 (row3 t p) f) := by
  blk_ext [iblk3, idx3 t, row3]
theorem blk3_1 (t : Fin cfg3.N) (q : Fin 1024) (f : Fin 2816) : iblk3 V c 1 t (ix2 q f) = vW V c (ix2 q (gateCol f)) := by
  blk_ext [iblk3, idx3 t, gateCol]

theorem dn_gate_array : (dat3 V c).arrAt 2 cfg3.N = dnGateOf (vDg V c) (vW V c) := by
  refine (dat3 V c).arrAt_eq_of_covers 2 _ (by decide +kernel) fun t _ y => ?_
  blk_simp
  rw [after3_2]
  frame_out
  obtain ⟨p, q, rfl⟩ : ∃ (p q : Fin 1024), y = ix2 p q := ⟨y 0, y 1, eq_ix2 y⟩
  rw [dn_gate_row]
  simp only [blk3_0, blk3_1]
  refine congrArg (dnGateOf (vDg V c) (vW V c)) (a₁ := ix2 (row3 t p) q) ?_
  blk_ext [idx3 t, row3]

theorem idx4 : ∀ t : Fin cfg4.N,
    win4_0.index t = ![t.val, 0] ∧ win4_1.index t = ![0, 1] ∧ win4_2.index t = ![t.val, 0] ∧ win4_3.index t = ![t.val, 0] :=
  (by decide +kernel : ∀ t : Fin grid4.N, _)

/-- Row `p` of the block of 1024 rows at grid point `t`. -/
def row4 (t : Fin cfg4.N) (p : Fin 1024) : Fin 8192 := ⟨t.val * 1024 + p.val, by have h : t.val < 8 := t.isLt; omega⟩

theorem blk4_0 (t : Fin cfg4.N) (p : Fin 1024) (f : Fin 2816) : iblk4 V c 0 t (ix2 p f) = vDu V c (ix2 (row4 t p) f) := by
  blk_ext [iblk4, idx4 t, row4]
theorem blk4_1 (t : Fin cfg4.N) (q : Fin 1024) (f : Fin 2816) : iblk4 V c 1 t (ix2 q f) = vW V c (ix2 q (upCol f)) := by
  blk_ext [iblk4, idx4 t, upCol]
theorem blk4_2 (t : Fin cfg4.N) (p q : Fin 1024) : iblk4 V c 2 t (ix2 p q) = vDn0 V c (ix2 (row4 t p) q) := by
  blk_ext [iblk4, idx4 t, row4]

theorem dn_array : (dat4 V c).arrAt 3 cfg4.N = dnOf (vDu V c) (vW V c) (vDn0 V c) := by
  refine (dat4 V c).arrAt_eq_of_covers 3 _ (by decide +kernel) fun t _ y => ?_
  blk_simp
  rw [after4_3]
  frame_out
  obtain ⟨p, q, rfl⟩ : ∃ (p q : Fin 1024), y = ix2 p q := ⟨y 0, y 1, eq_ix2 y⟩
  rw [dn_up_row]
  simp only [blk4_0, blk4_1, blk4_2]
  refine congrArg (dnOf (vDu V c) (vW V c) (vDn0 V c)) (a₁ := ix2 (row4 t p) q) ?_
  blk_ext [idx4 t, row4]

/-! ## The residual's gradient and the gain's -/

theorem idx5 : ∀ t : Fin cfg5.N,
    win5_0.index t = ![t.val, 0] ∧ win5_1.index t = ![0, 0] ∧ win5_2.index t = ![t.val, 0] ∧
    win5_3.index t = ![t.val, 0] ∧ win5_4.index t = ![t.val, 0] ∧ win5_5.index t = ![0, 0] :=
  (by decide +kernel : ∀ t : Fin grid5.N, _)

/-- Row `p` of the block of 512 rows numbered `t`. -/
def row5 (t : ℕ) (ht : t < 16) (p : Fin 512) : Fin 8192 := ⟨t * 512 + p.val, by omega⟩

theorem blk5_0 (t : Fin cfg5.N) (p : Fin 512) (e : Fin 1024) : iblk5 V c 0 t (ix2 p e) = vH V c (ix2 (row5 t.val t.isLt p) e) := by
  blk_ext [iblk5, idx5 t, row5]
theorem blk5_1 (t : Fin cfg5.N) (e : Fin 1024) : iblk5 V c 1 t (ix2 0 e) = vG V c (ix2 0 e) := by
  blk_ext [iblk5, idx5 t]
theorem blk5_2 (t : Fin cfg5.N) (p : Fin 512) (e : Fin 1024) : iblk5 V c 2 t (ix2 p e) = vDn V c (ix2 (row5 t.val t.isLt p) e) := by
  blk_ext [iblk5, idx5 t, row5]
theorem blk5_3 (t : Fin cfg5.N) (p : Fin 512) (e : Fin 1024) : iblk5 V c 3 t (ix2 p e) = vDh V c (ix2 (row5 t.val t.isLt p) e) := by
  blk_ext [iblk5, idx5 t, row5]

theorem dx_point (t : Fin cfg5.N) : (outsAt5 V c t.val t.isLt).1 =
    k5_pay7 (iblk5 V c 0 t) (iblk5 V c 1 t) (iblk5 V c 2 t) (iblk5 V c 3 t) := by
  by_cases h : t.val % 16 = 0
  · rw [outsAt5_A V c t h]
    frame_out
  · rw [outsAt5_B V c t h]
    frame_out

theorem dx_array : (dat5 V c).arrAt 4 cfg5.N = dxOf (vH V c) (vG V c) (vDn V c) (vDh V c) := by
  refine (dat5 V c).arrAt_eq_of_covers 4 _ (by decide +kernel) fun t _ y => ?_
  blk_simp
  rw [after5_4, dx_point]
  obtain ⟨p, q, rfl⟩ : ∃ (p : Fin 512) (q : Fin 1024), y = ix2 p q := ⟨y 0, y 1, eq_ix2 y⟩
  rw [dx_row]
  simp only [blk5_0, blk5_1, blk5_2, blk5_3]
  refine congrArg (dxOf (vH V c) (vG V c) (vDn V c) (vDh V c)) (a₁ := ix2 (row5 t.val t.isLt p) q) ?_
  blk_ext [idx5 t, row5]

theorem rows_next (f : Fin 8192 → EReal) (t : ℕ) (ht : t < 16) :
    firstSum f ((t + 1) * 512) = firstSum f (t * 512) + ∑ p, f (row5 t ht p) := by
  rw [show (t + 1) * 512 = t * 512 + 512 by omega, firstSum_add f (by omega)]
  rfl

/-- After a point, the gain's gradient holds the sum of the rows so far. -/
theorem gain_point (n : ℕ) (hn : n < cfg5.N) (q : Fin 1024) :
    (outsAt5 V c n hn).2 (ix2 0 q) = firstSum (gainTerm (vH V c) (vDn V c) q) ((n + 1) * 512) := by
  induction n with
  | zero =>
    rw [outsAt5_A V c ⟨0, hn⟩ rfl]
    frame_out
    rw [dg_row, rows_next _ 0 (by omega)]
    refine congrArg₂ (· + ·) ?_ ?_
    · pointwise [k5_pay1]
      simp [firstSum_zero]
    · simp only [blk5_0, blk5_2]
      rfl
  | succ n ih =>
    rw [outsAt5_B V c ⟨n + 1, hn⟩ (by have h : n + 1 < 16 := hn; dsimp only; omega)]
    frame_out
    rw [dg_row, rows_next _ (n + 1) hn]
    refine congrArg₂ (· + ·) ?_ ?_
    · exact ih _
    · simp only [blk5_0, blk5_2]
      rfl

theorem last5 : ∀ t : Fin cfg5.N, (cfg5.win 5).flush t = true → t.val = 15 :=
  (by decide +kernel : ∀ t : Fin grid5.N, _)

theorem gain_array : (dat5 V c).arrAt 5 cfg5.N = dgOf (vH V c) (vDn V c) := by
  refine (dat5 V c).arrAt_eq_of_covers 5 _ (by decide +kernel) fun t ht y => ?_
  have h15 := last5 t ht
  blk_simp
  rw [after5_5]
  obtain ⟨p, q, rfl⟩ : ∃ (p : Fin 1) (q : Fin 1024), y = ix2 p q := ⟨y 0, y 1, eq_ix2 y⟩
  obtain rfl : p = 0 := Subsingleton.elim _ _
  rw [gain_point, firstSum_all _ (by omega)]
  change dgOf (vH V c) (vDn V c) (ix2 0 q) = _
  refine congrArg (dgOf (vH V c) (vDn V c)) ?_
  blk_ext [idx5 t]

end Cert.FfnKernelIdeal.Rows
-- ==== Proof.FfnKernelRun.lean ====
/-
  The SwiGLU layer's launch: what its two results hold at the end, as functions of the five arguments.
-/
module

public import proofs.«01_k».proof.Proof.FfnKernelArrays

@[expose] public section

set_option maxRecDepth 16384

noncomputable section

namespace Cert.FfnKernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnKernelIdeal Cert.FfnKernelIdeal.Gen Cert.Ffn

variable (m : (ℓ : Loc nD τ sig) → Buf (Elt Ideal) ℓ) (ρ : Dev nD → PrngReg) (c : Dev nD)

/-! ## The arguments, and the arrays between the calls -/

abbrev mH : Vec Ideal S8192x1024 .f32 := m ((c.tc : Thread nD τ).loc main_arg0)
abbrev mG : Vec Ideal S1x1024 .f32 := m ((c.tc : Thread nD τ).loc main_arg1)
abbrev mW : Vec Ideal S1024x5632 .bf16 := m ((c.tc : Thread nD τ).loc main_arg2)
abbrev mD : Vec Ideal S2816x1024 .bf16 := m ((c.tc : Thread nD τ).loc main_arg3)
abbrev mDh : Vec Ideal S8192x1024 .f32 := m ((c.tc : Thread nD τ).loc main_arg4)

def mN : Vec Ideal S8192x1024 .bf16 := nOf (mH m c) (mG m c)
def mGu : Vec Ideal S8192x5632 .bf16 := guOf (mN m c) (mW m c)
def mDg : Vec Ideal S8192x2816 .bf16 := dGateOf (mDh m c) (mD m c) (mGu m c)
def mDu : Vec Ideal S8192x2816 .bf16 := dUpOf (mDh m c) (mD m c) (mGu m c)
def mDn : Vec Ideal S8192x1024 .f32 := dnOf (mDu m c) (mW m c) (dnGateOf (mDg m c) (mW m c))
/-- The residual's gradient. -/
def mDx : Vec Ideal S8192x1024 .f32 := dxOf (mH m c) (mG m c) (mDn m c) (mDh m c)
/-- The gain's gradient. -/
def mDgain : Vec Ideal S1x1024 .f32 := dgOf (mH m c) (mDn m c)

theorem at1_n : V1 m ρ c main_v0 = mN m c :=
  (W1_arr m ρ c 2).trans ((n_array (V0 m ρ) c))

theorem at2_gu : V2 m ρ c main_v1 = mGu m c := by
  refine (W2_arr m ρ c 2).trans ((gu_array (V1 m ρ) c).trans ?_)
  rw [vN, at1_n]
  rw [vW, show V1 m ρ c main_arg2 = mW m c from W1_args m ρ c main_arg2 (by decide)]
  rfl

theorem at3_dg : V3 m ρ c main_v2_0 = mDg m c := by
  refine (W3_arr m ρ c 4).trans ((dg_array (V2 m ρ) c).trans ?_)
  rw [vGu, at2_gu, vDh, show V2 m ρ c main_arg4 = mDh m c from W2_args m ρ c main_arg4 (by decide),
    vD, show V2 m ρ c main_arg3 = mD m c from W2_args m ρ c main_arg3 (by decide)]
  rfl

theorem at3_du : V3 m ρ c main_v2_1 = mDu m c := by
  refine (W3_arr m ρ c 5).trans ((du_array (V2 m ρ) c).trans ?_)
  rw [vGu, at2_gu, vDh, show V2 m ρ c main_arg4 = mDh m c from W2_args m ρ c main_arg4 (by decide),
    vD, show V2 m ρ c main_arg3 = mD m c from W2_args m ρ c main_arg3 (by decide)]
  rfl

theorem at4_du : V4 m ρ c main_v2_1 = mDu m c :=
  (W4_of m ρ c main_v2_1 (by decide)).trans (at3_du m ρ c)

theorem at4_dn : V4 m ρ c main_v3 = dnGateOf (mDg m c) (mW m c) := by
  refine (W4_arr m ρ c 2).trans ((dn_gate_array (V3 m ρ) c).trans ?_)
  rw [vDg, at3_dg, vW, show V3 m ρ c main_arg2 = mW m c from W3_args m ρ c main_arg2 (by decide)]

theorem at5_dn : V5 m ρ c main_v4 = mDn m c := by
  refine (W5_arr m ρ c 3).trans ((dn_array (V4 m ρ) c).trans ?_)
  rw [vDu, at4_du, vDn0, at4_dn, vW, show V4 m ρ c main_arg2 = mW m c from W4_args m ρ c main_arg2 (by decide)]
  rfl

theorem at6_dx : W6 m ρ c (Proc.devRef .tc main_v5_0) = mDx m c := by
  refine (W6_arr m ρ c 4).trans ((dx_array (V5 m ρ) c).trans ?_)
  rw [vDn, at5_dn, vH, show V5 m ρ c main_arg0 = mH m c from W5_args m ρ c main_arg0 (by decide),
    vG, show V5 m ρ c main_arg1 = mG m c from W5_args m ρ c main_arg1 (by decide),
    vDh, show V5 m ρ c main_arg4 = mDh m c from W5_args m ρ c main_arg4 (by decide)]
  rfl

theorem at6_dgain : W6 m ρ c (Proc.devRef .tc main_v5_1) = mDgain m c := by
  refine (W6_arr m ρ c 5).trans ((gain_array (V5 m ρ) c).trans ?_)
  rw [vDn, at5_dn, vH, show V5 m ρ c main_arg0 = mH m c from W5_args m ρ c main_arg0 (by decide)]
  rfl

/-! ## The launch -/

set_option backward.isDefEq.respectTransparency.types false in
/-- Every run ends with the two gradients in the result arrays and the arguments as they were. -/
theorem run : θ_run defs (onTc (τ := τ) (main (F := Ideal))) ⟨m, fun _ => 0, ρ⟩ (fun r => ∀ c : Dev nD,
      r.2.mem ((c.tc : Thread nD τ).loc main_v5_0) = mDx m c
      ∧ r.2.mem ((c.tc : Thread nD τ).loc main_v5_1) = mDgain m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v5_0 (by decide))).trans (at6_dx m ρ c),
       (h c _ (mem_uc main_v5_1 (by decide))).trans (at6_dgain m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.FfnKernelIdeal.Rows
-- ==== Proof.FfnReference.lean ====
/-
  The reference's gradients of the SwiGLU layer, read row by row in the functions of `FfnRow.lean`.
-/
module

public import proofs.«01_k».proof.Proof.FfnRow
public import proofs.«01_k».proof.Proof.Gen.FfnReferenceIdeal.Run
public import Idealize.ShloMosaic.Lib.Pointwise

@[expose] public section

set_option maxRecDepth 16384

noncomputable section

namespace Cert.FfnReferenceIdeal.Rows

open Idealize.ShloMosaic Idealize.ShloMosaic.TcCoe Idealize.SL.Sem
open Cert.FfnReferenceIdeal Cert.FfnReferenceIdeal.Gen Cert.FfnReferenceIdeal.Value Cert.Ffn

/-! ## The values the reference's program goes through -/

section Values

variable (h : FVec Ideal S8192x1024 .f32) (g : FVec Ideal S1x1024 .f32) (w : FVec Ideal S1024x5632 .bf16)
  (d : FVec Ideal S2816x1024 .bf16) (dh : FVec Ideal S8192x1024 .f32)

/-- The mean of the squares plus epsilon, a row each. -/
def rMs : FVec Ideal S8192x1 .f32 :=
  addf (Host.divf (broadcastInDim S8192x1 ![0] bcast_S8192_S8192x1_0
      (Host.reduceAdd (mulf h h) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))

/-- The reciprocal root. -/
def rInv : FVec Ideal S8192x1 .f32 := Host.rsqrt (rMs h)

/-- The reciprocal root across the row. -/
def rInvs : FVec Ideal S8192x1024 .f32 := broadcastInDim S8192x1024 ![0, 1] bcast_S8192x1_S8192x1024_0_1 (rInv h)

/-- The gain down the rows. -/
def rGain : FVec Ideal S8192x1024 .f32 :=
  broadcastInDim S8192x1024 ![0, 1] bcast_S1x1024_S8192x1024_0_1
    (broadcastInDim S1x1024 ![1] bcast_S1024_S1x1024_1 (shapeCast _ g shapeCasts_S1x1024_S1024))

/-- The normed residual. -/
def rN : FVec Ideal S8192x1024 .f32 := mulf (mulf h (rInvs h)) (rGain g)

/-- The gates and up values. -/
def rGu : FVec Ideal S8192x5632 .f32 :=
  Host.dotGeneral dot_S8192x1024_S1024x5632_S8192x5632_1_0_0_1_n_n none (rN h g) (extf .f32 w bitsLt_bf16_f32)

def rGate : FVec Ideal S8192x2816 .f32 := extractStridedSlice S8192x2816 ![0, 0] (rGu h g w) slices_S8192x5632_S8192x2816_0_0
def rUp : FVec Ideal S8192x2816 .f32 := extractStridedSlice S8192x2816 ![0, 2816] (rGu h g w) slices_S8192x5632_S8192x2816_0_2816

/-- The cotangent of the gated product. -/
def rAct : FVec Ideal S8192x2816 .f32 :=
  Host.dotGeneral dot_S8192x1024_S2816x1024_S8192x2816_1_1_0_0_n_n none
    (mulf (broadcastInDim S8192x1024 ![] bcast_S_S8192x1024 (constant S_ .f32 0x3F000000#32)) (shapeCast _ dh shapeCasts_S8192x1024_S8192x1024))
    (extf .f32 d bitsLt_bf16_f32)

def rOne : FVec Ideal S8192x2816 .f32 := broadcastInDim S8192x2816 ![] bcast_S_S8192x2816 (constant S_ .f32 0x3F800000#32)

/-- The logistic function of the gates. -/
def rSig : FVec Ideal S8192x2816 .f32 := Host.divf rOne (addf rOne (Host.exp (Host.negf (rGate h g w))))

/-- The cotangents of the gates and of the up values, from their product's. -/
def rDGate (act : FVec Ideal S8192x2816 .f32) : FVec Ideal S8192x2816 .f32 :=
  addf (mulf (mulf act (rUp h g w)) (rSig h g w))
    (mulf (mulf (rGate h g w) (mulf act (rUp h g w))) (mulf (rSig h g w) (subf rOne (rSig h g w))))

def rDUp (act : FVec Ideal S8192x2816 .f32) : FVec Ideal S8192x2816 .f32 := mulf (mulf (rGate h g w) (rSig h g w)) act

/-- The normed residual's cotangent. -/
def rDn : FVec Ideal S8192x1024 .f32 :=
  Host.dotGeneral dot_S8192x5632_S1024x5632_S8192x1024_1_1_0_0_n_n none
    (concatenate S8192x5632 1 [⟨S8192x2816, rDGate h g w (rAct d dh)⟩, ⟨S8192x2816, rDUp h g w (rAct d dh)⟩] concatenates_S8192x2816_S8192x2816_S8192x5632_d1)
    (extf .f32 w bitsLt_bf16_f32)

/-- The part of the residual's gradient that comes through the mean of the squares. -/
def rThrough (dn : FVec Ideal S8192x1024 .f32) : FVec Ideal S8192x1024 .f32 :=
  broadcastInDim S8192x1024 ![0] bcast_S8192_S8192x1024_0
    (Host.reduceAdd (Host.divf (mulf
        (shapeCast _ (Host.reduceAdd (mulf h (mulf dn (rGain g))) (constant S_ .f32 0x00000000#32) reducesTo_S8192x1024_S8192_d1 h_S_) shapeCasts_S8192_S8192x1)
        (mulf (broadcastInDim S8192x1 ![] bcast_S_S8192x1 (constant S_ .f32 0xBF000000#32)) (Host.divf (rInv h) (rMs h))))
      (broadcastInDim S8192x1 ![] bcast_S_S8192x1 (constant S_ .f32 0x44800000#32)))
      (constant S_ .f32 0x00000000#32) reducesTo_S8192x1_S8192_d1 h_S_)

def rDx (dn : FVec Ideal S8192x1024 .f32) : FVec Ideal S8192x1024 .f32 :=
  addf (addf (addf dh (mulf (mulf dn (rGain g)) (rInvs h))) (mulf h (rThrough h g dn))) (mulf (rThrough h g dn) h)

def rDg (dn : FVec Ideal S8192x1024 .f32) : FVec Ideal S1x1024 .f32 :=
  broadcastInDim S1x1024 ![1] bcast_S1024_S1x1024_1
    (Host.reduceAdd (shapeCast _ (Host.reduceAdd (mulf (mulf h (rInvs h)) dn) (constant S_ .f32 0x00000000#32) reducesTo_S8192x1024_S1024_d0 h_S_) shapeCasts_S1024_S1x1024)
      (constant S_ .f32 0x00000000#32) reducesTo_S1x1024_S1024_d0 h_S_)

/-! ## Row by row -/

/-- Row `i` of the residual. -/
abbrev hRow (i : Fin 8192) : Fin 1024 → EReal := fun e => h (ix2 i e)

theorem ms_row (i : Fin 8192) : rMs h (ix2 i 0) = meanSq (hRow h i) := by
  pointwise [rMs]
  rfl

theorem inv_row (i : Fin 8192) : rInv h (ix2 i 0) = invRms (hRow h i) := by
  pointwise [rInv]
  rw [ms_row]
  rfl

theorem invs_row (i : Fin 8192) (e : Fin 1024) : rInvs h (ix2 i e) = invRms (hRow h i) := by
  pointwise [rInvs]
  exact inv_row h i

theorem gain_row (i : Fin 8192) (e : Fin 1024) : rGain g (ix2 i e) = g (ix2 0 e) := by
  pointwise [rGain]

theorem norm_row (i : Fin 8192) (e : Fin 1024) : rN h g (ix2 i e) = normed (hRow h i) (fun e => g (ix2 0 e)) e := by
  pointwise [rN]
  rw [invs_row, gain_row]
  rfl

theorem gu_row (i : Fin 8192) (k : Fin 5632) :
    rGu h g w (ix2 i k) = ∑ e, normed (hRow h i) (fun e => g (ix2 0 e)) e * w (ix2 e k) := by
  pointwise [rGu]
  simp only [norm_row]

/-- The gate `f` of row `i`, its up value and the cotangent of their product. -/
def gateOf (i : Fin 8192) (f : Fin 2816) : EReal :=
  ∑ e, normed (hRow h i) (fun e => g (ix2 0 e)) e * w (ix2 e ⟨f.val, by omega⟩)
def upOf (i : Fin 8192) (f : Fin 2816) : EReal :=
  ∑ e, normed (hRow h i) (fun e => g (ix2 0 e)) e * w (ix2 e ⟨2816 + f.val, by omega⟩)
def actOf (i : Fin 8192) (f : Fin 2816) : EReal := ∑ e : Fin 1024, half * dh (ix2 i e) * d (ix2 f e)

theorem gate_row (i : Fin 8192) (f : Fin 2816) : rGate h g w (ix2 i f) = gateOf h g w i f := by
  pointwise [rGate]
  rw [gu_row]
  rfl

theorem up_row (i : Fin 8192) (f : Fin 2816) : rUp h g w (ix2 i f) = upOf h g w i f := by
  pointwise [rUp]
  rw [gu_row]
  rfl

theorem act_row (i : Fin 8192) (f : Fin 2816) : rAct d dh (ix2 i f) = actOf d dh i f := by
  pointwise [rAct]
  rfl

theorem one_row (i : Fin 8192) (f : Fin 2816) : rOne (ix2 i f) = 1 := by
  pointwise [rOne]

theorem sig_row (i : Fin 8192) (f : Fin 2816) : rSig h g w (ix2 i f) = Cert.Ffn.sig (gateOf h g w i f) := by
  pointwise [rSig]
  rw [one_row, gate_row]
  rfl

variable (act : FVec Ideal S8192x2816 .f32)

theorem dgate_row (i : Fin 8192) (f : Fin 2816) :
    rDGate h g w act (ix2 i f) = gateBack (gateOf h g w i f) (upOf h g w i f) (act (ix2 i f)) := by
  pointwise [rDGate]
  rw [one_row, gate_row, up_row, sig_row]
  rfl

theorem dup_row (i : Fin 8192) (f : Fin 2816) :
    rDUp h g w act (ix2 i f) = upBack (gateOf h g w i f) (act (ix2 i f)) := by
  pointwise [rDUp]
  rw [gate_row, sig_row]
  rfl

theorem dn_row (i : Fin 8192) (q : Fin 1024) : rDn h g w d dh (ix2 i q) =
    (∑ f : Fin 2816, gateBack (gateOf h g w i f) (upOf h g w i f) (actOf d dh i f) * w (ix2 q ⟨f.val, by omega⟩)) +
      ∑ f : Fin 2816, upBack (gateOf h g w i f) (actOf d dh i f) * w (ix2 q ⟨2816 + f.val, by omega⟩) := by
  pointwise [rDn]
  simp only [dgate_row, dup_row, act_row]

variable (dn : FVec Ideal S8192x1024 .f32)

theorem dh_last (a b c d : EReal) : d + a + b + c = a + b + c + d := by ac_rfl

theorem dx_row (i : Fin 8192) (q : Fin 1024) : rDx h g dh dn (ix2 i q) =
    normBack (hRow h i) (fun e => g (ix2 0 e)) (fun e => dn (ix2 i e)) q + dh (ix2 i q) := by
  pointwise [rDx, rThrough]
  simp only [Fin.sum_univ_one, invs_row, inv_row, ms_row, gain_row]
  exact dh_last _ _ _ _

theorem dg_row (q : Fin 1024) : rDg h dn (ix2 0 q) = ∑ i, h (ix2 i q) * invRms (hRow h i) * dn (ix2 i q) := by
  pointwise [rDg]
  simp only [Fin.sum_univ_one, invs_row]

end Values

/-! ## The two results -/

variable (m : (ℓ : Loc nD τ sig) → Buf (Elt Ideal) ℓ) (c : Dev nD)

abbrev mH : FVec Ideal S8192x1024 .f32 := m ((c.tc : Thread nD τ).loc main_arg0)
abbrev mG : FVec Ideal S1x1024 .f32 := m ((c.tc : Thread nD τ).loc main_arg1)
abbrev mW : FVec Ideal S1024x5632 .bf16 := m ((c.tc : Thread nD τ).loc main_arg2)
abbrev mD : FVec Ideal S2816x1024 .bf16 := m ((c.tc : Thread nD τ).loc main_arg3)
abbrev mDh : FVec Ideal S8192x1024 .f32 := m ((c.tc : Thread nD τ).loc main_arg4)

theorem dx_value : res_main_v57 m c =
    rDx (mH m c) (mG m c) (mDh m c) (rDn (mH m c) (mG m c) (mW m c) (mD m c) (mDh m c)) := rfl

theorem dgain_value : res_main_v58 m c =
    rDg (mH m c) (rDn (mH m c) (mG m c) (mW m c) (mD m c) (mDh m c)) := rfl

end Cert.FfnReferenceIdeal.Rows
-- ==== Proof.FfnEquation.lean ====
/-
  The kernel's two results are the reference's two gradients, from equal arguments.
-/
module

public import proofs.«01_k».proof.Proof.FfnKernelRun
public import proofs.«01_k».proof.Proof.FfnReference

@[expose] public section

set_option maxRecDepth 16384

noncomputable section

namespace Cert.Ffn

open Idealize.ShloMosaic Idealize.ShloMosaic.TcCoe Idealize.SL.Sem

namespace K
export Cert.FfnKernelIdeal.Rows (mH mG mW mD mDh mDn mDx mDgain)
end K

namespace R
export Cert.FfnReferenceIdeal.Rows (mH mG mW mD mDh rDn rDx rDg)
end R

variable (m : (ℓ : Loc Cert.FfnKernelIdeal.nD Cert.FfnKernelIdeal.τ Cert.FfnKernelIdeal.sig) → Buf (Elt Ideal) ℓ)
  (m' : (ℓ : Loc Cert.FfnReferenceIdeal.nD Cert.FfnReferenceIdeal.τ Cert.FfnReferenceIdeal.sig) → Buf (Elt Ideal) ℓ)
  (c : Dev Cert.FfnKernelIdeal.nD)

/-- The arguments of the two launches are equal. -/
structure Agree : Prop where
  h : R.mH m' c = K.mH m c
  g : R.mG m' c = K.mG m c
  w : R.mW m' c = K.mW m c
  d : R.mD m' c = K.mD m c
  dh : R.mDh m' c = K.mDh m c

variable {m m' c} (hA : Agree m m' c)
include hA

theorem dn_eq (i : Fin 8192) (q : Fin 1024) :
    R.rDn (R.mH m' c) (R.mG m' c) (R.mW m' c) (R.mD m' c) (R.mDh m' c) (ix2 i q) = K.mDn m c (ix2 i q) := by
  rw [Cert.FfnReferenceIdeal.Rows.dn_row, hA.h, hA.g, hA.w, hA.d, hA.dh]
  rfl

theorem dx_result : Cert.FfnReferenceIdeal.Value.res_main_v57 m' c = K.mDx m c := by
  rw [Cert.FfnReferenceIdeal.Rows.dx_value]
  funext y
  obtain ⟨i, q, rfl⟩ : ∃ (i : Fin 8192) (q : Fin 1024), y = ix2 i q := ⟨y 0, y 1, eq_ix2 y⟩
  rw [Cert.FfnReferenceIdeal.Rows.dx_row]
  simp only [dn_eq hA]
  rw [hA.h, hA.g, hA.dh]
  rfl

theorem dgain_result : Cert.FfnReferenceIdeal.Value.res_main_v58 m' c = K.mDgain m c := by
  rw [Cert.FfnReferenceIdeal.Rows.dgain_value]
  funext y
  obtain ⟨p, q, rfl⟩ : ∃ (p : Fin 1) (q : Fin 1024), y = ix2 p q := ⟨y 0, y 1, eq_ix2 y⟩
  obtain rfl : p = 0 := Subsingleton.elim _ _
  rw [Cert.FfnReferenceIdeal.Rows.dg_row]
  simp only [dn_eq hA]
  rw [hA.h]
  rfl

end Cert.Ffn
-- ==== Proof.FfnClaims.lean ====
/-
  The five claims about the backward pass of the SwiGLU layer.
-/
module

public import proofs.«01_k».proof.Defs
public import proofs.«01_k».proof.Proof.Gen.FfnKernel.Frame
public import proofs.«01_k».proof.Proof.FfnEquation
public import Idealize.ShloMosaic.Lib.Quiescent

@[expose] public section

noncomputable section

namespace Cert.Ffn

open Idealize.ShloMosaic Idealize.ShloMosaic.TcCoe Idealize.SL.Sem

theorem frame_kernel : Cert.quiescent_FfnKernel := fun m ρ _ => Cert.FfnKernel.Gen.frame m ρ

theorem frame_ideal : Cert.quiescent_FfnKernelIdeal := fun m ρ _ => Cert.FfnKernelIdeal.Gen.frame m ρ

theorem frame_reference : Cert.quiescent_FfnReferenceIdeal := fun m ρ _ =>
  (θ_run Cert.FfnReferenceIdeal.defs _ _).mono (fun r h => ⟨fun c => (h c).2.2,
      Idealize.ShloMosaic.sem_eq_zero_of_no_sems (by decide) r.2⟩)
    (Cert.FfnReferenceIdeal.Value.run (F := Ideal) m ρ)

/-- Nothing is rewritten between the kernel and its ideal form. -/
theorem preserves : Cert.preserves_FfnKernel_FfnKernelIdeal := trivial

/-- The kernel's two arrays are the reference's two gradients. -/
theorem algebraic : Cert.algebraic_FfnKernelIdeal_FfnReferenceIdeal := by
  intro m ρ m' ρ' _ hagree
  refine ⟨_, _, Cert.FfnKernelIdeal.Rows.run m ρ, ?_⟩
  refine (θ_run Cert.FfnReferenceIdeal.defs _ _).mono (fun _ h c => ?_) (Cert.FfnReferenceIdeal.Value.run (F := Ideal) m' ρ')
  have hA : Agree m m' c :=
    ⟨(hagree c).1, (hagree c).2.1, (hagree c).2.2.1, (hagree c).2.2.2.1, (hagree c).2.2.2.2⟩
  exact ⟨(h c).1.trans (dx_result hA), (h c).2.1.trans (dgain_result hA), (h c).2.2⟩

end Cert.Ffn
-- ==== Proof.DownKernelArray.lean ====
/-
  What the call for the down weights' gradient leaves in its result, as a function of the arrays it reads.
-/
module

public import proofs.«01_k».proof.Proof.FfnRow
public import proofs.«01_k».proof.Proof.FirstSum
public import proofs.«01_k».proof.Proof.Gen.DownKernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DownKernelIdeal.Rows

open Idealize.ShloMosaic Idealize.ShloMosaic.TcCoe Idealize.SL.Sem
open Idealize.ShloMosaic.Pipeline (Dat)
open Cert.DownKernelIdeal Cert.DownKernelIdeal.Gen

/-! ## One block -/

/-- The gated product's value from a gate and an up value. -/
def gated (a b : EReal) : EReal := a * Cert.Ffn.sig a * b

section Block

variable (a b : Vec Ideal S512x1408 .bf16) (d : Vec Ideal S512x1024 .f32) (r : Vec Ideal S1408x1024 .f32)
  (p : Fin 1408) (q : Fin 1024)

/-- A block's part of one entry of the gradient. -/
def part : EReal := ∑ e, gated (a (ix2 e p)) (b (ix2 e p)) * d (ix2 e q)

theorem part_row : k0_pay1 a b d (ix2 p q) = part a b d p q := by
  pointwise [k0_pay1]
  simp only [zero_sub]
  rfl

theorem first_row : k0_pay2 a b d (ix2 p q) = part a b d p q := by
  pointwise [k0_pay2]
  rw [part_row]

theorem next_row : k0_pay3 a b d r (ix2 p q) = r (ix2 p q) + part a b d p q := by
  pointwise [k0_pay3]
  rw [part_row]

theorem last_row : k0_pay4 a b d r (ix2 p q) = (r (ix2 p q) + part a b d p q) * Cert.Ffn.half := by
  pointwise [k0_pay4]
  rw [part_row]

end Block

/-! ## The grid -/

theorem idx : ∀ t : Fin cfg0.N, win0_0.index t = ![t.val % 16, t.val / 16] ∧ win0_1.index t = ![t.val % 16, 2 + t.val / 16] ∧
    win0_2.index t = ![t.val % 16, 0] ∧ win0_3.index t = ![t.val / 16, 0] :=
  (by decide +kernel : ∀ t : Fin grid0.N, _)

/-- Row `e` of the block of 512 rows at grid point `t`. -/
def row (t : Fin cfg0.N) (e : Fin 512) : Fin 8192 := ⟨t.val % 16 * 512 + e.val, by omega⟩
/-- Column `p` of the gated product's block. -/
def col (t : Fin cfg0.N) (p : Fin 1408) : Fin 2816 := ⟨t.val / 16 * 1408 + p.val, by have h : t.val < 32 := t.isLt; omega⟩

/-- Column `f` of the gate half. -/
def gateCol (f : Fin 2816) : Fin 5632 := ⟨f.val, by omega⟩
/-- Column `f` of the up half. -/
def upCol (f : Fin 2816) : Fin 5632 := ⟨2816 + f.val, by omega⟩

variable (m : (ℓ : Loc nD τ sig) → Buf (Elt Ideal) ℓ) (c : Dev nD)

/-- The gates and up values, as the call gets them. -/
abbrev vGu : Vec Ideal S8192x5632 .bf16 := V m c main_v18
/-- The residual's cotangent. -/
abbrev vDh : Vec Ideal S8192x1024 .f32 := V m c main_arg4

theorem blk_gate (t : Fin cfg0.N) (e : Fin 512) (p : Fin 1408) :
    iblk m c 0 t (ix2 e p) = vGu m c (ix2 (row t e) (gateCol (col t p))) := by
  blk_ext [iblk, idx t, row, col, gateCol]
theorem blk_up (t : Fin cfg0.N) (e : Fin 512) (p : Fin 1408) :
    iblk m c 1 t (ix2 e p) = vGu m c (ix2 (row t e) (upCol (col t p))) := by
  blk_ext [iblk, idx t, row, col, upCol]
theorem blk_dh (t : Fin cfg0.N) (e : Fin 512) (q : Fin 1024) : iblk m c 2 t (ix2 e q) = vDh m c (ix2 (row t e) q) := by
  blk_ext [iblk, idx t, row]

/-! ## The result -/

/-- One row's part of an entry of the gradient. -/
def term (f : Fin 2816) (q : Fin 1024) (i : Fin 8192) : EReal :=
  gated (vGu m c (ix2 i (gateCol f))) (vGu m c (ix2 i (upCol f))) * vDh m c (ix2 i q)

theorem part_eq (t : Fin cfg0.N) (p : Fin 1408) (q : Fin 1024) :
    part (iblk m c 0 t) (iblk m c 1 t) (iblk m c 2 t) p q = ∑ e, term m c (col t p) q (row t e) := by
  unfold part term
  simp only [blk_gate, blk_up, blk_dh]

theorem part_next (t : Fin cfg0.N) (p : Fin 1408) (q : Fin 1024) :
    firstSum (term m c (col t p) q) (t.val % 16 * 512) + part (iblk m c 0 t) (iblk m c 1 t) (iblk m c 2 t) p q =
      firstSum (term m c (col t p) q) ((t.val % 16 + 1) * 512) := by
  rw [part_eq, show (t.val % 16 + 1) * 512 = t.val % 16 * 512 + 512 by omega, firstSum_add _ (by omega)]
  rfl

/-- At a run's last point, what the scratch holds and the point's part are the sum over all rows. -/
theorem last_sum (t : Fin cfg0.N) (h15 : t.val % 16 = 15) (p : Fin 1408) (q : Fin 1024) :
    (outsAt0 m c (t.val - 1) (by omega)).2 (ix2 p q) + part (iblk m c 0 t) (iblk m c 1 t) (iblk m c 2 t) p q =
      ∑ i, term m c (col t p) q i := by
  have := run_last (K := 16) (B := 512) (fun n h => (outsAt0 m c n h).2 (ix2 p q))
    (fun n h => part (iblk m c 0 ⟨n, h⟩) (iblk m c 1 ⟨n, h⟩) (iblk m c 2 ⟨n, h⟩) p q)
    (fun n h => term m c (col ⟨n, h⟩ p) q) rfl
    (fun n h h0 => congrArg (fun f => term m c f q) (Fin.ext (by dsimp only [col]; omega)))
    (fun n h => part_next m c ⟨n, h⟩ p q)
    (fun n h h0 => by
      rw [outsAt0_A m c ⟨n, h⟩ h0 (by dsimp only; omega) (by dsimp only; omega)]
      frame_out
      exact first_row _ _ _ p q)
    (fun n h h0 hl => by
      have hN : n + 1 < 32 := h
      rw [outsAt0_B m c ⟨n + 1, h⟩ h0 (by dsimp only; omega) (by dsimp only; omega)]
      frame_out
      rw [next_row, read_unread_whole]
      rfl)
    (t.val - 1)
  obtain ⟨_ | n, hn⟩ := t
  · exact absurd h15 (by dsimp only; omega)
  · exact this hn (by dsimp only at h15 ⊢; omega) (by dsimp only at h15 ⊢; omega)

/-- The down weights' gradient. -/
def gradOf : Vec Ideal S2816x1024 .bf16 := fun j => ∑ i, Cert.Ffn.half *
  gated (vGu m c (ix2 i (gateCol (j 0)))) (vGu m c (ix2 i (upCol (j 0)))) * vDh m c (ix2 i (j 1))

theorem last_point : ∀ t : Fin cfg0.N, (cfg0.win 3).flush t = true → t.val % 16 = 15 :=
  (by decide +kernel : ∀ t : Fin grid0.N, _)

theorem grad_array : (dats m 0 c).arrAt 3 cfg0.N = gradOf m c := by
  refine (dats m 0 c).arrAt_eq_of_covers 3 _ (by decide +kernel) fun t ht y => ?_
  have h15 := last_point t ht
  have hN : t.val < 32 := t.isLt
  blk_simp
  rw [after0_3, outsAt0_C m c t (by omega) (by omega) h15]
  frame_out
  obtain ⟨p, q, rfl⟩ : ∃ (p : Fin 1408) (q : Fin 1024), y = ix2 p q := ⟨y 0, y 1, eq_ix2 y⟩
  rw [last_row, read_unread_whole]
  rw [last_sum m c t h15]
  refine (Cert.Ffn.half_sum _ _).trans (congrArg (gradOf m c) (a₁ := ix2 (col t p) q) ?_)
  blk_ext [idx t, col]

end Cert.DownKernelIdeal.Rows
-- ==== Proof.DownEquation.lean ====
/-
  The call for the down weights' gradient leaves the reference's gradient, from equal arguments.
-/
module

public import proofs.«01_k».proof.Proof.DownKernelArray
public import proofs.«01_k».proof.Proof.FfnReference
public import proofs.«01_k».proof.Proof.Gen.DownReferenceIdeal.Run

@[expose] public section

set_option maxRecDepth 16384

noncomputable section

namespace Cert.Down

open Idealize.ShloMosaic Idealize.ShloMosaic.TcCoe Idealize.SL.Sem
open Cert.FfnReferenceIdeal.Rows (rGu rGate rUp rSig gateOf upOf)

/-! ## The gates and up values -/

section Saved

open Cert.DownKernelIdeal

variable (m : (ℓ : Loc nD τ sig) → Buf (Elt Ideal) ℓ) (c : Dev nD)

abbrev mH : FVec Ideal S8192x1024 .f32 := m ((c.tc : Thread nD τ).loc main_arg0)
abbrev mG : FVec Ideal S1x1024 .f32 := m ((c.tc : Thread nD τ).loc main_arg1)
abbrev mW : FVec Ideal S1024x5632 .bf16 := m ((c.tc : Thread nD τ).loc main_arg2)
abbrev mDh : FVec Ideal S8192x1024 .f32 := m ((c.tc : Thread nD τ).loc main_arg4)

set_option maxHeartbeats 2000000 in
/-- The call gets the ones the layer's own lines compute. -/
theorem gu_value : Gen.V m c main_v18 = rGu (mH m c) (mG m c) (mW m c) := by
  simp only [Gen.V, Gen.hostOps0, List.flatten_cons, List.flatten_nil, List.append_nil]
  after_results_simp <;> rfl

end Saved

/-! ## The reference's gradient -/

section Reference

open Cert.DownReferenceIdeal Cert.DownReferenceIdeal.Gen

variable (h : FVec Ideal S8192x1024 .f32) (g : FVec Ideal S1x1024 .f32) (w : FVec Ideal S1024x5632 .bf16)
  (dh : FVec Ideal S8192x1024 .f32)

def rDDown : FVec Ideal S2816x1024 .bf16 :=
  truncf .bf16 (transpose S2816x1024 [1, 0]
    (Host.dotGeneral dot_S8192x1024_S8192x2816_S1024x2816_0_0_1_1_n_n none
      (mulf (broadcastInDim S8192x1024 ![] bcast_S_S8192x1024 (constant S_ .f32 0x3F000000#32)) dh)
      (mulf (mulf (rGate h g w) (rSig h g w)) (rUp h g w)))
    transposes_S1024x2816_S2816x1024_1_0) bitsLt_bf16_f32

theorem ddown_row (f : Fin 2816) (q : Fin 1024) : rDDown h g w dh (ix2 f q) =
    ∑ i, Cert.Ffn.half * dh (ix2 i q) *
      (gateOf h g w i f * Cert.Ffn.sig (gateOf h g w i f) * upOf h g w i f) := by
  pointwise [rDDown]
  simp only [Cert.FfnReferenceIdeal.Rows.gate_row, Cert.FfnReferenceIdeal.Rows.up_row, Cert.FfnReferenceIdeal.Rows.sig_row]

end Reference

/-! ## The two are equal -/

theorem swap_factors (k a b : EReal) : k * a * b = k * b * a := by ac_rfl

theorem grad_value (m : (ℓ : Loc Cert.DownKernelIdeal.nD Cert.DownKernelIdeal.τ Cert.DownKernelIdeal.sig) → Buf (Elt Ideal) ℓ)
    (c : Dev Cert.DownKernelIdeal.nD) :
    rDDown (mH m c) (mG m c) (mW m c) (mDh m c) = Cert.DownKernelIdeal.Rows.gradOf m c := by
  funext y
  obtain ⟨f, q, rfl⟩ : ∃ (f : Fin 2816) (q : Fin 1024), y = ix2 f q := ⟨y 0, y 1, eq_ix2 y⟩
  rw [ddown_row]
  unfold Cert.DownKernelIdeal.Rows.gradOf Cert.DownKernelIdeal.Rows.vGu
  rw [gu_value]
  refine Finset.sum_congr rfl fun i _ => ?_
  rw [Cert.FfnReferenceIdeal.Rows.gu_row, Cert.FfnReferenceIdeal.Rows.gu_row, Cert.DownKernelIdeal.Rows.vDh,
    Cert.DownKernelIdeal.Gen.V_main_arg4]
  exact swap_factors _ _ _

end Cert.Down
-- ==== Proof.DownClaims.lean ====
/-
  The five claims about the call for the down weights' gradient.
-/
module

public import proofs.«01_k».proof.Defs
public import proofs.«01_k».proof.Proof.Gen.DownKernel.Frame
public import proofs.«01_k».proof.Proof.DownEquation
public import Idealize.ShloMosaic.Lib.Quiescent

@[expose] public section

noncomputable section

namespace Cert.Down

open Idealize.ShloMosaic Idealize.ShloMosaic.TcCoe Idealize.SL.Sem

theorem frame_kernel : Cert.quiescent_DownKernel := fun m ρ _ => Cert.DownKernel.Gen.frame m ρ

theorem frame_ideal : Cert.quiescent_DownKernelIdeal := fun m ρ _ => Cert.DownKernelIdeal.Gen.frame m ρ

theorem frame_reference : Cert.quiescent_DownReferenceIdeal := fun m ρ _ =>
  (θ_run Cert.DownReferenceIdeal.defs _ _).mono (fun r h => ⟨fun c => (h c).2,
      Idealize.ShloMosaic.sem_eq_zero_of_no_sems (by decide) r.2⟩)
    (Cert.DownReferenceIdeal.Value.run (F := Ideal) m ρ)

/-- Nothing is rewritten between the kernel and its ideal form. -/
theorem preserves : Cert.preserves_DownKernel_DownKernelIdeal := trivial

/-- The kernel's array is the reference's gradient. -/
theorem algebraic : Cert.algebraic_DownKernelIdeal_DownReferenceIdeal := by
  intro m ρ m' ρ' _ hagree
  refine ⟨fun c => Cert.DownKernelIdeal.Rows.gradOf m c, ?_, ?_⟩
  · refine (θ_run Cert.DownKernelIdeal.defs _ _).mono (fun _ h c => ?_) (Cert.DownKernelIdeal.Value.run_blocks (F := Ideal) m ρ)
    exact ⟨(h c).1.trans (Cert.DownKernelIdeal.Rows.grad_array m c), (h c).2⟩
  · refine (θ_run Cert.DownReferenceIdeal.defs _ _).mono (fun _ h c => ?_)
      (Cert.DownReferenceIdeal.Value.run (F := Ideal) m' ρ')
    refine ⟨(h c).1.trans ?_, (h c).2⟩
    rw [(hagree c).1, (hagree c).2.1, (hagree c).2.2.1, (hagree c).2.2.2.2]
    exact grad_value m c

end Cert.Down
-- ==== Proof.GateKernelArray.lean ====
/-
  What the call for the gate weights' gradient leaves in its result, as a function of the arrays it reads.
-/
module

public import proofs.«01_k».proof.Proof.FirstSum
public import proofs.«01_k».proof.Proof.Gen.GateKernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GateKernelIdeal.Rows

open Idealize.ShloMosaic Idealize.ShloMosaic.TcCoe Idealize.SL.Sem
open Idealize.ShloMosaic.Pipeline (Dat)
open Cert.GateKernelIdeal Cert.GateKernelIdeal.Gen

/-! ## One block -/

section Block

variable (a : Vec Ideal S1024x1024 .bf16) (d : Vec Ideal S1024x1408 .bf16) (r : Vec Ideal S1024x1408 .f32)
  (p : Fin 1024) (q : Fin 1408)

/-- A block's part of one entry of the gradient. -/
def part : EReal := ∑ e, a (ix2 e p) * d (ix2 e q)

theorem first_row : k0_pay2 a d (ix2 p q) = part a d p q := by
  pointwise [k0_pay2, k0_pay1]
  rfl

theorem next_row : k0_pay3 a d r (ix2 p q) = r (ix2 p q) + part a d p q := by
  pointwise [k0_pay3, k0_pay1]
  rfl

theorem last_row : k0_pay4 a d r (ix2 p q) = r (ix2 p q) + part a d p q := by
  pointwise [k0_pay4, k0_pay1]
  rfl

end Block

/-! ## The grid -/

theorem idx : ∀ t : Fin cfg0.N, win0_0.index t = ![t.val % 8, 0] ∧ win0_1.index t = ![t.val % 8, t.val / 8] ∧
    win0_2.index t = ![0, t.val / 8] :=
  (by decide +kernel : ∀ t : Fin grid0.N, _)

/-- Row `e` of the block of 1024 rows at grid point `t`. -/
def row (t : Fin cfg0.N) (e : Fin 1024) : Fin 8192 := ⟨t.val % 8 * 1024 + e.val, by omega⟩
/-- Column `q` of the cotangent's block. -/
def col (t : Fin cfg0.N) (q : Fin 1408) : Fin 2816 := ⟨t.val / 8 * 1408 + q.val, by have h : t.val < 16 := t.isLt; omega⟩

variable (m : (ℓ : Loc nD τ sig) → Buf (Elt Ideal) ℓ) (c : Dev nD)

/-- The normed residual, as the call gets it. -/
abbrev vN : Vec Ideal S8192x1024 .bf16 := V m c main_v14
/-- The cotangent of the gates, as the call gets it. -/
abbrev vD : Vec Ideal S8192x2816 .bf16 := V m c main_v34

theorem blk_n (t : Fin cfg0.N) (e p : Fin 1024) : iblk m c 0 t (ix2 e p) = vN m c (ix2 (row t e) p) := by
  blk_ext [iblk, idx t, row]
theorem blk_d (t : Fin cfg0.N) (e : Fin 1024) (q : Fin 1408) :
    iblk m c 1 t (ix2 e q) = vD m c (ix2 (row t e) (col t q)) := by
  blk_ext [iblk, idx t, row, col]

/-! ## The result -/

/-- One row's part of an entry of the gradient. -/
def term (p : Fin 1024) (f : Fin 2816) (i : Fin 8192) : EReal := vN m c (ix2 i p) * vD m c (ix2 i f)

theorem part_next (t : Fin cfg0.N) (p : Fin 1024) (q : Fin 1408) :
    firstSum (term m c p (col t q)) (t.val % 8 * 1024) + part (iblk m c 0 t) (iblk m c 1 t) p q =
      firstSum (term m c p (col t q)) ((t.val % 8 + 1) * 1024) := by
  rw [show (t.val % 8 + 1) * 1024 = t.val % 8 * 1024 + 1024 by omega, firstSum_add _ (by omega)]
  unfold part
  simp only [blk_n, blk_d]
  rfl

/-- At a run's last point, what the scratch holds and the point's part are the sum over all rows. -/
theorem last_sum (t : Fin cfg0.N) (h7 : t.val % 8 = 7) (p : Fin 1024) (q : Fin 1408) :
    (outsAt0 m c (t.val - 1) (by omega)).2 (ix2 p q) + part (iblk m c 0 t) (iblk m c 1 t) p q =
      ∑ i, term m c p (col t q) i := by
  have := run_last (K := 8) (B := 1024) (fun n h => (outsAt0 m c n h).2 (ix2 p q))
    (fun n h => part (iblk m c 0 ⟨n, h⟩) (iblk m c 1 ⟨n, h⟩) p q)
    (fun n h => term m c p (col ⟨n, h⟩ q)) rfl
    (fun n h h0 => congrArg (term m c p) (Fin.ext (by dsimp only [col]; omega)))
    (fun n h => part_next m c ⟨n, h⟩ p q)
    (fun n h h0 => by
      rw [outsAt0_A m c ⟨n, h⟩ h0 (by dsimp only; omega) (by dsimp only; omega)]
      frame_out
      exact first_row _ _ p q)
    (fun n h h0 hl => by
      have hN : n + 1 < 16 := h
      rw [outsAt0_B m c ⟨n + 1, h⟩ h0 (by dsimp only; omega) (by dsimp only; omega)]
      frame_out
      rw [next_row, read_unread_whole]
      rfl)
    (t.val - 1)
  obtain ⟨_ | n, hn⟩ := t
  · exact absurd h7 (by dsimp only; omega)
  · exact this hn (by dsimp only at h7 ⊢; omega) (by dsimp only at h7 ⊢; omega)

theorem last_point : ∀ t : Fin cfg0.N, (cfg0.win 2).flush t = true → t.val % 8 = 7 :=
  (by decide +kernel : ∀ t : Fin grid0.N, _)

/-- The two weights' gradients side by side: the gates' half computed, the other left as it was. -/
def gradOf : Vec Ideal S1024x5632 .bf16 := fun j =>
  if h : (j 1).val < 2816 then ∑ e, term m c (j 0) ⟨(j 1).val, h⟩ e else V m c main_v36 j

theorem grad_half (p : Fin 1024) (f : Fin 2816) :
    gradOf m c (ix2 p ⟨f.val, by omega⟩) = ∑ e, term m c p f e := dif_pos f.isLt

theorem grad_rest (j : S1024x5632.Idx) (h : ¬(j 1).val < 2816) : gradOf m c j = V m c main_v36 j := dif_neg h

theorem grad_array : (dats m 0 c).arrAt 2 cfg0.N = gradOf m c := by
  refine (dats m 0 c).arrAt_eq_of_coversWhere_of_agree 2 _ (fun β => β (1 : Fin 2) < 2) (by decide +kernel)
    (fun t ht y => ?_) (fun j hj => ?_)
  · have h7 := last_point t ht
    have hN : t.val < 16 := t.isLt
    blk_simp
    rw [after0_2, outsAt0_C m c t (by omega) (by omega) h7]
    frame_out
    obtain ⟨p, q, rfl⟩ : ∃ (p : Fin 1024) (q : Fin 1408), y = ix2 p q := ⟨y 0, y 1, eq_ix2 y⟩
    rw [last_row, read_unread_whole, last_sum m c t h7]
    refine (grad_half m c p (col t q)).symm.trans (congrArg (gradOf m c) ?_)
    blk_ext [idx t, col]
  · blk_simp [Pipeline.Window.cell_apply] at hj
    exact (grad_rest m c j (by omega)).symm

end Cert.GateKernelIdeal.Rows
-- ==== Proof.GateReference.lean ====
/-
  The reference's gradient of the gate and up weights, read entry by entry.
-/
module

public import proofs.«01_k».proof.Proof.FfnReference
public import proofs.«01_k».proof.Proof.Gen.GateReferenceIdeal

@[expose] public section

set_option maxRecDepth 16384

noncomputable section

namespace Cert.GateReferenceIdeal.Rows

open Idealize.ShloMosaic Idealize.ShloMosaic.TcCoe Idealize.SL.Sem
open Cert.GateReferenceIdeal Cert.GateReferenceIdeal.Gen
open Cert.FfnReferenceIdeal.Rows (rN rDGate rDUp)

variable (h : FVec Ideal S8192x1024 .f32) (g : FVec Ideal S1x1024 .f32) (w : FVec Ideal S1024x5632 .bf16)
  (d : FVec Ideal S2816x1024 .bf16) (dh : FVec Ideal S8192x1024 .f32)

/-- The cotangent of the gated product. -/
def rAct : FVec Ideal S8192x2816 .f32 :=
  Host.dotGeneral dot_S8192x1024_S2816x1024_S8192x2816_1_1_0_0_n_n none
    (mulf (broadcastInDim S8192x1024 ![] bcast_S_S8192x1024 (constant S_ .f32 0x3F000000#32)) dh) (extf .f32 d bitsLt_bf16_f32)

/-- The cotangents of the gates and of the up values, side by side. -/
def rDGu : FVec Ideal S8192x5632 .f32 :=
  concatenate S8192x5632 1 [⟨S8192x2816, rDGate h g w (rAct d dh)⟩, ⟨S8192x2816, rDUp h g w (rAct d dh)⟩]
    concatenates_S8192x2816_S8192x2816_S8192x5632_d1

/-- The weights' gradient. -/
def rDW : FVec Ideal S1024x5632 .bf16 :=
  truncf .bf16 (transpose S1024x5632 [1, 0]
    (Host.dotGeneral dot_S8192x5632_S8192x1024_S5632x1024_0_0_1_1_n_n none (rDGu h g w d dh) (rN h g))
    transposes_S5632x1024_S1024x5632_1_0) bitsLt_bf16_f32

theorem gates (i : Fin 8192) (f : Fin 2816) :
    rDGu h g w d dh (ix2 i ⟨f.val, by omega⟩) = rDGate h g w (rAct d dh) (ix2 i f) := by
  pointwise [rDGu]

theorem ups (i : Fin 8192) (f : Fin 2816) :
    rDGu h g w d dh (ix2 i ⟨2816 + f.val, by omega⟩) = rDUp h g w (rAct d dh) (ix2 i f) := by
  pointwise [rDGu]

theorem dw_row (p : Fin 1024) (k : Fin 5632) :
    rDW h g w d dh (ix2 p k) = ∑ i, rN h g (ix2 i p) * rDGu h g w d dh (ix2 i k) := by
  pointwise [rDW]
  exact Finset.sum_congr rfl fun i _ => mul_comm _ _

theorem dw_gate (p : Fin 1024) (f : Fin 2816) :
    rDW h g w d dh (ix2 p ⟨f.val, by omega⟩) = ∑ i, rN h g (ix2 i p) * rDGate h g w (rAct d dh) (ix2 i f) := by
  simp only [dw_row, gates]

theorem dw_up (p : Fin 1024) (f : Fin 2816) :
    rDW h g w d dh (ix2 p ⟨2816 + f.val, by omega⟩) = ∑ i, rN h g (ix2 i p) * rDUp h g w (rAct d dh) (ix2 i f) := by
  simp only [dw_row, ups]

/-! ## An entry of the weights' array lies in the gate half or in the up half -/

theorem gate_index (i : S1024x5632.Idx) (h : (i 1).val < 2816) :
    ∃ (p : Fin 1024) (f : Fin 2816), i = ix2 p ⟨f.val, f.isLt.trans (by decide)⟩ :=
  ⟨i 0, ⟨(i 1).val, h⟩, eq_ix2 i⟩

theorem up_index (i : S1024x5632.Idx) (h : ¬(i 1).val < 2816) :
    ∃ (p : Fin 1024) (f : Fin 2816), i = ix2 p ⟨2816 + f.val, Nat.add_lt_add_left f.isLt 2816⟩ := by
  have hi : (i 1).val < 5632 := (i 1).isLt
  exact ⟨i 0, ⟨(i 1).val - 2816, by omega⟩,
    (eq_ix2 i).trans (congrArg (ix2 (i 0)) (Fin.ext (by dsimp only; omega)))⟩

end Cert.GateReferenceIdeal.Rows
-- ==== Proof.GateEquation.lean ====
/-
  The call for the gate weights' gradient leaves the reference's gradient in the gate half, from equal arguments.
-/
module

public import proofs.«01_k».proof.Proof.GateKernelArray
public import proofs.«01_k».proof.Proof.GateReference
public import proofs.«01_k».proof.Proof.Gen.GateReferenceIdeal.Run

@[expose] public section

set_option maxRecDepth 16384

noncomputable section

namespace Cert.Gate

open Idealize.ShloMosaic Idealize.ShloMosaic.TcCoe Idealize.SL.Sem
open Cert.FfnReferenceIdeal.Rows (rN rDGate)
open Cert.GateReferenceIdeal.Rows (rAct rDW)

/-! ## What the call gets -/

section Saved

open Cert.GateKernelIdeal

variable (m : (ℓ : Loc nD τ sig) → Buf (Elt Ideal) ℓ) (c : Dev nD)

abbrev mH : FVec Ideal S8192x1024 .f32 := m ((c.tc : Thread nD τ).loc main_arg0)
abbrev mG : FVec Ideal S1x1024 .f32 := m ((c.tc : Thread nD τ).loc main_arg1)
abbrev mW : FVec Ideal S1024x5632 .bf16 := m ((c.tc : Thread nD τ).loc main_arg2)
abbrev mD : FVec Ideal S2816x1024 .bf16 := m ((c.tc : Thread nD τ).loc main_arg3)
abbrev mDh : FVec Ideal S8192x1024 .f32 := m ((c.tc : Thread nD τ).loc main_arg4)

open Gen StableHlo in
set_option maxHeartbeats 4000000 in
theorem n_value : V m c main_v14 = rN (mH m c) (mG m c) := by
  simp only [V, hostOps0, hostOps0_1, hostOps0_2, hostOps0_3, hostOps0_4, List.flatten_cons, List.flatten_nil,
    List.append_nil, List.cons_append, List.nil_append, TRef.binary, TRef.nullary, TRef.unary, TRef.toBuf, TRef.ofBuf,
    cast_eq]
  after_results_simp <;> rfl

open Gen StableHlo in
set_option maxHeartbeats 4000000 in
theorem d_value : V m c main_v34 = rDGate (mH m c) (mG m c) (mW m c) (rAct (mD m c) (mDh m c)) := by
  simp only [V, hostOps0, hostOps0_1, hostOps0_2, hostOps0_3, hostOps0_4, List.flatten_cons, List.flatten_nil,
    List.append_nil, List.cons_append, List.nil_append, TRef.binary, TRef.nullary, TRef.unary, TRef.toBuf, TRef.ofBuf,
    cast_eq]
  after_results_simp <;> rfl

theorem term_value (p : Fin 1024) (f : Fin 2816) (i : Fin 8192) : Rows.term m c p f i =
    rN (mH m c) (mG m c) (ix2 i p) * rDGate (mH m c) (mG m c) (mW m c) (rAct (mD m c) (mDh m c)) (ix2 i f) := by
  unfold Rows.term Rows.vN Rows.vD
  rw [n_value, d_value]

end Saved

/-! ## The two are equal -/

open Cert.GateReferenceIdeal in
theorem dw_value (m' : (ℓ : Loc nD τ sig) → Buf (Elt Ideal) ℓ) (c : Dev nD) : Value.res_main_v34 m' c =
    rDW (m' ((c.tc : Thread nD τ).loc main_arg0)) (m' ((c.tc : Thread nD τ).loc main_arg1))
      (m' ((c.tc : Thread nD τ).loc main_arg2)) (m' ((c.tc : Thread nD τ).loc main_arg3))
      (m' ((c.tc : Thread nD τ).loc main_arg4)) := rfl

theorem grad_value (m : (ℓ : Loc Cert.GateKernelIdeal.nD Cert.GateKernelIdeal.τ Cert.GateKernelIdeal.sig) → Buf (Elt Ideal) ℓ)
    (c : Dev Cert.GateKernelIdeal.nD) (i : Cert.GateKernelIdeal.S1024x5632.Idx) (h : (i 1).val < 2816) :
    rDW (mH m c) (mG m c) (mW m c) (mD m c) (mDh m c) i = Cert.GateKernelIdeal.Rows.gradOf m c i := by
  obtain ⟨p, f, rfl⟩ := Cert.GateReferenceIdeal.Rows.gate_index i h
  rw [Cert.GateReferenceIdeal.Rows.dw_gate, Cert.GateKernelIdeal.Rows.grad_half]
  exact Finset.sum_congr rfl fun e _ => (term_value m c p f e).symm

end Cert.Gate
-- ==== Proof.GateClaims.lean ====
/-
  The five claims about the call for the gate weights' gradient.
-/
module

public import proofs.«01_k».proof.Defs
public import proofs.«01_k».proof.Proof.Gen.GateKernel.Frame
public import proofs.«01_k».proof.Proof.GateEquation
public import Idealize.ShloMosaic.Lib.Quiescent

@[expose] public section

noncomputable section

namespace Cert.Gate

open Idealize.ShloMosaic Idealize.ShloMosaic.TcCoe Idealize.SL.Sem

/-- What the claim's choice of columns takes. -/
instance halfFacts : Cert.On_gate_half.Facts := ⟨by decide⟩

theorem frame_kernel : Cert.quiescent_GateKernel := fun m ρ _ => Cert.GateKernel.Gen.frame m ρ

theorem frame_ideal : Cert.quiescent_GateKernelIdeal := fun m ρ _ => Cert.GateKernelIdeal.Gen.frame m ρ

theorem frame_reference : Cert.quiescent_GateReferenceIdeal := fun m ρ _ =>
  (θ_run Cert.GateReferenceIdeal.defs _ _).mono (fun r h => ⟨fun c => (h c).2,
      Idealize.ShloMosaic.sem_eq_zero_of_no_sems (by decide) r.2⟩)
    (Cert.GateReferenceIdeal.Value.run (F := Ideal) m ρ)

/-- Nothing is rewritten between the kernel and its ideal form. -/
theorem preserves : Cert.preserves_GateKernel_GateKernelIdeal := trivial

section Half

open Cert.On_gate_half

/-- The claim's columns are those of the gate half. -/
theorem half_lt (h : FVec Ideal S8192x1024 .f32) (g : FVec Ideal S1x1024 .f32) (w : FVec Ideal S1024x5632 .bf16)
    (d : FVec Ideal S2816x1024 .bf16) (dh : FVec Ideal S8192x1024 .f32) (i : S1024x5632.Idx)
    (hi : fn (F := Ideal) h g w d dh i = 1#1) : (i 1).val < 2816 := by
  exact (by decide +kernel : ∀ k : Fin 5632,
    IntOp.cmpi .slt (BitVec.ofNat 32 k.val) 2816#32 = 1#1 → k.val < 2816) (i 1) hi

end Half

/-- The kernel's array is the reference's gradient in the gate half. -/
theorem algebraic : Cert.algebraic_GateKernelIdeal_GateReferenceIdeal_on_gate_half := by
  intro m ρ m' ρ' _ hagree
  refine ⟨fun c => Cert.GateKernelIdeal.Rows.gradOf m c, ?_, ?_⟩
  · refine (θ_run Cert.GateKernelIdeal.defs _ _).mono (fun _ h c => ?_)
      (Cert.GateKernelIdeal.Value.run_blocks (F := Ideal) m ρ)
    exact ⟨fun i _ => congrFun ((h c).1.trans (Cert.GateKernelIdeal.Rows.grad_array m c)) i, (h c).2⟩
  · refine (θ_run Cert.GateReferenceIdeal.defs _ _).mono (fun _ h c => ?_)
      (Cert.GateReferenceIdeal.Value.run (F := Ideal) m' ρ')
    refine ⟨fun i hi => (congrFun (h c).1 i).trans ?_, (h c).2⟩
    rw [dw_value, (hagree c).1, (hagree c).2.1, (hagree c).2.2.1, (hagree c).2.2.2.1, (hagree c).2.2.2.2]
    exact grad_value m c i (half_lt _ _ _ _ _ i hi)

end Cert.Gate
-- ==== Proof.UpKernelArray.lean ====
/-
  What the call for the up weights' gradient leaves in its result, as a function of the arrays it reads.
-/
module

public import proofs.«01_k».proof.Proof.FirstSum
public import proofs.«01_k».proof.Proof.Gen.UpKernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.UpKernelIdeal.Rows

open Idealize.ShloMosaic Idealize.ShloMosaic.TcCoe Idealize.SL.Sem
open Idealize.ShloMosaic.Pipeline (Dat)
open Cert.UpKernelIdeal Cert.UpKernelIdeal.Gen

/-! ## One block -/

section Block

variable (a : Vec Ideal S1024x1024 .bf16) (d : Vec Ideal S1024x1408 .bf16) (r : Vec Ideal S1024x1408 .f32)
  (p : Fin 1024) (q : Fin 1408)

/-- A block's part of one entry of the gradient. -/
def part : EReal := ∑ e, a (ix2 e p) * d (ix2 e q)

theorem first_row : k0_pay2 a d (ix2 p q) = part a d p q := by
  pointwise [k0_pay2, k0_pay1]
  rfl

theorem next_row : k0_pay3 a d r (ix2 p q) = r (ix2 p q) + part a d p q := by
  pointwise [k0_pay3, k0_pay1]
  rfl

theorem last_row : k0_pay4 a d r (ix2 p q) = r (ix2 p q) + part a d p q := by
  pointwise [k0_pay4, k0_pay1]
  rfl

end Block

/-! ## The grid -/

theorem idx : ∀ t : Fin cfg0.N, win0_0.index t = ![t.val % 8, 0] ∧ win0_1.index t = ![t.val % 8, t.val / 8] ∧
    win0_2.index t = ![0, 2 + t.val / 8] :=
  (by decide +kernel : ∀ t : Fin grid0.N, _)

/-- Row `e` of the block of 1024 rows at grid point `t`. -/
def row (t : Fin cfg0.N) (e : Fin 1024) : Fin 8192 := ⟨t.val % 8 * 1024 + e.val, by omega⟩
/-- Column `q` of the cotangent's block. -/
def col (t : Fin cfg0.N) (q : Fin 1408) : Fin 2816 := ⟨t.val / 8 * 1408 + q.val, by have h : t.val < 16 := t.isLt; omega⟩

variable (m : (ℓ : Loc nD τ sig) → Buf (Elt Ideal) ℓ) (c : Dev nD)

/-- The normed residual, as the call gets it. -/
abbrev vN : Vec Ideal S8192x1024 .bf16 := V m c main_v14
/-- The cotangent of the up values, as the call gets it. -/
abbrev vD : Vec Ideal S8192x2816 .bf16 := V m c main_v35

theorem blk_n (t : Fin cfg0.N) (e p : Fin 1024) : iblk m c 0 t (ix2 e p) = vN m c (ix2 (row t e) p) := by
  blk_ext [iblk, idx t, row]
theorem blk_d (t : Fin cfg0.N) (e : Fin 1024) (q : Fin 1408) :
    iblk m c 1 t (ix2 e q) = vD m c (ix2 (row t e) (col t q)) := by
  blk_ext [iblk, idx t, row, col]

/-! ## The result -/

/-- One row's part of an entry of the gradient. -/
def term (p : Fin 1024) (f : Fin 2816) (i : Fin 8192) : EReal := vN m c (ix2 i p) * vD m c (ix2 i f)

theorem part_next (t : Fin cfg0.N) (p : Fin 1024) (q : Fin 1408) :
    firstSum (term m c p (col t q)) (t.val % 8 * 1024) + part (iblk m c 0 t) (iblk m c 1 t) p q =
      firstSum (term m c p (col t q)) ((t.val % 8 + 1) * 1024) := by
  rw [show (t.val % 8 + 1) * 1024 = t.val % 8 * 1024 + 1024 by omega, firstSum_add _ (by omega)]
  unfold part
  simp only [blk_n, blk_d]
  rfl

/-- At a run's last point, what the scratch holds and the point's part are the sum over all rows. -/
theorem last_sum (t : Fin cfg0.N) (h7 : t.val % 8 = 7) (p : Fin 1024) (q : Fin 1408) :
    (outsAt0 m c (t.val - 1) (by omega)).2 (ix2 p q) + part (iblk m c 0 t) (iblk m c 1 t) p q =
      ∑ i, term m c p (col t q) i := by
  have := run_last (K := 8) (B := 1024) (fun n h => (outsAt0 m c n h).2 (ix2 p q))
    (fun n h => part (iblk m c 0 ⟨n, h⟩) (iblk m c 1 ⟨n, h⟩) p q)
    (fun n h => term m c p (col ⟨n, h⟩ q)) rfl
    (fun n h h0 => congrArg (term m c p) (Fin.ext (by dsimp only [col]; omega)))
    (fun n h => part_next m c ⟨n, h⟩ p q)
    (fun n h h0 => by
      rw [outsAt0_A m c ⟨n, h⟩ h0 (by dsimp only; omega) (by dsimp only; omega)]
      frame_out
      exact first_row _ _ p q)
    (fun n h h0 hl => by
      have hN : n + 1 < 16 := h
      rw [outsAt0_B m c ⟨n + 1, h⟩ h0 (by dsimp only; omega) (by dsimp only; omega)]
      frame_out
      rw [next_row, read_unread_whole]
      rfl)
    (t.val - 1)
  obtain ⟨_ | n, hn⟩ := t
  · exact absurd h7 (by dsimp only; omega)
  · exact this hn (by dsimp only at h7 ⊢; omega) (by dsimp only at h7 ⊢; omega)

theorem last_point : ∀ t : Fin cfg0.N, (cfg0.win 2).flush t = true → t.val % 8 = 7 :=
  (by decide +kernel : ∀ t : Fin grid0.N, _)

/-- The two weights' gradients side by side: the gates' half as it came, the up values' half computed. -/
def gradOf : Vec Ideal S1024x5632 .bf16 := fun j =>
  if h : 2816 ≤ (j 1).val then
    ∑ e, term m c (j 0) ⟨(j 1).val - 2816, by have h : (j 1).val < 5632 := (j 1).isLt; omega⟩ e
  else V m c main_v36 j

theorem grad_half (p : Fin 1024) (f : Fin 2816) :
    gradOf m c (ix2 p ⟨2816 + f.val, by omega⟩) = ∑ e, term m c p f e :=
  (dif_pos (by dsimp only [ix2]; omega)).trans (congrArg (fun f => ∑ e, term m c p f e) (Fin.ext (by dsimp only [ix2]; omega)))

theorem grad_rest (j : S1024x5632.Idx) (h : ¬2816 ≤ (j 1).val) : gradOf m c j = V m c main_v36 j := dif_neg h

theorem grad_array : (dats m 0 c).arrAt 2 cfg0.N = gradOf m c := by
  refine (dats m 0 c).arrAt_eq_of_coversWhere_of_agree 2 _ (fun β => 2 ≤ β (1 : Fin 2)) (by decide +kernel)
    (fun t ht y => ?_) (fun j hj => ?_)
  · have h7 := last_point t ht
    have hN : t.val < 16 := t.isLt
    blk_simp
    rw [after0_2, outsAt0_C m c t (by omega) (by omega) h7]
    frame_out
    obtain ⟨p, q, rfl⟩ : ∃ (p : Fin 1024) (q : Fin 1408), y = ix2 p q := ⟨y 0, y 1, eq_ix2 y⟩
    rw [last_row, read_unread_whole, last_sum m c t h7]
    refine (grad_half m c p (col t q)).symm.trans (congrArg (gradOf m c) ?_)
    blk_ext [idx t, col]
  · blk_simp [Pipeline.Window.cell_apply] at hj
    exact (grad_rest m c j (by omega)).symm

end Cert.UpKernelIdeal.Rows
-- ==== Proof.UpEquation.lean ====
/-
  The call for the up weights' gradient leaves the reference's array, from equal arguments: the gate half as it came,
  the reference's gradient in the up half.
-/
module

public import proofs.«01_k».proof.Proof.UpKernelArray
public import proofs.«01_k».proof.Proof.GateReference
public import proofs.«01_k».proof.Proof.Gen.UpReferenceIdeal.Run

@[expose] public section

set_option maxRecDepth 16384

noncomputable section

namespace Cert.Up

open Idealize.ShloMosaic Idealize.ShloMosaic.TcCoe Idealize.SL.Sem
open Cert.FfnReferenceIdeal.Rows (rN rDUp)
open Cert.GateReferenceIdeal.Rows (rAct rDW)

/-! ## What the call gets -/

section Saved

open Cert.UpKernelIdeal

variable (m : (ℓ : Loc nD τ sig) → Buf (Elt Ideal) ℓ) (c : Dev nD)

abbrev mH : FVec Ideal S8192x1024 .f32 := m ((c.tc : Thread nD τ).loc main_arg0)
abbrev mG : FVec Ideal S1x1024 .f32 := m ((c.tc : Thread nD τ).loc main_arg1)
abbrev mW : FVec Ideal S1024x5632 .bf16 := m ((c.tc : Thread nD τ).loc main_arg2)
abbrev mD : FVec Ideal S2816x1024 .bf16 := m ((c.tc : Thread nD τ).loc main_arg3)
abbrev mDh : FVec Ideal S8192x1024 .f32 := m ((c.tc : Thread nD τ).loc main_arg4)
/-- The array the call writes into. -/
abbrev mInto : FVec Ideal S1024x5632 .bf16 := m ((c.tc : Thread nD τ).loc main_arg5)

open Gen StableHlo in
set_option maxHeartbeats 4000000 in
theorem n_value : V m c main_v14 = rN (mH m c) (mG m c) := by
  simp only [V, hostOps0, hostOps0_1, hostOps0_2, hostOps0_3, hostOps0_4, List.flatten_cons, List.flatten_nil,
    List.append_nil, List.cons_append, List.nil_append, TRef.binary, TRef.nullary, TRef.unary, TRef.toBuf, TRef.ofBuf,
    cast_eq]
  after_results_simp <;> rfl

open Gen StableHlo in
set_option maxHeartbeats 4000000 in
theorem d_value : V m c main_v35 = rDUp (mH m c) (mG m c) (mW m c) (rAct (mD m c) (mDh m c)) := by
  simp only [V, hostOps0, hostOps0_1, hostOps0_2, hostOps0_3, hostOps0_4, List.flatten_cons, List.flatten_nil,
    List.append_nil, List.cons_append, List.nil_append, TRef.binary, TRef.nullary, TRef.unary, TRef.toBuf, TRef.ofBuf,
    cast_eq]
  after_results_simp <;> rfl

open Gen StableHlo in
set_option maxHeartbeats 4000000 in
theorem into_value : V m c main_v36 = mInto m c := by
  simp only [V, hostOps0, hostOps0_1, hostOps0_2, hostOps0_3, hostOps0_4, List.flatten_cons, List.flatten_nil,
    List.append_nil, List.cons_append, List.nil_append, TRef.binary, TRef.nullary, TRef.unary, TRef.toBuf, TRef.ofBuf,
    cast_eq]
  after_results_simp <;> rfl

theorem term_value (p : Fin 1024) (f : Fin 2816) (i : Fin 8192) : Rows.term m c p f i =
    rN (mH m c) (mG m c) (ix2 i p) * rDUp (mH m c) (mG m c) (mW m c) (rAct (mD m c) (mDh m c)) (ix2 i f) := by
  unfold Rows.term Rows.vN Rows.vD
  rw [n_value, d_value]

end Saved

/-! ## The reference's result -/

section Reference

open Cert.UpReferenceIdeal Cert.UpReferenceIdeal.Gen

variable (h : FVec Ideal S8192x1024 .f32) (g : FVec Ideal S1x1024 .f32) (w : FVec Ideal S1024x5632 .bf16)
  (d : FVec Ideal S2816x1024 .bf16) (dh : FVec Ideal S8192x1024 .f32) (z : FVec Ideal S1024x5632 .bf16)

/-- The gates' half as it came, the up values' half of the gradient. -/
def rInto : FVec Ideal S1024x5632 .bf16 :=
  concatenate S1024x5632 1 [⟨S1024x2816, extractStridedSlice S1024x2816 ![0, 0] z slices_S1024x5632_S1024x2816_0_0⟩,
    ⟨S1024x2816, extractStridedSlice S1024x2816 ![0, 2816] (rDW h g w d dh) slices_S1024x5632_S1024x2816_0_2816⟩]
    concatenates_S1024x2816_S1024x2816_S1024x5632_d1

theorem into_gate (p : Fin 1024) (f : Fin 2816) :
    rInto h g w d dh z (ix2 p ⟨f.val, by omega⟩) = z (ix2 p ⟨f.val, by omega⟩) := by
  pointwise [rInto]

theorem into_up (p : Fin 1024) (f : Fin 2816) :
    rInto h g w d dh z (ix2 p ⟨2816 + f.val, by omega⟩) = rDW h g w d dh (ix2 p ⟨2816 + f.val, by omega⟩) := by
  pointwise [rInto]

theorem into_result (m' : (ℓ : Loc nD τ sig) → Buf (Elt Ideal) ℓ) (c : Dev nD) : Value.res_main_v37 m' c =
    rInto (m' ((c.tc : Thread nD τ).loc main_arg0)) (m' ((c.tc : Thread nD τ).loc main_arg1))
      (m' ((c.tc : Thread nD τ).loc main_arg2)) (m' ((c.tc : Thread nD τ).loc main_arg3))
      (m' ((c.tc : Thread nD τ).loc main_arg4)) (m' ((c.tc : Thread nD τ).loc main_arg5)) := rfl

end Reference

/-! ## The two are equal -/

theorem grad_value (m : (ℓ : Loc Cert.UpKernelIdeal.nD Cert.UpKernelIdeal.τ Cert.UpKernelIdeal.sig) → Buf (Elt Ideal) ℓ)
    (c : Dev Cert.UpKernelIdeal.nD) :
    rInto (mH m c) (mG m c) (mW m c) (mD m c) (mDh m c) (mInto m c) = Cert.UpKernelIdeal.Rows.gradOf m c := by
  funext i
  by_cases h : (i 1).val < 2816
  · rw [Cert.UpKernelIdeal.Rows.grad_rest m c i (by omega), into_value]
    obtain ⟨p, f, rfl⟩ := Cert.GateReferenceIdeal.Rows.gate_index i h
    exact into_gate _ _ _ _ _ _ p f
  · obtain ⟨p, f, rfl⟩ := Cert.GateReferenceIdeal.Rows.up_index i h
    rw [into_up, Cert.GateReferenceIdeal.Rows.dw_up, Cert.UpKernelIdeal.Rows.grad_half]
    exact Finset.sum_congr rfl fun e _ => (term_value m c p f e).symm

end Cert.Up
-- ==== Proof.UpClaims.lean ====
/-
  The five claims about the call for the up weights' gradient.
-/
module

public import proofs.«01_k».proof.Defs
public import proofs.«01_k».proof.Proof.Gen.UpKernel.Frame
public import proofs.«01_k».proof.Proof.UpEquation
public import Idealize.ShloMosaic.Lib.Quiescent

@[expose] public section

noncomputable section

namespace Cert.Up

open Idealize.ShloMosaic Idealize.ShloMosaic.TcCoe Idealize.SL.Sem

theorem frame_kernel : Cert.quiescent_UpKernel := fun m ρ _ => Cert.UpKernel.Gen.frame m ρ

theorem frame_ideal : Cert.quiescent_UpKernelIdeal := fun m ρ _ => Cert.UpKernelIdeal.Gen.frame m ρ

theorem frame_reference : Cert.quiescent_UpReferenceIdeal := fun m ρ _ =>
  (θ_run Cert.UpReferenceIdeal.defs _ _).mono (fun r h => ⟨fun c => (h c).2,
      Idealize.ShloMosaic.sem_eq_zero_of_no_sems (by decide) r.2⟩)
    (Cert.UpReferenceIdeal.Value.run (F := Ideal) m ρ)

/-- Nothing is rewritten between the kernel and its ideal form. -/
theorem preserves : Cert.preserves_UpKernel_UpKernelIdeal := trivial

/-- The kernel's array is the reference's. -/
theorem algebraic : Cert.algebraic_UpKernelIdeal_UpReferenceIdeal := by
  intro m ρ m' ρ' _ hagree
  refine ⟨fun c => Cert.UpKernelIdeal.Rows.gradOf m c, ?_, ?_⟩
  · refine (θ_run Cert.UpKernelIdeal.defs _ _).mono (fun _ h c => ?_) (Cert.UpKernelIdeal.Value.run_blocks (F := Ideal) m ρ)
    exact ⟨(h c).1.trans (Cert.UpKernelIdeal.Rows.grad_array m c), (h c).2⟩
  · refine (θ_run Cert.UpReferenceIdeal.defs _ _).mono (fun _ h c => ?_)
      (Cert.UpReferenceIdeal.Value.run (F := Ideal) m' ρ')
    refine ⟨(h c).1.trans ?_, (h c).2⟩
    rw [into_result, (hagree c).1, (hagree c).2.1, (hagree c).2.2.1, (hagree c).2.2.2.1, (hagree c).2.2.2.2.1,
      (hagree c).2.2.2.2.2]
    exact grad_value m c

end Cert.Up
-- ==== Proof.XattnKernelRows.lean ====
/-
  The memory cross-attention's payloads, read row by row.
-/
module

public import proofs.«01_k».proof.Proof.Row
public import proofs.«01_k».proof.Proof.FfnRow
public import proofs.«01_k».proof.Proof.Gen.XattnKernelIdeal.Skeleton
public import Idealize.ShloMosaic.Lib.Pointwise

@[expose] public section

set_option maxRecDepth 16384

noncomputable section

/-! ## One query of one head -/

namespace Cert.Xattn

open Idealize.ShloMosaic Idealize.ShloMosaic.TcCoe Idealize.SL.Sem

/-- Lane `e` of head `h` among the 1024 lanes of the four heads. -/
def lane (h : Fin 4) (e : Fin 256) : Fin 1024 := ⟨h.val * 256 + e.val, by omega⟩

/-- The head lane `l` belongs to, and its place in that head. -/
def headOf (l : Fin 1024) : Fin 4 := ⟨l.val / 256, by omega⟩
def placeOf (l : Fin 1024) : Fin 256 := ⟨l.val % 256, by omega⟩

/-- The factor 1/16 of the scores. -/
abbrev scale : EReal := Ideal.ofBits FTy.f32 0x3D800000#32

variable (q : Fin 256 → EReal) (k v : Fin 256 → Fin 256 → EReal)

/-- The scores of a query against the memory's keys. -/
def score (l : Fin 256) : EReal := (∑ e, q e * k l e) * scale

/-- The values, weighted by the softmax of the scores. -/
def attend (e : Fin 256) : EReal :=
  ∑ l, Ideal.div (Cert.Swa.wt (score q k) l) (Cert.Swa.den (score q k)) * v l e

end Cert.Xattn

namespace Cert.XattnKernelIdeal.Rows

open Idealize.ShloMosaic Idealize.ShloMosaic.TcCoe Idealize.SL.Sem
open Cert.XattnKernelIdeal Cert.XattnKernelIdeal.Gen Cert.Xattn
open Cert.Ffn (normed)

theorem norm_row (a : Vec Ideal S512x1024 .f32) (b : Vec Ideal S1x1024 .f32) (p : Fin 512) (q : Fin 1024) :
    k0_pay1 a b (ix2 p q) = normed (fun e => a (ix2 p e)) (fun e => b (ix2 0 e)) q := by
  pointwise [k0_pay1]
  rfl

theorem mem_norm_row (a : Vec Ideal S256x1024 .f32) (b : Vec Ideal S1x1024 .f32) (p : Fin 256) (q : Fin 1024) :
    k1_pay1 a b (ix2 p q) = normed (fun e => a (ix2 p e)) (fun e => b (ix2 0 e)) q := by
  pointwise [k1_pay1]
  rfl

theorem q_row (a b : Vec Ideal S1024x1024 .bf16) (p q : Fin 1024) :
    k2_pay1 a b (ix2 p q) = ∑ e, a (ix2 p e) * b (ix2 e q) := by
  pointwise [k2_pay1]

theorem kv_row (a : Vec Ideal S256x1024 .bf16) (b : Vec Ideal S1024x1024 .bf16) (p : Fin 256) (q : Fin 1024) :
    k3_pay1 a b (ix2 p q) = ∑ e, a (ix2 p e) * b (ix2 e q) := by
  pointwise [k3_pay1]

theorem out_row (a b : Vec Ideal S1024x1024 .bf16) (r : Vec Ideal S1024x1024 .f32) (p q : Fin 1024) :
    k5_pay1 a b r (ix2 p q) = r (ix2 p q) + ∑ e, a (ix2 p e) * b (ix2 e q) := by
  pointwise [k5_pay1]

/-! ## One head of one block of queries -/

section Head

variable (q k v : FVec Ideal S256x256 .bf16)

/-- The scores. -/
def kScore : FVec Ideal S256x256 .f32 :=
  mulf (matmul dot_S256x256_S256x256_S256x256_1_1_0_0_n_n none q k (constant S256x256 .f32 0x00000000#32))
    (broadcast S256x256 (Scalar.ofBits .f32 0x3D800000#32))

/-- The row's largest score, across the row. -/
def kTop : FVec Ideal S256x256 .f32 :=
  broadcastTo S256x256 (shapeCast S256x1
    (multiReduction .maximumf [1] S256 (kScore q k) 0xFF800000#32 reduces_S256x256_S256 (.inl rfl) rfl) shapeCasts_S256_S256x1)
    broadcasts_S256x1_S256x256

/-- The weights. -/
def kWt : FVec Ideal S256x256 .f32 := exp (subf (kScore q k) (kTop q k))

/-- The weights' sum, across the row. -/
def kDen : FVec Ideal S256x256 .f32 :=
  broadcastTo S256x256 (shapeCast S256x1
    (multiReduction .add [1] S256 (kWt q k) 0x00000000#32 reduces_S256x256_S256 (.inl rfl) rfl) shapeCasts_S256_S256x1)
    broadcasts_S256x1_S256x256

/-- The head's output. -/
def kHead : FVec Ideal S256x256 .f32 :=
  matmul dot_S256x256_S256x256_S256x256_1_0_0_1_n_n none (truncf .bf16 (divf (kWt q k) (kDen q k)) bitsLt_bf16_f32) v
    (constant S256x256 .f32 0x00000000#32)

variable (p : Fin 256)

/-- The scores of query `p`. -/
abbrev rowS : Fin 256 → EReal := score (fun e => q (ix2 p e)) fun l e => k (ix2 l e)

theorem score_row (l : Fin 256) : kScore q k (ix2 p l) = rowS q k p l := by
  pointwise [kScore]
  rfl

theorem top_row (l : Fin 256) : kTop q k (ix2 p l) = Cert.Swa.top (rowS q k p) := by
  pointwise [kTop]
  simp only [score_row]
  rfl

theorem wt_row (l : Fin 256) : kWt q k (ix2 p l) = Cert.Swa.wt (rowS q k p) l := by
  pointwise [kWt]
  rw [score_row, top_row]
  rfl

theorem den_row (l : Fin 256) : kDen q k (ix2 p l) = Cert.Swa.den (rowS q k p) := by
  pointwise [kDen]
  simp only [wt_row]
  rfl

theorem head_row (e : Fin 256) :
    kHead q k v (ix2 p e) = attend (fun e => q (ix2 p e)) (fun l e => k (ix2 l e)) (fun l e => v (ix2 l e)) e := by
  pointwise [kHead]
  simp only [wt_row, den_row]
  rfl

end Head

/-! ## The four heads side by side -/

section Heads

variable (x0 x1 x2 x3 : FVec Ideal S256x256 .f32)

def kSide : FVec Ideal S256x1024 .bf16 :=
  truncf .bf16 (concatenate S256x1024 1 [⟨S256x256, x0⟩, ⟨S256x256, x1⟩, ⟨S256x256, x2⟩, ⟨S256x256, x3⟩]
    concatenates_S256x256_S256x256_S256x256_S256x256_S256x1024_d1) bitsLt_bf16_f32

variable (p e : Fin 256)

theorem side0 : kSide x0 x1 x2 x3 (ix2 p ⟨e.val, by omega⟩) = x0 (ix2 p e) := by
  pointwise [kSide]
theorem side1 : kSide x0 x1 x2 x3 (ix2 p ⟨256 + e.val, by omega⟩) = x1 (ix2 p e) := by
  pointwise [kSide]
theorem side2 : kSide x0 x1 x2 x3 (ix2 p ⟨512 + e.val, by omega⟩) = x2 (ix2 p e) := by
  pointwise [kSide]
  rw [dif_neg (by omega), dif_neg (by omega), dif_pos (by omega)]
  exact congrArg (fun l => x2 (ix2 p l)) (Fin.ext (by dsimp only; omega))
theorem side3 : kSide x0 x1 x2 x3 (ix2 p ⟨768 + e.val, by omega⟩) = x3 (ix2 p e) := by
  pointwise [kSide]
  rw [dif_neg (by omega), dif_neg (by omega), dif_neg (by omega)]
  exact congrArg (fun l => x3 (ix2 p l)) (Fin.ext (by dsimp only; omega))

theorem side_row (h : Fin 4) : kSide x0 x1 x2 x3 (ix2 p (lane h e)) = ![x0, x1, x2, x3] h (ix2 p e) := by
  obtain ⟨h, hlt⟩ := h
  interval_cases h
  · exact (congrArg (fun l => kSide x0 x1 x2 x3 (ix2 p l)) (Fin.ext (by simp [lane]))).trans (side0 x0 x1 x2 x3 p e)
  · exact (congrArg (fun l => kSide x0 x1 x2 x3 (ix2 p l)) (Fin.ext (by simp [lane]))).trans (side1 x0 x1 x2 x3 p e)
  · exact (congrArg (fun l => kSide x0 x1 x2 x3 (ix2 p l)) (Fin.ext (by simp [lane]))).trans (side2 x0 x1 x2 x3 p e)
  · exact (congrArg (fun l => kSide x0 x1 x2 x3 (ix2 p l)) (Fin.ext (by simp [lane]))).trans (side3 x0 x1 x2 x3 p e)

end Heads

/-! ## The block -/

/-- Lane `e` of head `h` of the keys, and of the values, among the 2048 lanes of both. -/
def kLane (h : Fin 4) (e : Fin 256) : Fin 2048 := ⟨h.val * 256 + e.val, by omega⟩
def vLane (h : Fin 4) (e : Fin 256) : Fin 2048 := ⟨1024 + h.val * 256 + e.val, by omega⟩

variable (x : Vec Ideal S256x1024 .bf16) (y : Vec Ideal S256x2048 .bf16)

/-- Head `h` of one block's output. -/
def headAt (h : Fin 4) (p e : Fin 256) : EReal :=
  attend (fun e => x (ix2 p (lane h e))) (fun l e => y (ix2 l (kLane h e))) (fun l e => y (ix2 l (vLane h e))) e

/-- One block's output. -/
def kCore : FVec Ideal S256x1024 .bf16 :=
  k4_pay1 (k4_pay2 x) (k4_pay3 y) (k4_pay4 x y) (k4_pay5 x y) (k4_pay6 y) (k4_pay7 x y) (k4_pay8 (F := Ideal))

/-- A head's output, from the block's queries and the memory's keys and values. -/
def kOne (a b c : ℕ) (ha : S256x1024.Slices ![0, a] S256x256) (hb : S256x2048.Slices ![0, b] S256x256)
    (hc : S256x2048.Slices ![0, c] S256x256) : FVec Ideal S256x256 .f32 :=
  kHead (extractStridedSlice S256x256 ![0, a] (k4_pay2 x) ha) (extractStridedSlice S256x256 ![0, b] (k4_pay3 y) hb)
    (extractStridedSlice S256x256 ![0, c] (k4_pay3 y) hc)

theorem core_heads : kCore x y = kSide
    (kOne x y 0 0 1024 slices_S256x1024_o0_0_S256x256 slices_S256x2048_o0_0_S256x256 slices_S256x2048_o0_1024_S256x256)
    (kOne x y 256 256 1280 slices_S256x1024_o0_256_S256x256 slices_S256x2048_o0_256_S256x256 slices_S256x2048_o0_1280_S256x256)
    (kOne x y 512 512 1536 slices_S256x1024_o0_512_S256x256 slices_S256x2048_o0_512_S256x256 slices_S256x2048_o0_1536_S256x256)
    (kOne x y 768 768 1792 slices_S256x1024_o0_768_S256x256 slices_S256x2048_o0_768_S256x256 slices_S256x2048_o0_1792_S256x256) :=
  rfl

theorem one_row (h : Fin 4) (a b c : ℕ) (ha : S256x1024.Slices ![0, a] S256x256) (hb : S256x2048.Slices ![0, b] S256x256)
    (hc : S256x2048.Slices ![0, c] S256x256) (ea : a = h.val * 256) (eb : b = h.val * 256) (ec : c = 1024 + h.val * 256)
    (p e : Fin 256) : kOne x y a b c ha hb hc (ix2 p e) = headAt x y h p e := by
  have hx : ∀ p e, extractStridedSlice S256x256 ![0, a] (k4_pay2 x) ha (ix2 p e) = x (ix2 p (lane h e)) := by
    intro p e
    subst ea
    pointwise [k4_pay2]
    rfl
  have hk : ∀ p e, extractStridedSlice S256x256 ![0, b] (k4_pay3 y) hb (ix2 p e) = y (ix2 p (kLane h e)) := by
    intro p e
    subst eb
    pointwise [k4_pay3]
    rfl
  have hv : ∀ p e, extractStridedSlice S256x256 ![0, c] (k4_pay3 y) hc (ix2 p e) = y (ix2 p (vLane h e)) := by
    intro p e
    subst ec
    pointwise [k4_pay3]
    rfl
  unfold kOne
  rw [head_row]
  simp only [hx, hk, hv]
  rfl

theorem core_row (h : Fin 4) (p e : Fin 256) : kCore x y (ix2 p (lane h e)) = headAt x y h p e := by
  rw [core_heads, side_row]
  obtain ⟨h, hlt⟩ := h
  interval_cases h
  · exact one_row x y 0 _ _ _ _ _ _ rfl rfl rfl p e
  · exact one_row x y 1 _ _ _ _ _ _ rfl rfl rfl p e
  · exact one_row x y 2 _ _ _ _ _ _ rfl rfl rfl p e
  · exact one_row x y 3 _ _ _ _ _ _ rfl rfl rfl p e

end Cert.XattnKernelIdeal.Rows
-- ==== Proof.XattnKernelArrays.lean ====
/-
  What each call of the memory cross-attention leaves in its result array, as a function of the arrays it reads.
-/
module

public import proofs.«01_k».proof.Proof.XattnKernelRows
public import proofs.«01_k».proof.Proof.Gen.XattnKernelIdeal.Frame
public import Idealize.ShloMosaic.Lib.Pipeline.ValueKit
public import Idealize.ShloMosaic.Lib.Pipeline.ReadBack

@[expose] public section

set_option maxRecDepth 16384

noncomputable section

namespace Cert.XattnKernelIdeal.Rows

open Idealize.ShloMosaic Idealize.ShloMosaic.TcCoe Idealize.SL.Sem
open Idealize.ShloMosaic.Pipeline (Dat)
open Cert.XattnKernelIdeal Cert.XattnKernelIdeal.Gen Cert.Xattn
open Cert.Ffn (normed)

/-! ## The arrays, as functions of arrays -/

/-- The normed residual. -/
def nOf (h : Vec Ideal S8192x1024 .f32) (g : Vec Ideal S1x1024 .f32) : Vec Ideal S8192x1024 .bf16 := fun j =>
  normed (fun e => h (ix2 (j 0) e)) (fun e => g (ix2 0 e)) (j 1)

/-- The normed memory. -/
def mnOf (h : Vec Ideal S256x1024 .f32) (g : Vec Ideal S1x1024 .f32) : Vec Ideal S256x1024 .bf16 := fun j =>
  normed (fun e => h (ix2 (j 0) e)) (fun e => g (ix2 0 e)) (j 1)

/-- The queries. -/
def qOf (n : Vec Ideal S8192x1024 .bf16) (w : Vec Ideal S1024x1024 .bf16) : Vec Ideal S8192x1024 .bf16 := fun j =>
  ∑ e : Fin 1024, n (ix2 (j 0) e) * w (ix2 e (j 1))

/-- The keys and values. -/
def kvOf (n : Vec Ideal S256x1024 .bf16) (w : Vec Ideal S1024x2048 .bf16) : Vec Ideal S256x2048 .bf16 := fun j =>
  ∑ e : Fin 1024, n (ix2 (j 0) e) * w (ix2 e (j 1))

/-- Lane `e` of head `h` of the attention's output at query `i`. -/
def attAt (q : Vec Ideal S8192x1024 .bf16) (kv : Vec Ideal S256x2048 .bf16) (i : Fin 8192) (h : Fin 4) (e : Fin 256) :
    EReal :=
  attend (fun e => q (ix2 i (lane h e))) (fun l e => kv (ix2 l (kLane h e))) (fun l e => kv (ix2 l (vLane h e))) e

theorem lane_split (l : Fin 1024) : l = lane (headOf l) (placeOf l) :=
  Fin.ext (by dsimp only [lane, headOf, placeOf]; omega)

theorem head_lane (h : Fin 4) (e : Fin 256) : headOf (lane h e) = h := Fin.ext (by dsimp only [lane, headOf]; omega)
theorem place_lane (h : Fin 4) (e : Fin 256) : placeOf (lane h e) = e := Fin.ext (by dsimp only [lane, placeOf]; omega)

/-- The attention's output. -/
def attOf (q : Vec Ideal S8192x1024 .bf16) (kv : Vec Ideal S256x2048 .bf16) : Vec Ideal S8192x1024 .bf16 := fun j =>
  attAt q kv (j 0) (headOf (j 1)) (placeOf (j 1))

/-- The residual after the layer. -/
def outOf (o : Vec Ideal S8192x1024 .bf16) (w : Vec Ideal S1024x1024 .bf16) (h : Vec Ideal S8192x1024 .f32) :
    Vec Ideal S8192x1024 .f32 := fun j =>
  h (ix2 (j 0) (j 1)) + ∑ e : Fin 1024, o (ix2 (j 0) e) * w (ix2 e (j 1))

variable (V : (c : Dev nD) → (b : Ref sig .tc) → Buf (Elt Ideal) ((c : Thread nD τ).loc b)) (c : Dev nD)

abbrev vH : Vec Ideal S8192x1024 .f32 := V c main_arg0
abbrev vM : Vec Ideal S256x1024 .f32 := V c main_arg1
abbrev vG : Vec Ideal S1x1024 .f32 := V c main_arg2
abbrev vMg : Vec Ideal S1x1024 .f32 := V c main_arg3
abbrev vWq : Vec Ideal S1024x1024 .bf16 := V c main_arg4
abbrev vWkv : Vec Ideal S1024x2048 .bf16 := V c main_arg5
abbrev vWo : Vec Ideal S1024x1024 .bf16 := V c main_arg6
abbrev vN : Vec Ideal S8192x1024 .bf16 := V c main_v0
abbrev vMn : Vec Ideal S256x1024 .bf16 := V c main_v1
abbrev vQ : Vec Ideal S8192x1024 .bf16 := V c main_v2
abbrev vKv : Vec Ideal S256x2048 .bf16 := V c main_v3
abbrev vO : Vec Ideal S8192x1024 .bf16 := V c main_v4

/-! ## The norms -/

theorem idx0 : ∀ t : Fin cfg0.N, win0_0.index t = ![t.val, 0] ∧ win0_1.index t = ![0, 0] ∧ win0_2.index t = ![t.val, 0] :=
  (by decide +kernel : ∀ t : Fin grid0.N, _)

/-- Row `p` of the block of 512 rows at grid point `t`. -/
def row0 (t : Fin cfg0.N) (p : Fin 512) : Fin 8192 := ⟨t.val * 512 + p.val, by have h : t.val < 16 := t.isLt; omega⟩

theorem blk0_0 (t : Fin cfg0.N) (p : Fin 512) (e : Fin 1024) : iblk0 V c 0 t (ix2 p e) = vH V c (ix2 (row0 t p) e) := by
  blk_ext [iblk0, idx0 t, row0]
theorem blk0_1 (t : Fin cfg0.N) (e : Fin 1024) : iblk0 V c 1 t (ix2 0 e) = vG V c (ix2 0 e) := by
  blk_ext [iblk0, idx0 t]

theorem n_array : (dat0 V c).arrAt 2 cfg0.N = nOf (vH V c) (vG V c) := by
  refine (dat0 V c).arrAt_eq_of_covers 2 _ (by decide +kernel) fun t _ y => ?_
  blk_simp
  rw [after0_2]
  frame_out
  obtain ⟨p, q, rfl⟩ : ∃ (p : Fin 512) (q : Fin 1024), y = ix2 p q := ⟨y 0, y 1, eq_ix2 y⟩
  rw [norm_row]
  simp only [blk0_0, blk0_1]
  refine congrArg (nOf (vH V c) (vG V c)) (a₁ := ix2 (row0 t p) q) ?_
  blk_ext [idx0 t, row0]

theorem idx1 : ∀ t : Fin cfg1.N, win1_0.index t = ![0, 0] ∧ win1_1.index t = ![0, 0] ∧ win1_2.index t = ![0, 0] :=
  (by decide +kernel : ∀ t : Fin grid1.N, _)

theorem blk1_0 (t : Fin cfg1.N) (p : Fin 256) (e : Fin 1024) : iblk1 V c 0 t (ix2 p e) = vM V c (ix2 p e) := by
  blk_ext [iblk1, idx1 t]
theorem blk1_1 (t : Fin cfg1.N) (e : Fin 1024) : iblk1 V c 1 t (ix2 0 e) = vMg V c (ix2 0 e) := by
  blk_ext [iblk1, idx1 t]

theorem mn_array : (dat1 V c).arrAt 2 cfg1.N = mnOf (vM V c) (vMg V c) := by
  refine (dat1 V c).arrAt_eq_of_covers 2 _ (by decide +kernel) fun t _ y => ?_
  blk_simp
  rw [after1_2]
  frame_out
  obtain ⟨p, q, rfl⟩ : ∃ (p : Fin 256) (q : Fin 1024), y = ix2 p q := ⟨y 0, y 1, eq_ix2 y⟩
  rw [mem_norm_row]
  simp only [blk1_0, blk1_1]
  refine congrArg (mnOf (vM V c) (vMg V c)) (a₁ := ix2 p q) ?_
  blk_ext [idx1 t]

/-! ## The queries, the keys and values -/

theorem idx2 : ∀ t : Fin cfg2.N, win2_0.index t = ![t.val, 0] ∧ win2_1.index t = ![0, 0] ∧ win2_2.index t = ![t.val, 0] :=
  (by decide +kernel : ∀ t : Fin grid2.N, _)

/-- Row `p` of the block of 1024 rows at grid point `t`. -/
def row2 (t : Fin cfg2.N) (p : Fin 1024) : Fin 8192 := ⟨t.val * 1024 + p.val, by have h : t.val < 8 := t.isLt; omega⟩

theorem blk2_0 (t : Fin cfg2.N) (p e : Fin 1024) : iblk2 V c 0 t (ix2 p e) = vN V c (ix2 (row2 t p) e) := by
  blk_ext [iblk2, idx2 t, row2]
theorem blk2_1 (t : Fin cfg2.N) (e q : Fin 1024) : iblk2 V c 1 t (ix2 e q) = vWq V c (ix2 e q) := by
  blk_ext [iblk2, idx2 t]

theorem q_array : (dat2 V c).arrAt 2 cfg2.N = qOf (vN V c) (vWq V c) := by
  refine (dat2 V c).arrAt_eq_of_covers 2 _ (by decide +kernel) fun t _ y => ?_
  blk_simp
  rw [after2_2]
  frame_out
  obtain ⟨p, q, rfl⟩ : ∃ (p : Fin 1024) (q : Fin 1024), y = ix2 p q := ⟨y 0, y 1, eq_ix2 y⟩
  rw [q_row]
  simp only [blk2_0, blk2_1]
  refine congrArg (qOf (vN V c) (vWq V c)) (a₁ := ix2 (row2 t p) q) ?_
  blk_ext [idx2 t, row2]

theorem idx3 : ∀ t : Fin cfg3.N, win3_0.index t = ![0, 0] ∧ win3_1.index t = ![0, t.val] ∧ win3_2.index t = ![0, t.val] :=
  (by decide +kernel : ∀ t : Fin grid3.N, _)

/-- Column `q` of the block of 1024 columns at grid point `t`. -/
def col3 (t : Fin cfg3.N) (q : Fin 1024) : Fin 2048 := ⟨t.val * 1024 + q.val, by have h : t.val < 2 := t.isLt; omega⟩

theorem blk3_0 (t : Fin cfg3.N) (p : Fin 256) (e : Fin 1024) : iblk3 V c 0 t (ix2 p e) = vMn V c (ix2 p e) := by
  blk_ext [iblk3, idx3 t]
theorem blk3_1 (t : Fin cfg3.N) (e q : Fin 1024) : iblk3 V c 1 t (ix2 e q) = vWkv V c (ix2 e (col3 t q)) := by
  blk_ext [iblk3, idx3 t, col3]

theorem kv_array : (dat3 V c).arrAt 2 cfg3.N = kvOf (vMn V c) (vWkv V c) := by
  refine (dat3 V c).arrAt_eq_of_covers 2 _ (by decide +kernel) fun t _ y => ?_
  blk_simp
  rw [after3_2]
  frame_out
  obtain ⟨p, q, rfl⟩ : ∃ (p : Fin 256) (q : Fin 1024), y = ix2 p q := ⟨y 0, y 1, eq_ix2 y⟩
  rw [kv_row]
  simp only [blk3_0, blk3_1]
  refine congrArg (kvOf (vMn V c) (vWkv V c)) (a₁ := ix2 p (col3 t q)) ?_
  blk_ext [idx3 t, col3]

/-! ## The attention -/

theorem idx4 : ∀ t : Fin cfg4.N, win4_0.index t = ![t.val, 0] ∧ win4_1.index t = ![0, 0] ∧ win4_2.index t = ![t.val, 0] :=
  (by decide +kernel : ∀ t : Fin grid4.N, _)

/-- Row `p` of the block of 256 rows at grid point `t`. -/
def row4 (t : Fin cfg4.N) (p : Fin 256) : Fin 8192 := ⟨t.val * 256 + p.val, by have h : t.val < 32 := t.isLt; omega⟩

theorem blk4_0 (t : Fin cfg4.N) (p : Fin 256) (e : Fin 1024) : iblk4 V c 0 t (ix2 p e) = vQ V c (ix2 (row4 t p) e) := by
  blk_ext [iblk4, idx4 t, row4]
theorem blk4_1 (t : Fin cfg4.N) (l : Fin 256) (e : Fin 2048) : iblk4 V c 1 t (ix2 l e) = vKv V c (ix2 l e) := by
  blk_ext [iblk4, idx4 t]

theorem att_lane (q : Vec Ideal S8192x1024 .bf16) (kv : Vec Ideal S256x2048 .bf16) (i : Fin 8192) (h : Fin 4) (e : Fin 256) :
    attOf q kv (ix2 i (lane h e)) = attAt q kv i h e := by
  show attAt q kv i (headOf (lane h e)) (placeOf (lane h e)) = _
  rw [head_lane, place_lane]

theorem att_array : (dat4 V c).arrAt 2 cfg4.N = attOf (vQ V c) (vKv V c) := by
  refine (dat4 V c).arrAt_eq_of_covers 2 _ (by decide +kernel) fun t _ y => ?_
  blk_simp
  rw [after4_2]
  frame_out
  obtain ⟨p, h, e, rfl⟩ : ∃ (p : Fin 256) (h : Fin 4) (e : Fin 256), y = ix2 p (lane h e) :=
    ⟨y 0, headOf (y 1), placeOf (y 1), (eq_ix2 y).trans (congrArg (ix2 (y 0)) (lane_split (y 1)))⟩
  refine (core_row (iblk4 V c 0 t) (iblk4 V c 1 t) h p e).trans ?_
  unfold headAt
  simp only [blk4_0, blk4_1]
  refine (att_lane (vQ V c) (vKv V c) (row4 t p) h e).symm.trans
    (congrArg (attOf (vQ V c) (vKv V c)) (a₁ := ix2 (row4 t p) (lane h e)) ?_)
  blk_ext [idx4 t, row4]

/-! ## The output product -/

theorem idx5 : ∀ t : Fin cfg5.N, win5_0.index t = ![t.val, 0] ∧ win5_1.index t = ![0, 0] ∧ win5_2.index t = ![t.val, 0] ∧
    win5_3.index t = ![t.val, 0] :=
  (by decide +kernel : ∀ t : Fin grid5.N, _)

def row5 (t : Fin cfg5.N) (p : Fin 1024) : Fin 8192 := ⟨t.val * 1024 + p.val, by have h : t.val < 8 := t.isLt; omega⟩

theorem blk5_0 (t : Fin cfg5.N) (p e : Fin 1024) : iblk5 V c 0 t (ix2 p e) = vO V c (ix2 (row5 t p) e) := by
  blk_ext [iblk5, idx5 t, row5]
theorem blk5_1 (t : Fin cfg5.N) (e q : Fin 1024) : iblk5 V c 1 t (ix2 e q) = vWo V c (ix2 e q) := by
  blk_ext [iblk5, idx5 t]
theorem blk5_2 (t : Fin cfg5.N) (p e : Fin 1024) : iblk5 V c 2 t (ix2 p e) = vH V c (ix2 (row5 t p) e) := by
  blk_ext [iblk5, idx5 t, row5]

theorem out_array : (dat5 V c).arrAt 3 cfg5.N = outOf (vO V c) (vWo V c) (vH V c) := by
  refine (dat5 V c).arrAt_eq_of_covers 3 _ (by decide +kernel) fun t _ y => ?_
  blk_simp
  rw [after5_3]
  frame_out
  obtain ⟨p, q, rfl⟩ : ∃ (p : Fin 1024) (q : Fin 1024), y = ix2 p q := ⟨y 0, y 1, eq_ix2 y⟩
  rw [out_row]
  simp only [blk5_0, blk5_1, blk5_2]
  refine congrArg (outOf (vO V c) (vWo V c) (vH V c)) (a₁ := ix2 (row5 t p) q) ?_
  blk_ext [idx5 t, row5]

end Cert.XattnKernelIdeal.Rows
-- ==== Proof.XattnKernelRun.lean ====
/-
  The memory cross-attention's launch: what its result holds at the end, as a function of the seven arguments.
-/
module

public import proofs.«01_k».proof.Proof.XattnKernelArrays

@[expose] public section

set_option maxRecDepth 16384

noncomputable section

namespace Cert.XattnKernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.XattnKernelIdeal Cert.XattnKernelIdeal.Gen Cert.Xattn

variable (m : (ℓ : Loc nD τ sig) → Buf (Elt Ideal) ℓ) (ρ : Dev nD → PrngReg) (c : Dev nD)

/-! ## The arguments, and the arrays between the calls -/

abbrev mH : Vec Ideal S8192x1024 .f32 := m ((c.tc : Thread nD τ).loc main_arg0)
abbrev mM : Vec Ideal S256x1024 .f32 := m ((c.tc : Thread nD τ).loc main_arg1)
abbrev mG : Vec Ideal S1x1024 .f32 := m ((c.tc : Thread nD τ).loc main_arg2)
abbrev mMg : Vec Ideal S1x1024 .f32 := m ((c.tc : Thread nD τ).loc main_arg3)
abbrev mWq : Vec Ideal S1024x1024 .bf16 := m ((c.tc : Thread nD τ).loc main_arg4)
abbrev mWkv : Vec Ideal S1024x2048 .bf16 := m ((c.tc : Thread nD τ).loc main_arg5)
abbrev mWo : Vec Ideal S1024x1024 .bf16 := m ((c.tc : Thread nD τ).loc main_arg6)

def mQ : Vec Ideal S8192x1024 .bf16 := qOf (nOf (mH m c) (mG m c)) (mWq m c)
def mKv : Vec Ideal S256x2048 .bf16 := kvOf (mnOf (mM m c) (mMg m c)) (mWkv m c)
def mAtt : Vec Ideal S8192x1024 .bf16 := attOf (mQ m c) (mKv m c)
/-- The residual after the layer. -/
def mOut : Vec Ideal S8192x1024 .f32 := outOf (mAtt m c) (mWo m c) (mH m c)

theorem at1_n : V1 m ρ c main_v0 = nOf (mH m c) (mG m c) :=
  (W1_arr m ρ c 2).trans (n_array (V0 m ρ) c)

theorem at2_n : V2 m ρ c main_v0 = nOf (mH m c) (mG m c) :=
  (W2_of m ρ c main_v0 (by decide)).trans (at1_n m ρ c)

theorem at2_mn : V2 m ρ c main_v1 = mnOf (mM m c) (mMg m c) := by
  refine (W2_arr m ρ c 2).trans ((mn_array (V1 m ρ) c).trans ?_)
  rw [vM, show V1 m ρ c main_arg1 = mM m c from W1_args m ρ c main_arg1 (by decide),
    vMg, show V1 m ρ c main_arg3 = mMg m c from W1_args m ρ c main_arg3 (by decide)]

theorem at3_mn : V3 m ρ c main_v1 = mnOf (mM m c) (mMg m c) :=
  (W3_of m ρ c main_v1 (by decide)).trans (at2_mn m ρ c)

theorem at3_q : V3 m ρ c main_v2 = mQ m c := by
  refine (W3_arr m ρ c 2).trans ((q_array (V2 m ρ) c).trans ?_)
  rw [vN, at2_n, vWq, show V2 m ρ c main_arg4 = mWq m c from W2_args m ρ c main_arg4 (by decide)]
  rfl

theorem at4_q : V4 m ρ c main_v2 = mQ m c :=
  (W4_of m ρ c main_v2 (by decide)).trans (at3_q m ρ c)

theorem at4_kv : V4 m ρ c main_v3 = mKv m c := by
  refine (W4_arr m ρ c 2).trans ((kv_array (V3 m ρ) c).trans ?_)
  rw [vMn, at3_mn, vWkv, show V3 m ρ c main_arg5 = mWkv m c from W3_args m ρ c main_arg5 (by decide)]
  rfl

theorem at5_att : V5 m ρ c main_v4 = mAtt m c := by
  refine (W5_arr m ρ c 2).trans ((att_array (V4 m ρ) c).trans ?_)
  rw [vQ, at4_q, vKv, at4_kv]
  rfl

theorem at6_out : W6 m ρ c (Proc.devRef .tc main_v5) = mOut m c := by
  refine (W6_arr m ρ c 3).trans ((out_array (V5 m ρ) c).trans ?_)
  rw [vO, at5_att, vWo, show V5 m ρ c main_arg6 = mWo m c from W5_args m ρ c main_arg6 (by decide),
    vH, show V5 m ρ c main_arg0 = mH m c from W5_args m ρ c main_arg0 (by decide)]
  rfl

/-! ## The launch -/

set_option backward.isDefEq.respectTransparency.types false in
/-- Every run ends with the layer's residual in the result array and the arguments as they were. -/
theorem run : θ_run defs (onTc (τ := τ) (main (F := Ideal))) ⟨m, fun _ => 0, ρ⟩ (fun r => ∀ c : Dev nD,
      r.2.mem ((c.tc : Thread nD τ).loc main_v5) = mOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v5 (by decide))).trans (at6_out m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.XattnKernelIdeal.Rows
-- ==== Proof.XattnReference.lean ====
/-
  The reference's memory cross-attention, read row by row in the functions of `XattnKernelRows.lean`.
-/
module

public import proofs.«01_k».proof.Proof.XattnKernelRows
public import proofs.«01_k».proof.Proof.FfnReference
public import proofs.«01_k».proof.Proof.Gen.XattnReferenceIdeal.Run
public import Idealize.ShloMosaic.Lib.Pointwise

@[expose] public section

set_option maxRecDepth 16384

noncomputable section

namespace Cert.XattnReferenceIdeal.Rows

open Idealize.ShloMosaic Idealize.ShloMosaic.TcCoe Idealize.SL.Sem
open Cert.XattnReferenceIdeal Cert.XattnReferenceIdeal.Gen Cert.XattnReferenceIdeal.Value Cert.Xattn
open Cert.Ffn (normed)
open Cert.FfnReferenceIdeal.Rows (rN)
open Cert.XattnKernelIdeal.Rows (kLane vLane)

/-! ## The values the reference's program goes through -/

section Values

variable (h : FVec Ideal S8192x1024 .f32) (mem : FVec Ideal S256x1024 .f32) (g mg : FVec Ideal S1x1024 .f32)
  (wq : FVec Ideal S1024x1024 .bf16) (wkv : FVec Ideal S1024x2048 .bf16) (wo : FVec Ideal S1024x1024 .bf16)

/-- The normed memory. -/
def rMn : FVec Ideal S256x1024 .f32 :=
  mulf (mulf mem (broadcastInDim S256x1024 ![0, 1] bcast_S256x1_S256x1024_0_1 (Host.rsqrt (addf (Host.divf
      (broadcastInDim S256x1 ![0] bcast_S256_S256x1_0
        (Host.reduceAdd (mulf mem mem) (constant S_ .f32 0x00000000#32) reducesTo_S256x1024_S256_d1 h_S_))
      (broadcastInDim S256x1 ![] bcast_S_S256x1 (constant S_ .f32 0x44800000#32)))
      (broadcastInDim S256x1 ![] bcast_S_S256x1 (constant S_ .f32 0x358637BD#32))))))
    (broadcastInDim S256x1024 ![0, 1] bcast_S1x1024_S256x1024_0_1
      (broadcastInDim S1x1024 ![1] bcast_S1024_S1x1024_1 (shapeCast _ mg shapeCasts_S1x1024_S1024)))

/-- The queries, a head each. -/
def rQ : FVec Ideal S8192x4x256 .f32 :=
  shapeCast _ (Host.dotGeneral dot_S8192x1024_S1024x1024_S8192x1024_1_0_0_1_n_n none (rN h g) (extf .f32 wq bitsLt_bf16_f32))
    shapeCasts_S8192x1024_S8192x4x256

/-- The keys and values. -/
def rKv : FVec Ideal S256x2048 .f32 :=
  Host.dotGeneral dot_S256x1024_S1024x2048_S256x2048_1_0_0_1_n_n none (rMn mem mg) (extf .f32 wkv bitsLt_bf16_f32)

def rK : FVec Ideal S256x4x256 .f32 :=
  shapeCast _ (extractStridedSlice S256x1024 ![0, 0] (rKv mem mg wkv) slices_S256x2048_S256x1024_0_0) shapeCasts_S256x1024_S256x4x256
def rV : FVec Ideal S256x4x256 .f32 :=
  shapeCast _ (extractStridedSlice S256x1024 ![0, 1024] (rKv mem mg wkv) slices_S256x2048_S256x1024_0_1024) shapeCasts_S256x1024_S256x4x256

/-- The scores. -/
def rScore : FVec Ideal S4x8192x256 .f32 :=
  mulf (Host.dotGeneral dot_S8192x4x256_S256x4x256_S4x8192x256_2_2_0_0_1_1 none (rQ h g wq) (rK mem mg wkv))
    (broadcastInDim S4x8192x256 ![] bcast_S_S4x8192x256 (constant S_ .f32 0x3D800000#32))

/-- The largest score of each query. -/
def rMax : FVec Ideal S4x8192 .f32 :=
  Host.reduce FloatOps.maximumf (rScore h mem g mg wq wkv) (constant S_ .f32 0xFF800000#32) reducesTo_S4x8192x256_S4x8192_d2 h_S_

def rTop : FVec Ideal S4x8192x256 .f32 :=
  broadcastInDim S4x8192x256 ![0, 1, 2] bcast_S4x8192x1_S4x8192x256_0_1_2 (broadcastInDim S4x8192x1 ![0, 1] bcast_S4x8192_S4x8192x1_0_1
    (maximumf (broadcastInDim S4x8192 ![] bcast_S_S4x8192 (constant S_ .f32 0xFF800000#32)) (rMax h mem g mg wq wkv)))

/-- The weights. -/
def rWt : FVec Ideal S4x8192x256 .f32 := Host.exp (subf (rScore h mem g mg wq wkv) (rTop h mem g mg wq wkv))

/-- Their sum over the memory. -/
def rDen : FVec Ideal S4x8192x256 .f32 :=
  broadcastInDim S4x8192x256 ![0, 1, 2] bcast_S4x8192x1_S4x8192x256_0_1_2 (broadcastInDim S4x8192x1 ![0, 1] bcast_S4x8192_S4x8192x1_0_1
    (Host.reduceAdd (rWt h mem g mg wq wkv) (constant S_ .f32 0x00000000#32) reducesTo_S4x8192x256_S4x8192_d2 h_S_))

/-- The attention's output, a head each. -/
def rHeads : FVec Ideal S4x256x8192 .f32 :=
  Host.dotGeneral dot_S256x4x256_S4x8192x256_S4x256x8192_0_2_2_1_1_0 none (rV mem mg wkv)
    (Host.divf (rWt h mem g mg wq wkv) (rDen h mem g mg wq wkv))

/-- The attention's output, the heads side by side. -/
def rAtt : FVec Ideal S8192x1024 .f32 :=
  shapeCast _ (transpose S8192x4x256 [2, 0, 1] (rHeads h mem g mg wq wkv) transposes_S4x256x8192_S8192x4x256_2_0_1)
    shapeCasts_S8192x4x256_S8192x1024

/-- The residual after the layer. -/
def rOut : FVec Ideal S8192x1024 .f32 :=
  addf h (Host.dotGeneral dot_S8192x1024_S1024x1024_S8192x1024_1_0_0_1_n_n none (rAtt h mem g mg wq wkv)
    (extf .f32 wo bitsLt_bf16_f32))

/-! ## Row by row -/

/-- Lane `l` of row `i` of the normed residual, and of the normed memory. -/
abbrev nAt (i : Fin 8192) (l : Fin 1024) : EReal := normed (fun e => h (ix2 i e)) (fun e => g (ix2 0 e)) l
abbrev mnAt (i : Fin 256) (l : Fin 1024) : EReal := normed (fun e => mem (ix2 i e)) (fun e => mg (ix2 0 e)) l

/-- The query, the key and the value of head `k`. -/
def qAt (i : Fin 8192) (k : Fin 4) (e : Fin 256) : EReal := ∑ l, nAt h g i l * wq (ix2 l (lane k e))
def kAt (k : Fin 4) (i e : Fin 256) : EReal := ∑ l, mnAt mem mg i l * wkv (ix2 l (kLane k e))
def vAt (k : Fin 4) (i e : Fin 256) : EReal := ∑ l, mnAt mem mg i l * wkv (ix2 l (vLane k e))

theorem mn_row (i : Fin 256) (l : Fin 1024) : rMn mem mg (ix2 i l) = mnAt mem mg i l := by
  pointwise [rMn]
  rfl

theorem q_row (i : Fin 8192) (k : Fin 4) (e : Fin 256) : rQ h g wq (ix3 i k e) = qAt h g wq i k e := by
  pointwise [rQ]
  simp only [Cert.FfnReferenceIdeal.Rows.norm_row]
  rfl

theorem k_row (k : Fin 4) (i e : Fin 256) : rK mem mg wkv (ix3 i k e) = kAt mem mg wkv k i e := by
  pointwise [rK, rKv]
  simp only [mn_row]
  rfl

theorem v_row (k : Fin 4) (i e : Fin 256) : rV mem mg wkv (ix3 i k e) = vAt mem mg wkv k i e := by
  pointwise [rV, rKv]
  simp only [mn_row]
  exact Finset.sum_congr rfl fun l _ => congrArg (fun j => mnAt mem mg i l * wkv (ix2 l j))
    (Fin.ext (by dsimp only [vLane]; omega))

/-- The scores of query `i` of head `k`. -/
abbrev sAt (k : Fin 4) (i : Fin 8192) : Fin 256 → EReal := score (qAt h g wq i k) (kAt mem mg wkv k)

theorem score_row (k : Fin 4) (i : Fin 8192) (l : Fin 256) :
    rScore h mem g mg wq wkv (ix3 k i l) = sAt h mem g mg wq wkv k i l := by
  pointwise [rScore]
  simp only [q_row, k_row]
  rfl

/-- The largest of a row, and the same spread over the row again. -/
theorem max_of (s : FVec Ideal S4x8192x256 .f32) (k : Fin 4) (i : Fin 8192) :
    Host.reduce FloatOps.maximumf s (constant S_ .f32 0xFF800000#32) reducesTo_S4x8192x256_S4x8192_d2 h_S_ (ix2 k i) =
      Cert.Swa.top (fun l => s (ix3 k i l)) := by
  pointwise []
  rfl

theorem spread_of (x : FVec Ideal S4x8192 .f32) (k : Fin 4) (i : Fin 8192) (l : Fin 256) :
    broadcastInDim S4x8192x256 ![0, 1, 2] bcast_S4x8192x1_S4x8192x256_0_1_2 (broadcastInDim S4x8192x1 ![0, 1] bcast_S4x8192_S4x8192x1_0_1
      (maximumf (broadcastInDim S4x8192 ![] bcast_S_S4x8192 (constant S_ .f32 0xFF800000#32)) x)) (ix3 k i l) =
      max Cert.Swa.floor (x (ix2 k i)) := by
  pointwise []

theorem max_floor (x : EReal) : max Cert.Swa.floor x = x := by
  have hb : Cert.Swa.floor = ⊥ := by simp [Cert.Swa.floor, Ideal.ofBits, Ideal.ieee]
  rw [hb]
  exact max_eq_right bot_le

theorem max_row (k : Fin 4) (i : Fin 8192) :
    rMax h mem g mg wq wkv (ix2 k i) = Cert.Swa.top (sAt h mem g mg wq wkv k i) :=
  (max_of _ k i).trans (congrArg Cert.Swa.top (funext fun l => score_row h mem g mg wq wkv k i l))

theorem top_row (k : Fin 4) (i : Fin 8192) (l : Fin 256) :
    rTop h mem g mg wq wkv (ix3 k i l) = Cert.Swa.top (sAt h mem g mg wq wkv k i) :=
  (spread_of _ k i l).trans ((max_floor _).trans (max_row h mem g mg wq wkv k i))

theorem wt_row (k : Fin 4) (i : Fin 8192) (l : Fin 256) :
    rWt h mem g mg wq wkv (ix3 k i l) = Cert.Swa.wt (sAt h mem g mg wq wkv k i) l := by
  pointwise [rWt]
  rw [score_row, top_row]
  rfl

theorem den_row (k : Fin 4) (i : Fin 8192) (l : Fin 256) :
    rDen h mem g mg wq wkv (ix3 k i l) = Cert.Swa.den (sAt h mem g mg wq wkv k i) := by
  pointwise [rDen]
  simp only [wt_row]
  rfl

theorem heads_row (k : Fin 4) (e : Fin 256) (i : Fin 8192) : rHeads h mem g mg wq wkv (ix3 k e i) =
    attend (qAt h g wq i k) (kAt mem mg wkv k) (vAt mem mg wkv k) e := by
  pointwise [rHeads]
  simp only [v_row, wt_row, den_row]
  exact Finset.sum_congr rfl fun l _ => mul_comm _ _

theorem att_row (i : Fin 8192) (l : Fin 1024) : rAtt h mem g mg wq wkv (ix2 i l) =
    attend (qAt h g wq i (headOf l)) (kAt mem mg wkv (headOf l)) (vAt mem mg wkv (headOf l)) (placeOf l) := by
  have hs : rAtt h mem g mg wq wkv (ix2 i l) = rHeads h mem g mg wq wkv (ix3 (headOf l) (placeOf l) i) := by
    pointwise [rAtt]
    rfl
  rw [hs, heads_row]

theorem out_row (i : Fin 8192) (q : Fin 1024) : rOut h mem g mg wq wkv wo (ix2 i q) =
    h (ix2 i q) + ∑ l, rAtt h mem g mg wq wkv (ix2 i l) * wo (ix2 l q) := by
  pointwise [rOut]

end Values

theorem out_value (m : (ℓ : Loc nD τ sig) → Buf (Elt Ideal) ℓ) (c : Dev nD) : res_main_v56 m c =
    rOut (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) := rfl

end Cert.XattnReferenceIdeal.Rows
-- ==== Proof.XattnEquation.lean ====
/-
  The memory cross-attention's calls leave the reference's residual, from equal arguments.
-/
module

public import proofs.«01_k».proof.Proof.XattnKernelRun
public import proofs.«01_k».proof.Proof.XattnReference

@[expose] public section

set_option maxRecDepth 16384

noncomputable section

namespace Cert.Xattn

open Idealize.ShloMosaic Idealize.ShloMosaic.TcCoe Idealize.SL.Sem
open Cert.XattnReferenceIdeal.Rows (rAtt rOut qAt kAt vAt)
open Cert.XattnKernelIdeal Cert.XattnKernelIdeal.Rows

variable (m : (ℓ : Loc nD τ sig) → Buf (Elt Ideal) ℓ) (c : Dev nD)

/-- The two attentions agree at each lane. -/
theorem att_value (i : Fin 8192) (l : Fin 1024) :
    rAtt (mH m c) (mM m c) (mG m c) (mMg m c) (mWq m c) (mWkv m c) (ix2 i l) = mAtt m c (ix2 i l) := by
  rw [Cert.XattnReferenceIdeal.Rows.att_row]
  rfl

theorem out_value :
    rOut (mH m c) (mM m c) (mG m c) (mMg m c) (mWq m c) (mWkv m c) (mWo m c) = mOut m c := by
  funext y
  obtain ⟨i, q, rfl⟩ : ∃ (i : Fin 8192) (q : Fin 1024), y = ix2 i q := ⟨y 0, y 1, eq_ix2 y⟩
  rw [Cert.XattnReferenceIdeal.Rows.out_row]
  simp only [att_value]
  rfl

end Cert.Xattn
-- ==== Proof.XattnClaims.lean ====
/-
  The five claims about the memory cross-attention's calls.
-/
module

public import proofs.«01_k».proof.Defs
public import proofs.«01_k».proof.Proof.Gen.XattnKernel.Frame
public import proofs.«01_k».proof.Proof.XattnEquation
public import Idealize.ShloMosaic.Lib.Quiescent

@[expose] public section

noncomputable section

namespace Cert.Xattn

open Idealize.ShloMosaic Idealize.ShloMosaic.TcCoe Idealize.SL.Sem

theorem frame_kernel : Cert.quiescent_XattnKernel := fun m ρ _ => Cert.XattnKernel.Gen.frame m ρ

theorem frame_ideal : Cert.quiescent_XattnKernelIdeal := fun m ρ _ => Cert.XattnKernelIdeal.Gen.frame m ρ

theorem frame_reference : Cert.quiescent_XattnReferenceIdeal := fun m ρ _ =>
  (θ_run Cert.XattnReferenceIdeal.defs _ _).mono (fun r h => ⟨fun c => (h c).2,
      Idealize.ShloMosaic.sem_eq_zero_of_no_sems (by decide) r.2⟩)
    (Cert.XattnReferenceIdeal.Value.run (F := Ideal) m ρ)

/-- Nothing is rewritten between the kernel and its ideal form. -/
theorem preserves : Cert.preserves_XattnKernel_XattnKernelIdeal := trivial

/-- The kernel's array is the reference's. -/
theorem algebraic : Cert.algebraic_XattnKernelIdeal_XattnReferenceIdeal := by
  intro m ρ m' ρ' _ hagree
  refine ⟨fun c => Cert.XattnKernelIdeal.Rows.mOut m c, Cert.XattnKernelIdeal.Rows.run m ρ, ?_⟩
  refine (θ_run Cert.XattnReferenceIdeal.defs _ _).mono (fun _ h c => ?_)
    (Cert.XattnReferenceIdeal.Value.run (F := Ideal) m' ρ')
  refine ⟨(h c).1.trans ?_, (h c).2⟩
  rw [Cert.XattnReferenceIdeal.Rows.out_value, (hagree c).1, (hagree c).2.1, (hagree c).2.2.1, (hagree c).2.2.2.1,
    (hagree c).2.2.2.2.1, (hagree c).2.2.2.2.2.1, (hagree c).2.2.2.2.2.2]
  exact out_value m c

end Cert.Xattn
-- ==== Proof.GmlpRow.lean ====
/-
  The gradient of the chunked spatial gating, chunk by chunk, as functions of extended reals. One chunk is 128 rows. Row
  `t` of it has 512 features `X t`; the activation's first half is the gate's value, its second half is normed and
  mixed over the chunk's rows, each of four groups of 64 lanes by its own lower triangular matrix.
-/
module

public import Idealize.ShloMosaic.PureOps.Ideal
public import Idealize.ShloMosaic.Lib.ValueIdx

@[expose] public section

noncomputable section

namespace Cert.Gmlp

open Idealize.ShloMosaic

/-- The number of lanes a mean is over, 256. -/
abbrev lanes : EReal := Ideal.ofBits .f32 0x43800000#32
/-- The norm's epsilon. -/
abbrev eps : EReal := Ideal.ofBits .f32 0x358637BD#32
abbrev one : EReal := 1
abbrev two : EReal := Ideal.ofBits .f32 0x40000000#32
abbrev three : EReal := Ideal.ofBits .f32 0x40400000#32
abbrev half : EReal := Ideal.ofBits .f32 0x3F000000#32
abbrev negHalf : EReal := Ideal.ofBits .f32 0xBF000000#32
/-- The root of two over pi. -/
abbrev c1 : EReal := Ideal.ofBits .f32 0x3F4C422A#32
/-- The factor of the cube. -/
abbrev c2 : EReal := Ideal.ofBits .f32 0x3D372713#32

/-! ## The activation -/

/-- The hyperbolic tangent inside it. -/
def th (a : EReal) : EReal := Ideal.tanh (c1 * (a + c2 * (a * (a * a))))

def gl (a : EReal) : EReal := a * (half * (one + th a))

/-- The cotangent `y` times the derivative of the tangent's argument's linear part. -/
def inner (a y : EReal) : EReal := c1 * (half * (a * y) * ((one + th a) * (one - th a)))

/-- The gradient of the activation at `a`, from its cotangent `y`. -/
def glBack (a y : EReal) : EReal := y * (half * (one + th a)) + inner a y + c2 * inner a y * (three * (a * a))

/-! ## The norm of a row -/

section Norm

variable (v : Fin 256 → EReal)

def mean : EReal := Ideal.div (∑ e, v e) lanes
def dev (e : Fin 256) : EReal := v e - mean v
/-- The variance, plus epsilon. -/
def var : EReal := Ideal.div (∑ e, dev v e * dev v e) lanes + eps
def rs : EReal := Ideal.rsqrt (var v)
def nrm (e : Fin 256) : EReal := dev v e * rs v

variable (g d : Fin 256 → EReal)

/-- The direct part of the norm's gradient, from the cotangent `d` of the row with gain. -/
def direct (e : Fin 256) : EReal := d e * g e * rs v
/-- The part through the variance. -/
def through (e : Fin 256) : EReal :=
  Ideal.div ((∑ k, dev v k * (d k * g k)) * (negHalf * Ideal.div (rs v) (var v))) lanes * (two * dev v e)
/-- The norm's gradient. -/
def normBack (e : Fin 256) : EReal :=
  direct v g d e + through v g d e + Ideal.div (∑ k, -direct v g d k + ∑ k, -through v g d k) lanes

end Norm

/-! ## A chunk -/

/-- The group of a lane. -/
def grp (e : Fin 256) : Fin 4 := ⟨e.val / 64, by omega⟩
/-- Lane `d` of group `g`. -/
def lane (g : Fin 4) (d : Fin 64) : Fin 256 := ⟨64 * g.val + d.val, by omega⟩
def lo (e : Fin 256) : Fin 512 := ⟨e.val, by omega⟩
def hi (e : Fin 256) : Fin 512 := ⟨256 + e.val, by omega⟩

section Chunk

variable (G B : Fin 256 → EReal) (W : Fin 4 → Fin 128 → Fin 128 → EReal) (A : Fin 4 → Fin 128 → EReal)
variable (X : Fin 128 → Fin 512 → EReal) (Y : Fin 128 → Fin 256 → EReal)

/-- The lower triangle of a group's matrix. -/
def tri (g : Fin 4) (t s : Fin 128) : EReal := if s.val ≤ t.val then W g t s else 0
/-- The gate's value. -/
def gate (t : Fin 128) (e : Fin 256) : EReal := gl (X t (lo e))
/-- The row to be normed. -/
def vrow (t : Fin 128) (e : Fin 256) : EReal := gl (X t (hi e))
/-- The normed row, with gain and bias. -/
def vn (t : Fin 128) (e : Fin 256) : EReal := nrm (vrow X t) e * G e + B e
/-- The rows mixed. -/
def mixed (t : Fin 128) (e : Fin 256) : EReal := ∑ s, tri W (grp e) t s * vn G B X s e + A (grp e) t
/-- The cotangent of the mixed rows. -/
def dmix (t : Fin 128) (e : Fin 256) : EReal := gate X t e * Y t e
/-- The cotangent of the normed rows. -/
def dvn (s : Fin 128) (e : Fin 256) : EReal := ∑ t, tri W (grp e) t s * dmix X Y t e
/-- The cotangent of the activations. -/
def dact (t : Fin 128) (k : Fin 512) : EReal :=
  if h : k.val < 256 then Y t ⟨k.val, h⟩ * mixed G B W A X t ⟨k.val, h⟩
  else normBack (vrow X t) G (dvn W X Y t) ⟨k.val - 256, by omega⟩
/-- The rows' gradient. -/
def dx (t : Fin 128) (k : Fin 512) : EReal := glBack (X t k) (dact G B W A X Y t k)

/-- The chunk's part of the gain's gradient, -/
def dgain (e : Fin 256) : EReal := ∑ t, nrm (vrow X t) e * dvn W X Y t e
/-- of the bias's, -/
def dbias (e : Fin 256) : EReal := ∑ t, dvn W X Y t e
/-- of the matrices', -/
def dw (g : Fin 4) (t s : Fin 128) : EReal :=
  if s.val ≤ t.val then ∑ d, dmix X Y t (lane g d) * vn G B X s (lane g d) else 0
/-- and of the mixing's bias's. -/
def da (g : Fin 4) (t : Fin 128) : EReal := ∑ d, dmix X Y t (lane g d)

/-- The same in row `r` of eight, of which the last four are zero. -/
def da8 (r : Fin 8) (t : Fin 128) : EReal := if h : r.val < 4 then da X Y ⟨r.val, h⟩ t else 0

end Chunk

/-! ## All 64 chunks -/

/-- Row `t` of chunk `n`. -/
def rowN (n : Fin 64) (t : Fin 128) : Fin 8192 := ⟨128 * n.val + t.val, by omega⟩
/-- The chunk of a row, and its place there. -/
def chunk (i : Fin 8192) : Fin 64 := ⟨i.val / 128, by omega⟩
def place (i : Fin 8192) : Fin 128 := ⟨i.val % 128, by omega⟩

theorem rowN_chunk (i : Fin 8192) : rowN (chunk i) (place i) = i :=
  Fin.ext (by simp only [rowN, chunk, place]; omega)

theorem chunk_rowN (n : Fin 64) (t : Fin 128) : chunk (rowN n t) = n :=
  Fin.ext (by simp only [rowN, chunk]; omega)

theorem place_rowN (n : Fin 64) (t : Fin 128) : place (rowN n t) = t :=
  Fin.ext (by simp only [rowN, place]; omega)

/-- One chunk of an array of 8192 rows. -/
abbrev part {w : ℕ} (x : Fin 8192 → Fin w → EReal) (n : Fin 64) : Fin 128 → Fin w → EReal :=
  fun t k => x (rowN n t) k

end Cert.Gmlp
-- ==== Proof.GmlpKernelRows.lean ====
/-
  One block of the chunked spatial gating's gradient: what the kernel computes of its 256 rows, two chunks.
-/
module

public import proofs.«01_k».proof.Proof.GmlpRow
public import proofs.«01_k».proof.Proof.Gen.GmlpKernelIdeal.Frame
public import proofs.«01_k».proof.Proof.FirstSum
public import Idealize.ShloMosaic.Lib.Pointwise

@[expose] public section

set_option maxRecDepth 16384

noncomputable section

namespace Cert.GmlpKernelIdeal.Rows

open Idealize.ShloMosaic Idealize.ShloMosaic.TcCoe Idealize.SL.Sem
open Cert.GmlpKernelIdeal Cert.GmlpKernelIdeal.Gen Cert.Gmlp

/-! ## The activation and the norm, row by row -/

section Rows

variable (x : Vec Ideal S256x512 .f32) (p : Fin 256) (k : Fin 512) (e : Fin 256)

theorem pay2_at : k0_pay2 x (ix2 p k) = three * (x (ix2 p k) * x (ix2 p k)) := by
  pointwise [k0_pay2]

theorem pay4_at : k0_pay4 x (ix2 p k) = (one + th (x (ix2 p k))) * (one - th (x (ix2 p k))) := by
  pointwise [k0_pay4, k0_pay3]
  rfl

theorem pay5_at : k0_pay5 x (ix2 p k) = half * (one + th (x (ix2 p k))) := by
  pointwise [k0_pay5, k0_pay3]
  rfl

theorem pay7_at : k0_pay7 x (ix2 p e) = gl (x (ix2 p (lo e))) := by
  pointwise [k0_pay7, k0_pay6, k0_pay5, k0_pay3]
  rfl

theorem pay8_at : k0_pay8 x (ix2 p e) = gl (x (ix2 p (hi e))) := by
  pointwise [k0_pay8, k0_pay6, k0_pay5, k0_pay3]
  rfl

/-- Row `p`'s activations to be normed. -/
abbrev rowV : Fin 256 → EReal := fun e => gl (x (ix2 p (hi e)))

theorem pay9_at : k0_pay9 x (ix2 p 0) = mean (rowV x p) := by
  pointwise [k0_pay9]
  simp only [pay8_at]
  rfl

theorem pay10_at : k0_pay10 x (ix2 p e) = dev (rowV x p) e := by
  pointwise [k0_pay10]
  simp only [pay8_at, pay9_at]
  rfl

theorem pay11_at : k0_pay11 x (ix2 p e) = dev (rowV x p) e * dev (rowV x p) e := by
  pointwise [k0_pay11]
  simp only [pay10_at]

theorem pay12_at : k0_pay12 x (ix2 p e) = two * dev (rowV x p) e := by
  pointwise [k0_pay12]
  simp only [pay10_at]

theorem pay13_at : k0_pay13 (k0_pay8 x) (k0_pay9 x) (ix2 p e) = dev (rowV x p) e := by
  pointwise [k0_pay13]
  simp only [pay8_at, pay9_at]
  rfl

theorem pay14_at : k0_pay14 (k0_pay11 x) (ix2 p 0) = var (rowV x p) := by
  pointwise [k0_pay14]
  simp only [pay11_at]
  rfl

theorem pay15_at : k0_pay15 (k0_pay11 x) (ix2 p 0) = rs (rowV x p) := by
  pointwise [k0_pay15]
  simp only [pay14_at]
  rfl

theorem pay16_at : k0_pay16 (k0_pay11 x) (ix2 p 0) = negHalf * Ideal.div (rs (rowV x p)) (var (rowV x p)) := by
  pointwise [k0_pay16]
  simp only [pay14_at, pay15_at]

theorem pay17_at : k0_pay17 (k0_pay8 x) (k0_pay9 x) (k0_pay11 x) (ix2 p e) = nrm (rowV x p) e := by
  pointwise [k0_pay17]
  simp only [pay13_at, pay15_at]
  rfl

theorem pay18_at (g b : Vec Ideal S1x256 .f32) : k0_pay18 g b (k0_pay8 x) (k0_pay9 x) (k0_pay11 x) (ix2 p e) =
    nrm (rowV x p) e * g (ix2 0 e) + b (ix2 0 e) := by
  pointwise [k0_pay18]
  simp only [pay17_at]

end Rows

/-! ## The masks -/

/-- The row and the column of a matrix's entry. -/
abbrev rowI : IVec S128x128 32 := iota .tc S128x128 32 [0] iota_S128x128_d0_w32
abbrev colI : IVec S128x128 32 := iota .tc S128x128 32 [1] iota_S128x128_d1_w32

theorem below_at (t s : Fin 128) : cmpi .sge rowI colI (ix2 t s) = if s.val ≤ t.val then 1#1 else 0#1 := by
  pointwise []
  revert t s
  decide +kernel

theorem spread_at (r : Fin 8) (e : Fin 256) : k0_pay19 (ix2 r e) = if e.val / 64 = r.val then 1#1 else 0#1 := by
  pointwise [k0_pay19]
  revert r e
  decide +kernel

/-- The rows of a block's two chunks. -/
abbrev r0 (t : Fin 128) : Fin 256 := ⟨t.val, by omega⟩
abbrev r1 (t : Fin 128) : Fin 256 := ⟨128 + t.val, by omega⟩

/-- The matrices of a block. -/
abbrev mats (w : Vec Ideal S4x128x128 .f32) : Fin 4 → Fin 128 → Fin 128 → EReal := fun g t s => w (ix3 g t s)

/-- The mask of the lower triangle. -/
abbrev below : IVec S128x128 1 := cmpi .sge rowI colI

theorem pick_at (t s : Fin 128) (v : EReal) :
    Scalar.select (IntOp.cmpi .sge (BitVec.ofNat 32 t.val) (BitVec.ofNat 32 s.val)) v 0 = if s.val ≤ t.val then v else 0 := by
  have h := below_at t s
  pointwise [] at h
  rw [h]
  split_ifs
  · rfl
  · rfl

section Masks

variable (w : Vec Ideal S4x128x128 .f32) (t s : Fin 128)

theorem pay24_at : k0_pay24 w rowI colI (ix2 t s) = tri (mats w) 0 t s := by
  pointwise [k0_pay24, k0_pay23]
  exact pick_at t s _

theorem pay27_at : k0_pay27 w rowI colI (ix2 t s) = tri (mats w) 1 t s := by
  pointwise [k0_pay27, k0_pay26]
  exact pick_at t s _

theorem pay30_at : k0_pay30 w rowI colI (ix2 t s) = tri (mats w) 2 t s := by
  pointwise [k0_pay30, k0_pay29]
  exact pick_at t s _

theorem pay33_at : k0_pay33 w rowI colI (ix2 t s) = tri (mats w) 3 t s := by
  pointwise [k0_pay33, k0_pay32]
  exact pick_at t s _

theorem pay38_at : k0_pay38 w rowI colI (ix2 t s) = tri (mats w) 0 t s := by
  pointwise [k0_pay38, k0_pay37]
  exact pick_at t s _

theorem pay41_at : k0_pay41 w rowI colI (ix2 t s) = tri (mats w) 1 t s := by
  pointwise [k0_pay41, k0_pay40]
  exact pick_at t s _

theorem pay44_at : k0_pay44 w rowI colI (ix2 t s) = tri (mats w) 2 t s := by
  pointwise [k0_pay44, k0_pay43]
  exact pick_at t s _

theorem pay47_at : k0_pay47 w rowI colI (ix2 t s) = tri (mats w) 3 t s := by
  pointwise [k0_pay47, k0_pay46]
  exact pick_at t s _

end Masks

/-! ## The groups' lanes -/

/-- A lane's place in its group. -/
def inGrp (e : Fin 256) : Fin 64 := ⟨e.val % 64, by omega⟩

theorem lane_grp (e : Fin 256) : lane (grp e) (inGrp e) = e := Fin.ext (by simp only [lane, grp, inGrp]; omega)

section Slices

variable (u : FVec Ideal S256x256 .f32) (s : Fin 128) (d : Fin 64)

theorem pay25_at : k0_pay25 u (ix2 s d) = u (ix2 (r0 s) (lane 0 d)) := by
  pointwise [k0_pay25, k0_pay22]
  exact congrArg u (congrArg (ix2 _) (Fin.ext (by simp only [lane]; try simp)))

theorem pay28_at : k0_pay28 u (ix2 s d) = u (ix2 (r0 s) (lane 1 d)) := by
  pointwise [k0_pay28, k0_pay22]
  exact congrArg u (congrArg (ix2 _) (Fin.ext (by simp only [lane]; try simp)))

theorem pay31_at : k0_pay31 u (ix2 s d) = u (ix2 (r0 s) (lane 2 d)) := by
  pointwise [k0_pay31, k0_pay22]
  exact congrArg u (congrArg (ix2 _) (Fin.ext (by simp only [lane]; try simp)))

theorem pay34_at : k0_pay34 u (ix2 s d) = u (ix2 (r0 s) (lane 3 d)) := by
  pointwise [k0_pay34, k0_pay22]
  exact congrArg u (congrArg (ix2 _) (Fin.ext (by simp only [lane]; try simp)))

theorem pay39_at : k0_pay39 u (ix2 s d) = u (ix2 (r1 s) (lane 0 d)) := by
  pointwise [k0_pay39, k0_pay36]
  exact congrArg u (congrArg (ix2 _) (Fin.ext (by simp only [lane]; try simp)))

theorem pay42_at : k0_pay42 (k0_pay36 u) (ix2 s d) = u (ix2 (r1 s) (lane 1 d)) := by
  pointwise [k0_pay42, k0_pay36]
  exact congrArg u (congrArg (ix2 _) (Fin.ext (by simp only [lane]; try simp)))

theorem pay45_at : k0_pay45 (k0_pay36 u) (ix2 s d) = u (ix2 (r1 s) (lane 2 d)) := by
  pointwise [k0_pay45, k0_pay36]
  exact congrArg u (congrArg (ix2 _) (Fin.ext (by simp only [lane]; try simp)))

theorem pay48_at : k0_pay48 (k0_pay36 u) (ix2 s d) = u (ix2 (r1 s) (lane 3 d)) := by
  pointwise [k0_pay48, k0_pay36]
  exact congrArg u (congrArg (ix2 _) (Fin.ext (by simp only [lane]; try simp)))

end Slices

/-- One of four groups, chosen by the lane. -/
theorem choose (f : Fin 4 → Fin 64 → EReal) (e : Fin 256) :
    (if h : e.val < 64 then f 0 ⟨e.val, h⟩ else
      if h : e.val - 64 < 64 then f 1 ⟨e.val - 64, h⟩ else
        if h : e.val - 64 - 64 < 64 then f 2 ⟨e.val - 64 - 64, h⟩ else f 3 ⟨e.val - 64 - 64 - 64, by omega⟩) =
      f (grp e) (inGrp e) := by
  split_ifs
  all_goals exact congrArg₂ f (Fin.ext (by simp only [grp]; omega)) (Fin.ext (by simp only [inGrp]; omega))

/-- Four groups, each padded with zeros to all the lanes, added. -/
theorem add_four (f : Fin 4 → Fin 64 → EReal) (e : Fin 256) :
    (if h : e.val < 192 then 0 else f 3 ⟨e.val - 192, by omega⟩) +
        (if h : e.val < 192 then if h : e.val < 128 then 0 else f 2 ⟨e.val - 128, by omega⟩ else 0) +
        (if h : e.val < 128 then if h : e.val < 64 then 0 else f 1 ⟨e.val - 64, by omega⟩ else 0) +
        (if h : e.val < 64 then f 0 ⟨e.val, h⟩ else 0) = f (grp e) (inGrp e) := by
  split_ifs
  all_goals first
    | omega
    | simp only [zero_add, add_zero]
      exact congrArg₂ f (Fin.ext (by simp only [grp]; omega)) (Fin.ext (by simp only [inGrp]; omega))

/-- The same of two times four matrices. -/
theorem add_eight (f f' : Fin 4 → EReal) (g : Fin 4) :
    (if h : g.val < 3 then 0 else f 3) + (if h : g.val < 3 then if h : g.val < 2 then 0 else f 2 else 0) +
        (if h : g.val < 2 then if h : g.val < 1 then 0 else f 1 else 0) + (if h : g.val < 1 then f 0 else 0) +
        (if h : g.val < 3 then 0 else f' 3) + (if h : g.val < 3 then if h : g.val < 2 then 0 else f' 2 else 0) +
        (if h : g.val < 2 then if h : g.val < 1 then 0 else f' 1 else 0) + (if h : g.val < 1 then f' 0 else 0) =
      f g + f' g := by
  fin_cases g <;> simp

/-! ## The two chunks of a block -/

section Block

variable (x : Vec Ideal S256x512 .f32) (g b : Vec Ideal S1x256 .f32) (w : Vec Ideal S4x128x128 .f32)
variable (a : Vec Ideal S8x128 .f32) (y : Vec Ideal S256x256 .f32) (t s : Fin 128) (e : Fin 256) (k : Fin 512)

abbrev gainOf : Fin 256 → EReal := fun e => g (ix2 0 e)
/-- The rows of the first four of the eight rows the mixing's bias comes in. -/
abbrev first4 (g : Fin 4) : Fin 8 := ⟨g.val, by omega⟩
abbrev addsOf : Fin 4 → Fin 128 → EReal := fun g t => a (ix2 (first4 g) t)
/-- The rows of the first chunk, and of the second. -/
abbrev x0 : Fin 128 → Fin 512 → EReal := fun t k => x (ix2 (r0 t) k)
abbrev x1 : Fin 128 → Fin 512 → EReal := fun t k => x (ix2 (r1 t) k)
abbrev y0 : Fin 128 → Fin 256 → EReal := fun t e => y (ix2 (r0 t) e)
abbrev y1 : Fin 128 → Fin 256 → EReal := fun t e => y (ix2 (r1 t) e)

/-- The normed rows. -/
abbrev B55 : FVec Ideal S256x256 .f32 := k0_pay18 g b (k0_pay8 x) (k0_pay9 x) (k0_pay11 x)

theorem b55_0 : B55 x g b (ix2 (r0 t) e) = vn (gainOf g) (gainOf b) (x0 x) t e := pay18_at x (r0 t) e g b
theorem b55_1 : B55 x g b (ix2 (r1 t) e) = vn (gainOf g) (gainOf b) (x1 x) t e := pay18_at x (r1 t) e g b

/-- One and zero as the kernel passes them. -/
abbrev oneI : Ideal .f32 := Scalar.ofBits .f32 0x3F800000#32
abbrev zeroI : Ideal .f32 := Scalar.ofBits .f32 0x00000000#32

theorem pay20_at (r : Fin 8) (c d : Ideal .f32) :
    k0_pay20 k0_pay19 c d (ix2 r e) = if e.val / 64 = r.val then c else d := by
  pointwise [k0_pay20]
  rw [spread_at]
  split_ifs
  · rfl
  · rfl

/-- The mixing's bias, spread over the lanes. -/
abbrev B88 : FVec Ideal S128x256 .f32 := k0_pay21 (k0_pay1 a) k0_pay19 oneI zeroI

theorem b88 : B88 a (ix2 t e) = addsOf a (grp e) t := by
  pointwise [k0_pay21]
  simp only [pay20_at]
  rw [Finset.sum_eq_single (first4 (grp e)) (fun r _ hr => ?_) (fun h => absurd (Finset.mem_univ _) h)]
  · have hg : e.val / 64 = (first4 (grp e)).val := by dsimp only [first4, grp]
    rw [if_pos hg, mul_one]
    pointwise [k0_pay1]
  · rw [if_neg (fun h => hr (Fin.ext h.symm)), mul_zero]

/-- The first chunk's mixed rows. -/
abbrev B127 : FVec Ideal S128x256 .f32 := k0_pay35 w (k0_pay1 a) (B55 x g b) rowI colI k0_pay19 oneI zeroI

theorem pay35_at (v : FVec Ideal S8x128 .f32) (u : FVec Ideal S256x256 .f32) (m : IVec S8x256 1) (c d : Ideal .f32) :
    k0_pay35 w v u rowI colI m c d (ix2 t e) =
      ∑ s, tri (mats w) (grp e) t s * u (ix2 (r0 s) e) + k0_pay21 v m c d (ix2 t e) := by
  pointwise [k0_pay35]
  simp only [pay24_at, pay27_at, pay30_at, pay33_at, pay25_at, pay28_at, pay31_at, pay34_at]
  refine congrArg (· + _)
    ((choose (fun g d => ∑ s, tri (mats w) g t s * u (ix2 (r0 s) (lane g d))) e).trans ?_)
  simp only [lane_grp]

theorem b127 : B127 x g b w a (ix2 t e) = mixed (gainOf g) (gainOf b) (mats w) (addsOf a) (x0 x) t e := by
  refine (pay35_at w t e _ _ _ _ _).trans (congrArg₂ (· + ·) ?_ (b88 a t e))
  exact Finset.sum_congr rfl fun s _ => congrArg (_ * ·) (b55_0 x g b s e)

/-- The cotangent of the gate's value. -/
abbrev B170 : FVec Ideal S256x256 .f32 :=
  k0_pay50 w rowI colI (B88 a) (B127 x g b w a) (k0_pay36 (B55 x g b)) (k0_pay38 w rowI colI) (k0_pay39 (B55 x g b)) y

theorem pay50_at0 (u : FVec Ideal S256x256 .f32) (v m : FVec Ideal S128x256 .f32) :
    k0_pay50 w rowI colI v m (k0_pay36 u) (k0_pay38 w rowI colI) (k0_pay39 u) y (ix2 (r0 t) e) =
      y (ix2 (r0 t) e) * m (ix2 t e) := by
  pointwise [k0_pay50]

theorem pay50_at1 (u : FVec Ideal S256x256 .f32) (v m : FVec Ideal S128x256 .f32) :
    k0_pay50 w rowI colI v m (k0_pay36 u) (k0_pay38 w rowI colI) (k0_pay39 u) y (ix2 (r1 t) e) =
      y (ix2 (r1 t) e) * (∑ s, tri (mats w) (grp e) t s * u (ix2 (r1 s) e) + v (ix2 t e)) := by
  pointwise [k0_pay50]
  simp only [pay38_at, pay41_at, pay44_at, pay47_at, pay39_at, pay42_at, pay45_at, pay48_at]
  refine congrArg (fun z => _ * (z + _))
    ((choose (fun g d => ∑ s, tri (mats w) g t s * u (ix2 (r1 s) (lane g d))) e).trans ?_)
  simp only [lane_grp]

theorem b170_0 : B170 x g b w a y (ix2 (r0 t) e) =
    y0 y t e * mixed (gainOf g) (gainOf b) (mats w) (addsOf a) (x0 x) t e :=
  (pay50_at0 w y t e _ _ _).trans (congrArg (_ * ·) (b127 x g b w a t e))

theorem b170_1 : B170 x g b w a y (ix2 (r1 t) e) =
    y1 y t e * mixed (gainOf g) (gainOf b) (mats w) (addsOf a) (x1 x) t e := by
  refine (pay50_at1 w y t e _ _ _).trans (congrArg (_ * ·) (congrArg₂ (· + ·) ?_ (b88 a t e)))
  exact Finset.sum_congr rfl fun s _ => congrArg (_ * ·) (b55_1 x g b s e)

/-! ### The cotangent of the mixed rows -/

abbrev B171 : FVec Ideal S128x256 .f32 := k0_pay51 (k0_pay7 x) y
abbrev B172 : FVec Ideal S128x256 .f32 := k0_pay52 (k0_pay7 x) y

theorem b171 : B171 x y (ix2 t e) = dmix (x0 x) (y0 y) t e := by
  pointwise [k0_pay51, k0_pay49]
  simp only [pay7_at]
  rfl

theorem b172 : B172 x y (ix2 t e) = dmix (x1 x) (y1 y) t e := by
  pointwise [k0_pay52, k0_pay49]
  simp only [pay7_at]
  rfl

/-! ### The cotangent of the normed rows -/

section Slices2

variable (d : Fin 64)

theorem pay53_at : k0_pay53 (k0_pay7 x) y (ix2 t d) = dmix (x1 x) (y1 y) t (lane 0 d) := by
  refine Eq.trans ?_ (b172 x y t (lane 0 d))
  pointwise [k0_pay53]
  exact congrArg (k0_pay52 (k0_pay7 x) y) (congrArg (ix2 _) (Fin.ext (by simp only [lane]; try simp)))

theorem pay54_at : k0_pay54 (k0_pay7 x) y (ix2 t d) = dmix (x1 x) (y1 y) t (lane 1 d) := by
  refine Eq.trans ?_ (b172 x y t (lane 1 d))
  pointwise [k0_pay54]
  rfl

theorem pay55_at : k0_pay55 (k0_pay7 x) y (ix2 t d) = dmix (x1 x) (y1 y) t (lane 2 d) := by
  refine Eq.trans ?_ (b172 x y t (lane 2 d))
  pointwise [k0_pay55]
  rfl

theorem pay56_at : k0_pay56 (k0_pay7 x) y (ix2 t d) = dmix (x1 x) (y1 y) t (lane 3 d) := by
  refine Eq.trans ?_ (b172 x y t (lane 3 d))
  pointwise [k0_pay56]
  rfl

theorem pay65_at : k0_pay65 (B171 x y) (ix2 t d) = dmix (x0 x) (y0 y) t (lane 0 d) := by
  refine Eq.trans ?_ (b171 x y t (lane 0 d))
  pointwise [k0_pay65]
  exact congrArg (B171 x y) (congrArg (ix2 _) (Fin.ext (by simp only [lane]; try simp)))

theorem pay66_at : k0_pay66 (B171 x y) (ix2 t d) = dmix (x0 x) (y0 y) t (lane 1 d) := by
  refine Eq.trans ?_ (b171 x y t (lane 1 d))
  pointwise [k0_pay66]
  rfl

theorem pay67_at : k0_pay67 (B171 x y) (ix2 t d) = dmix (x0 x) (y0 y) t (lane 2 d) := by
  refine Eq.trans ?_ (b171 x y t (lane 2 d))
  pointwise [k0_pay67]
  rfl

theorem pay68_at : k0_pay68 (B171 x y) (ix2 t d) = dmix (x0 x) (y0 y) t (lane 3 d) := by
  refine Eq.trans ?_ (b171 x y t (lane 3 d))
  pointwise [k0_pay68]
  rfl

end Slices2

abbrev B219 : FVec Ideal S128x256 .f32 :=
  k0_pay59 (k0_pay41 w rowI colI) (k0_pay44 w rowI colI) (k0_pay54 (k0_pay7 x) y) (k0_pay55 (k0_pay7 x) y)
    (k0_pay58 w (k0_pay7 x) rowI colI y) zeroI
abbrev B244 : FVec Ideal S256x256 .f32 := k0_pay63 (k0_pay38 w rowI colI) (k0_pay53 (k0_pay7 x) y) (B219 x w y)
abbrev B274 : FVec Ideal S128x256 .f32 := k0_pay71 (k0_pay30 w rowI colI) (k0_pay33 w rowI colI) (B171 x y)
abbrev B319 : FVec Ideal S256x256 .f32 :=
  k0_pay74 (k0_pay24 w rowI colI) (k0_pay27 w rowI colI) (B244 x w y) (k0_pay65 (B171 x y)) (k0_pay66 (B171 x y))
    (B274 x w y)

theorem b319_0 : B319 x w y (ix2 (r0 t) e) = dvn (mats w) (x0 x) (y0 y) t e := by
  pointwise [k0_pay74, k0_pay63, k0_pay71]
  simp only [pay24_at, pay27_at, pay30_at, pay33_at, pay65_at, pay66_at, pay67_at, pay68_at]
  refine (add_four (fun g d => ∑ s, tri (mats w) g s t * dmix (x0 x) (y0 y) s (lane g d)) e).trans ?_
  simp only [lane_grp]
  rfl

theorem b319_1 : B319 x w y (ix2 (r1 t) e) = dvn (mats w) (x1 x) (y1 y) t e := by
  pointwise [k0_pay74, k0_pay63, k0_pay59, k0_pay58]
  simp only [pay38_at, pay41_at, pay44_at, pay47_at, pay53_at, pay54_at, pay55_at, pay56_at]
  refine (add_four (fun g d => ∑ s, tri (mats w) g s t * dmix (x1 x) (y1 y) s (lane g d)) e).trans ?_
  simp only [lane_grp]
  rfl

/-! ### The gradients summed over rows -/

abbrev B51 : FVec Ideal S256x256 .f32 := k0_pay17 (k0_pay8 x) (k0_pay9 x) (k0_pay11 x)

theorem two_chunks (f : Fin 256 → EReal) : ∑ p, f p = ∑ t, f (r0 t) + ∑ t, f (r1 t) :=
  Fin.sum_univ_add (a := 128) (b := 128) f

theorem b326 : k0_pay77 (B51 x) (B319 x w y) (ix2 0 e) =
    dgain (mats w) (x0 x) (y0 y) e + dgain (mats w) (x1 x) (y1 y) e := by
  pointwise [k0_pay77]
  rw [two_chunks]
  refine congrArg₂ (· + ·) (Finset.sum_congr rfl fun t _ => ?_) (Finset.sum_congr rfl fun t _ => ?_)
  · exact congrArg₂ (· * ·) (pay17_at x (r0 t) e) (b319_0 x w y t e)
  · exact congrArg₂ (· * ·) (pay17_at x (r1 t) e) (b319_1 x w y t e)

theorem b323 : k0_pay76 (B319 x w y) (ix2 0 e) =
    dbias (mats w) (x0 x) (y0 y) e + dbias (mats w) (x1 x) (y1 y) e := by
  pointwise [k0_pay76]
  rw [two_chunks]
  refine congrArg₂ (· + ·) (Finset.sum_congr rfl fun t _ => ?_) (Finset.sum_congr rfl fun t _ => ?_)
  · exact b319_0 x w y t e
  · exact b319_1 x w y t e

/-- The mixing's bias's gradient: four rows, and four of zeros. -/
theorem b321 (r : Fin 8) : k0_pay75 (k0_pay20 k0_pay19 oneI zeroI) (k0_pay64 (B171 x y) (B172 x y)) (ix2 r t) =
    if h : r.val < 4 then da (x1 x) (y1 y) ⟨r.val, h⟩ t + da (x0 x) (y0 y) ⟨r.val, h⟩ t else 0 := by
  pointwise [k0_pay75, k0_pay64]
  simp only [pay20_at]
  rw [sum_grid (a := 4) (b := 64) _ rfl]
  split_ifs with h
  · rw [Finset.sum_eq_single ⟨r.val, h⟩ (fun n _ hn => ?_) (fun h => absurd (Finset.mem_univ _) h)]
    · simp only [da]
      rw [← Finset.sum_add_distrib]
      refine Finset.sum_congr rfl fun d _ => ?_
      rw [if_pos (by omega), mul_one]
      exact congrArg₂ (· + ·) (b172 x y t (lane ⟨r.val, h⟩ d)) (b171 x y t (lane ⟨r.val, h⟩ d))
    · refine Finset.sum_eq_zero fun d _ => ?_
      rw [if_neg (fun hq => hn (Fin.ext (by dsimp only at hq ⊢; omega))), mul_zero]
  · refine Finset.sum_eq_zero fun n _ => Finset.sum_eq_zero fun d _ => ?_
    rw [if_neg (by omega), mul_zero]

/-! ### The matrices' gradient -/

abbrev B227 : FVec Ideal S4x128x128 .f32 :=
  k0_pay60 (k0_pay40 rowI colI) (k0_pay42 (k0_pay36 (B55 x g b))) (k0_pay43 rowI colI) (k0_pay45 (k0_pay36 (B55 x g b)))
    (k0_pay46 rowI colI) (k0_pay54 (k0_pay7 x) y) (k0_pay55 (k0_pay7 x) y)
    (k0_pay57 (k0_pay7 x) (k0_pay36 (B55 x g b)) y)
abbrev B263 : FVec Ideal S4x128x128 .f32 :=
  k0_pay69 (k0_pay32 rowI colI) (k0_pay34 (B55 x g b)) (k0_pay37 rowI colI) (B171 x y) (B227 x g b y)
    (k0_pay61 (k0_pay53 (k0_pay7 x) y)) (k0_pay62 (k0_pay39 (B55 x g b))) (constant S128x128 .f32 0x00000000#32)
abbrev B316 : FVec Ideal S4x128x128 .f32 :=
  k0_pay73 (k0_pay23 rowI colI) (k0_pay25 (B55 x g b)) (k0_pay26 rowI colI) (k0_pay28 (B55 x g b)) (k0_pay29 rowI colI)
    (k0_pay65 (B171 x y)) (k0_pay66 (B171 x y)) (B263 x g b y) (k0_pay70 (k0_pay31 (B55 x g b)) (B171 x y)) k0_pay72

theorem b316 (q : Fin 4) : B316 x g b y (ix3 q t s) =
    dw (gainOf g) (gainOf b) (x1 x) (y1 y) q t s + dw (gainOf g) (gainOf b) (x0 x) (y0 y) q t s := by
  pointwise [k0_pay73, k0_pay69, k0_pay60, k0_pay57, k0_pay61, k0_pay62, k0_pay70, k0_pay72, k0_pay23, k0_pay26, k0_pay29, k0_pay32, k0_pay37, k0_pay40, k0_pay43, k0_pay46]
  simp only [pick_at, pay53_at, pay54_at, pay55_at, pay56_at, pay65_at, pay66_at, pay67_at, pay68_at,
    pay25_at, pay28_at, pay31_at, pay34_at, pay39_at, pay42_at, pay45_at, pay48_at]
  refine (add_eight
    (fun q => if s.val ≤ t.val then ∑ d, dmix (x1 x) (y1 y) t (lane q d) * B55 x g b (ix2 (r1 s) (lane q d)) else 0)
    (fun q => if s.val ≤ t.val then ∑ d, dmix (x0 x) (y0 y) t (lane q d) * B55 x g b (ix2 (r0 s) (lane q d)) else 0)
    q).trans ?_
  exact congrArg₂ (· + ·)
    (congrArg (fun z => if s.val ≤ t.val then z else 0)
      (Finset.sum_congr rfl fun d _ => congrArg (_ * ·) (b55_1 x g b s (lane q d))))
    (congrArg (fun z => if s.val ≤ t.val then z else 0)
      (Finset.sum_congr rfl fun d _ => congrArg (_ * ·) (b55_0 x g b s (lane q d))))

/-! ### The rows' gradient -/

section Back

variable (p : Fin 256)

theorem pay78_at (m d : FVec Ideal S256x256 .f32) :
    k0_pay78 g (k0_pay12 x) (k0_pay13 (k0_pay8 x) (k0_pay9 x)) (k0_pay15 (k0_pay11 x)) (k0_pay16 (k0_pay11 x)) m d
      (ix2 p k) = if h : k.val < 256 then m (ix2 p ⟨k.val, h⟩)
        else normBack (rowV x p) (gainOf g) (fun e => d (ix2 p e)) ⟨k.val - 256, by omega⟩ := by
  pointwise [k0_pay78]
  simp only [Fin.sum_univ_one, pay12_at, pay13_at, pay15_at, pay16_at, zero_sub]
  by_cases h : k.val < 256
  · rw [dif_pos h, dif_pos h, dif_pos h, zero_add]
  · rw [dif_neg h, dif_neg h, dif_neg h, add_zero]
    rfl

/-- The cotangent of a row's activations, and the row's gradient. -/
abbrev B78 : FVec Ideal S256x512 .f32 :=
  k0_pay78 g (k0_pay12 x) (k0_pay13 (k0_pay8 x) (k0_pay9 x)) (k0_pay15 (k0_pay11 x)) (k0_pay16 (k0_pay11 x))
    (B170 x g b w a y) (B319 x w y)

theorem b78_0 : B78 x g b w a y (ix2 (r0 t) k) = dact (gainOf g) (gainOf b) (mats w) (addsOf a) (x0 x) (y0 y) t k := by
  refine (pay78_at x g k (r0 t) _ _).trans ?_
  unfold dact
  by_cases h : k.val < 256
  · rw [dif_pos h, dif_pos h]
    exact b170_0 x g b w a y t ⟨k.val, h⟩
  · rw [dif_neg h, dif_neg h]
    exact congrArg (fun d => normBack (rowV x (r0 t)) (gainOf g) d _) (funext fun e => b319_0 x w y t e)

theorem b78_1 : B78 x g b w a y (ix2 (r1 t) k) = dact (gainOf g) (gainOf b) (mats w) (addsOf a) (x1 x) (y1 y) t k := by
  refine (pay78_at x g k (r1 t) _ _).trans ?_
  unfold dact
  by_cases h : k.val < 256
  · rw [dif_pos h, dif_pos h]
    exact b170_1 x g b w a y t ⟨k.val, h⟩
  · rw [dif_neg h, dif_neg h]
    exact congrArg (fun d => normBack (rowV x (r1 t)) (gainOf g) d _) (funext fun e => b319_1 x w y t e)

theorem pay82_at (v37 v43 : FVec Ideal S256x256 .f32) (v46 v49 : FVec Ideal S256x1 .f32) (m d : FVec Ideal S256x256 .f32) :
    k0_pay82 (k0_pay2 x) (k0_pay79 g (k0_pay5 x) v37 v43 v46 v49 m d) (k0_pay80 x g (k0_pay4 x) v37 v43 v46 v49 m d)
      k0_pay81 (ix2 p k) = glBack (x (ix2 p k)) (k0_pay78 g v37 v43 v46 v49 m d (ix2 p k)) := by
  pointwise [k0_pay82, k0_pay81, k0_pay80, k0_pay79]
  simp only [pay2_at, pay4_at, pay5_at]
  rfl

/-- The rows' gradient, as the block holds it. -/
abbrev Bdx : FVec Ideal S256x512 .bf16 :=
  k0_pay82 (k0_pay2 x)
    (k0_pay79 g (k0_pay5 x) (k0_pay12 x) (k0_pay13 (k0_pay8 x) (k0_pay9 x)) (k0_pay15 (k0_pay11 x))
      (k0_pay16 (k0_pay11 x)) (B170 x g b w a y) (B319 x w y))
    (k0_pay80 x g (k0_pay4 x) (k0_pay12 x) (k0_pay13 (k0_pay8 x) (k0_pay9 x)) (k0_pay15 (k0_pay11 x))
      (k0_pay16 (k0_pay11 x)) (B170 x g b w a y) (B319 x w y))
    k0_pay81

theorem bdx_0 : Bdx x g b w a y (ix2 (r0 t) k) = dx (gainOf g) (gainOf b) (mats w) (addsOf a) (x0 x) (y0 y) t k :=
  (pay82_at x g k (r0 t) _ _ _ _ _ _).trans (congrArg (glBack _) (b78_0 x g b w a y t k))

theorem bdx_1 : Bdx x g b w a y (ix2 (r1 t) k) = dx (gainOf g) (gainOf b) (mats w) (addsOf a) (x1 x) (y1 y) t k :=
  (pay82_at x g k (r1 t) _ _ _ _ _ _).trans (congrArg (glBack _) (b78_1 x g b w a y t k))

end Back

end Block

end Cert.GmlpKernelIdeal.Rows
-- ==== Proof.GmlpKernelArrays.lean ====
/-
  What the call for the chunked spatial gating's gradient leaves in its results, as functions of the arrays it reads.
-/
module

public import proofs.«01_k».proof.Proof.GmlpKernelRows
public import proofs.«01_k».proof.Proof.Gen.GmlpKernelIdeal.Value
public import Idealize.ShloMosaic.Lib.Pipeline.ValueKit
public import Idealize.ShloMosaic.Lib.Pipeline.ReadBack

@[expose] public section

set_option maxRecDepth 16384

noncomputable section

namespace Cert.GmlpKernelIdeal.Rows

open Idealize.ShloMosaic Idealize.ShloMosaic.TcCoe Idealize.SL.Sem
open Idealize.ShloMosaic.Pipeline (Dat)
open Cert.GmlpKernelIdeal Cert.GmlpKernelIdeal.Gen Cert.Gmlp

/-! ## Adding to what a result holds -/

section Add

variable (u v : FVec Ideal S1x256 .f32) (u3 v3 : FVec Ideal S4x128x128 .f32) (u8 v8 : FVec Ideal S8x128 .f32)

theorem pay87_at (e : Fin 256) : k0_pay87 u v (ix2 0 e) = v (ix2 0 e) + u (ix2 0 e) := by
  pointwise [k0_pay87]
theorem pay88_at (e : Fin 256) : k0_pay88 u v (ix2 0 e) = v (ix2 0 e) + u (ix2 0 e) := by
  pointwise [k0_pay88]
theorem pay89_at (g : Fin 4) (t s : Fin 128) : k0_pay89 u3 v3 (ix3 g t s) = v3 (ix3 g t s) + u3 (ix3 g t s) := by
  pointwise [k0_pay89]
theorem pay90_at (r : Fin 8) (t : Fin 128) : k0_pay90 u8 v8 (ix2 r t) = v8 (ix2 r t) + u8 (ix2 r t) := by
  pointwise [k0_pay90]

end Add

/-! ## The grid -/

theorem idx : ∀ t : Fin cfg0.N, win0_0.index t = ![t.val, 0] ∧ win0_1.index t = ![0, 0] ∧ win0_2.index t = ![0, 0] ∧
    win0_3.index t = ![0, 0, 0] ∧ win0_4.index t = ![0, 0] ∧ win0_5.index t = ![t.val, 0] ∧
    win0_6.index t = ![t.val, 0] ∧ win0_7.index t = ![0, 0] ∧ win0_8.index t = ![0, 0] ∧
    win0_9.index t = ![0, 0, 0] ∧ win0_10.index t = ![0, 0] :=
  (by decide +kernel : ∀ t : Fin grid0.N, _)

variable (m : (ℓ : Loc nD τ sig) → Buf (Elt Ideal) ℓ) (c : Dev nD)

abbrev vX : Vec Ideal S8192x512 .f32 := V m c main_arg0
abbrev vG : Vec Ideal S1x256 .f32 := V m c main_arg1
abbrev vB : Vec Ideal S1x256 .f32 := V m c main_arg2
abbrev vW : Vec Ideal S4x128x128 .f32 := V m c main_arg3
abbrev vA : Vec Ideal S8x128 .f32 := V m c main_v0
abbrev vY : Vec Ideal S8192x256 .f32 := V m c main_arg5

/-- A chunk's rows. -/
abbrev partX (n : Fin 64) : Fin 128 → Fin 512 → EReal := part (fun i k => vX m c (ix2 i k)) n
abbrev partY (n : Fin 64) : Fin 128 → Fin 256 → EReal := part (fun i k => vY m c (ix2 i k)) n

/-- The chunks of the block at grid point `t`. -/
abbrev n0 (t : Fin cfg0.N) : Fin 64 := ⟨2 * t.val, by have h : t.val < 32 := t.isLt; omega⟩
abbrev n1 (t : Fin cfg0.N) : Fin 64 := ⟨2 * t.val + 1, by have h : t.val < 32 := t.isLt; omega⟩

theorem blk_x0 (t : Fin cfg0.N) : x0 (iblk m c 0 t) = partX m c (n0 t) := funext fun p => funext fun k => by
  change iblk m c 0 t (ix2 (r0 p) k) = vX m c (ix2 (rowN (n0 t) p) k)
  blk_ext [iblk, idx t, rowN]
theorem blk_x1 (t : Fin cfg0.N) : x1 (iblk m c 0 t) = partX m c (n1 t) := funext fun p => funext fun k => by
  change iblk m c 0 t (ix2 (r1 p) k) = vX m c (ix2 (rowN (n1 t) p) k)
  blk_ext [iblk, idx t, rowN]
theorem blk_y0 (t : Fin cfg0.N) : y0 (iblk m c 5 t) = partY m c (n0 t) := funext fun p => funext fun k => by
  change iblk m c 5 t (ix2 (r0 p) k) = vY m c (ix2 (rowN (n0 t) p) k)
  blk_ext [iblk, idx t, rowN]
theorem blk_y1 (t : Fin cfg0.N) : y1 (iblk m c 5 t) = partY m c (n1 t) := funext fun p => funext fun k => by
  change iblk m c 5 t (ix2 (r1 p) k) = vY m c (ix2 (rowN (n1 t) p) k)
  blk_ext [iblk, idx t, rowN]
theorem blk_g (t : Fin cfg0.N) : gainOf (iblk m c 1 t) = gainOf (vG m c) := funext fun e => by
  change iblk m c 1 t (ix2 0 e) = vG m c (ix2 0 e)
  blk_ext [iblk, idx t]
theorem blk_b (t : Fin cfg0.N) : gainOf (iblk m c 2 t) = gainOf (vB m c) := funext fun e => by
  change iblk m c 2 t (ix2 0 e) = vB m c (ix2 0 e)
  blk_ext [iblk, idx t]
theorem blk_w (t : Fin cfg0.N) : mats (iblk m c 3 t) = mats (vW m c) := funext fun g => funext fun p => funext fun q => by
  change iblk m c 3 t (ix3 g p q) = vW m c (ix3 g p q)
  blk_ext [iblk, idx t]
theorem blk_a (t : Fin cfg0.N) : addsOf (iblk m c 4 t) = addsOf (vA m c) := funext fun g => funext fun p => by
  change iblk m c 4 t (ix2 (first4 g) p) = vA m c (ix2 (first4 g) p)
  blk_ext [iblk, idx t]

/-! ## The rows' gradient -/

def dxOf : Vec Ideal S8192x512 .bf16 := fun j =>
  dx (gainOf (vG m c)) (gainOf (vB m c)) (mats (vW m c)) (addsOf (vA m c)) (partX m c (chunk (j 0)))
    (partY m c (chunk (j 0))) (place (j 0)) (j 1)

theorem dxOf_at (n : Fin 64) (t : Fin 128) (k : Fin 512) : dxOf m c (ix2 (rowN n t) k) =
    dx (gainOf (vG m c)) (gainOf (vB m c)) (mats (vW m c)) (addsOf (vA m c)) (partX m c n) (partY m c n) t k := by
  change dx _ _ _ _ (partX m c (chunk (rowN n t))) (partY m c (chunk (rowN n t))) (place (rowN n t)) k = _
  rw [chunk_rowN, place_rowN]

theorem dx_point (t : Fin cfg0.N) : (outsAt0 m c t.val t.isLt).1 =
    Bdx (iblk m c 0 t) (iblk m c 1 t) (iblk m c 2 t) (iblk m c 3 t) (iblk m c 4 t) (iblk m c 5 t) := by
  by_cases h : t.val % 32 = 0
  · rw [outsAt0_A m c t h]
    frame_out
  · rw [outsAt0_B m c t h]
    frame_out

theorem dx_array : (dats m 0 c).arrAt 6 cfg0.N = dxOf m c := by
  refine (dats m 0 c).arrAt_eq_of_covers 6 _ (by decide +kernel) fun t _ y => ?_
  blk_simp
  rw [after0_6, dx_point]
  obtain ⟨p, q, rfl⟩ : ∃ (p : Fin 256) (q : Fin 512), y = ix2 p q := ⟨y 0, y 1, eq_ix2 y⟩
  obtain ⟨s, rfl⟩ | ⟨s, rfl⟩ : (∃ s : Fin 128, p = r0 s) ∨ ∃ s : Fin 128, p = r1 s := by
    by_cases h : p.val < 128
    · exact .inl ⟨⟨p.val, h⟩, rfl⟩
    · exact .inr ⟨⟨p.val - 128, by omega⟩, Fin.ext (by dsimp only [r1]; omega)⟩
  · rw [bdx_0, blk_x0, blk_y0, blk_g, blk_b, blk_w, blk_a]
    refine (dxOf_at m c (n0 t) s q).symm.trans (congrArg (dxOf m c) ?_)
    blk_ext [idx t, rowN]
  · rw [bdx_1, blk_x1, blk_y1, blk_g, blk_b, blk_w, blk_a]
    refine (dxOf_at m c (n1 t) s q).symm.trans (congrArg (dxOf m c) ?_)
    blk_ext [idx t, rowN]

/-! ## The gradients summed over the chunks -/

theorem chunks_next (f : Fin 64 → EReal) (t : ℕ) (ht : t < 32) :
    firstSum f (2 * (t + 1)) = firstSum f (2 * t) + (f ⟨2 * t, by omega⟩ + f ⟨2 * t + 1, by omega⟩) := by
  rw [show 2 * (t + 1) = 2 * t + 2 by omega, firstSum_add f (by omega), Fin.sum_univ_two]
  rfl

/-- A result that starts at zero and at each point adds both chunks' parts holds the sum of the parts so far. -/
theorem sum_points (f : Fin 64 → EReal) (s : (n : ℕ) → n < cfg0.N → EReal)
    (first : ∀ h, s 0 h = 0 + (f ⟨0, by omega⟩ + f ⟨1, by omega⟩))
    (next : ∀ n (h : n + 1 < cfg0.N), s (n + 1) h = s n (by omega) +
      (f (n0 ⟨n + 1, h⟩) + f (n1 ⟨n + 1, h⟩))) (n : ℕ) (hn : n < cfg0.N) :
    s n hn = firstSum f (2 * (n + 1)) := by
  induction n with
  | zero =>
    rw [first, chunks_next f 0 (by omega), firstSum_zero]
  | succ n ih =>
    rw [next, ih, chunks_next f (n + 1) hn]

def gainTerm (e : Fin 256) (n : Fin 64) : EReal := dgain (mats (vW m c)) (partX m c n) (partY m c n) e
def biasTerm (e : Fin 256) (n : Fin 64) : EReal := dbias (mats (vW m c)) (partX m c n) (partY m c n) e
def matTerm (g : Fin 4) (t s : Fin 128) (n : Fin 64) : EReal :=
  dw (gainOf (vG m c)) (gainOf (vB m c)) (partX m c n) (partY m c n) g t s
def addTerm (r : Fin 8) (t : Fin 128) (n : Fin 64) : EReal := da8 (partX m c n) (partY m c n) r t

theorem gain_part (t : Fin cfg0.N) (e : Fin 256) :
    k0_pay77 (B51 (iblk m c 0 t)) (B319 (iblk m c 0 t) (iblk m c 3 t) (iblk m c 5 t)) (ix2 0 e) =
      gainTerm m c e (n0 t) + gainTerm m c e (n1 t) := by
  rw [b326, blk_x0, blk_x1, blk_y0, blk_y1, blk_w]
  rfl

theorem bias_part (t : Fin cfg0.N) (e : Fin 256) :
    k0_pay76 (B319 (iblk m c 0 t) (iblk m c 3 t) (iblk m c 5 t)) (ix2 0 e) =
      biasTerm m c e (n0 t) + biasTerm m c e (n1 t) := by
  rw [b323, blk_x0, blk_x1, blk_y0, blk_y1, blk_w]
  rfl

theorem mat_part (t : Fin cfg0.N) (g : Fin 4) (i j : Fin 128) :
    B316 (iblk m c 0 t) (iblk m c 1 t) (iblk m c 2 t) (iblk m c 5 t) (ix3 g i j) =
      matTerm m c g i j (n0 t) + matTerm m c g i j (n1 t) := by
  rw [b316, blk_x0, blk_x1, blk_y0, blk_y1, blk_g, blk_b, add_comm]
  rfl

theorem add_part (t : Fin cfg0.N) (r : Fin 8) (i : Fin 128) :
    k0_pay75 (k0_pay20 k0_pay19 oneI zeroI)
        (k0_pay64 (B171 (iblk m c 0 t) (iblk m c 5 t)) (B172 (iblk m c 0 t) (iblk m c 5 t))) (ix2 r i) =
      addTerm m c r i (n0 t) + addTerm m c r i (n1 t) := by
  rw [b321, blk_x0, blk_x1, blk_y0, blk_y1]
  unfold addTerm da8
  split_ifs
  · exact add_comm _ _
  · exact (add_zero 0).symm

theorem gain_point (e : Fin 256) (n : ℕ) (hn : n < cfg0.N) :
    (outsAt0 m c n hn).2.1 (ix2 0 e) = firstSum (gainTerm m c e) (2 * (n + 1)) :=
  sum_points (gainTerm m c e) (fun n h => (outsAt0 m c n h).2.1 (ix2 0 e))
    (fun h => by
      rw [outsAt0_A m c ⟨0, h⟩ rfl]
      frame_out
      refine (pay87_at _ _ e).trans (congrArg₂ (· + ·) ?_ (gain_part m c ⟨0, h⟩ e))
      pointwise [k0_pay83])
    (fun n h => by
      rw [outsAt0_B m c ⟨n + 1, h⟩ (by have h : n + 1 < 32 := h; dsimp only; omega)]
      frame_out
      exact (pay87_at _ _ e).trans (congrArg₂ (· + ·) rfl (gain_part m c ⟨n + 1, h⟩ e))) n hn

theorem bias_point (e : Fin 256) (n : ℕ) (hn : n < cfg0.N) :
    (outsAt0 m c n hn).2.2.1 (ix2 0 e) = firstSum (biasTerm m c e) (2 * (n + 1)) :=
  sum_points (biasTerm m c e) (fun n h => (outsAt0 m c n h).2.2.1 (ix2 0 e))
    (fun h => by
      rw [outsAt0_A m c ⟨0, h⟩ rfl]
      frame_out
      refine (pay88_at _ _ e).trans (congrArg₂ (· + ·) ?_ (bias_part m c ⟨0, h⟩ e))
      pointwise [k0_pay84])
    (fun n h => by
      rw [outsAt0_B m c ⟨n + 1, h⟩ (by have h : n + 1 < 32 := h; dsimp only; omega)]
      frame_out
      exact (pay88_at _ _ e).trans (congrArg₂ (· + ·) rfl (bias_part m c ⟨n + 1, h⟩ e))) n hn

theorem mat_point (g : Fin 4) (i j : Fin 128) (n : ℕ) (hn : n < cfg0.N) :
    (outsAt0 m c n hn).2.2.2.1 (ix3 g i j) = firstSum (matTerm m c g i j) (2 * (n + 1)) :=
  sum_points (matTerm m c g i j) (fun n h => (outsAt0 m c n h).2.2.2.1 (ix3 g i j))
    (fun h => by
      rw [outsAt0_A m c ⟨0, h⟩ rfl]
      frame_out
      refine (pay89_at _ _ g i j).trans (congrArg₂ (· + ·) ?_ (mat_part m c ⟨0, h⟩ g i j))
      pointwise [k0_pay85])
    (fun n h => by
      rw [outsAt0_B m c ⟨n + 1, h⟩ (by have h : n + 1 < 32 := h; dsimp only; omega)]
      frame_out
      exact (pay89_at _ _ g i j).trans (congrArg₂ (· + ·) rfl (mat_part m c ⟨n + 1, h⟩ g i j))) n hn

theorem add_point (r : Fin 8) (i : Fin 128) (n : ℕ) (hn : n < cfg0.N) :
    (outsAt0 m c n hn).2.2.2.2 (ix2 r i) = firstSum (addTerm m c r i) (2 * (n + 1)) :=
  sum_points (addTerm m c r i) (fun n h => (outsAt0 m c n h).2.2.2.2 (ix2 r i))
    (fun h => by
      rw [outsAt0_A m c ⟨0, h⟩ rfl]
      frame_out
      refine (pay90_at _ _ r i).trans (congrArg₂ (· + ·) ?_ (add_part m c ⟨0, h⟩ r i))
      pointwise [k0_pay86])
    (fun n h => by
      rw [outsAt0_B m c ⟨n + 1, h⟩ (by have h : n + 1 < 32 := h; dsimp only; omega)]
      frame_out
      exact (pay90_at _ _ r i).trans (congrArg₂ (· + ·) rfl (add_part m c ⟨n + 1, h⟩ r i))) n hn

def dgainOf : Vec Ideal S1x256 .f32 := fun j => ∑ n, gainTerm m c (j 1) n
def dbiasOf : Vec Ideal S1x256 .f32 := fun j => ∑ n, biasTerm m c (j 1) n
def dwOf : Vec Ideal S4x128x128 .f32 := fun j => ∑ n, matTerm m c (j 0) (j 1) (j 2) n
def daOf : Vec Ideal S8x128 .f32 := fun j => ∑ n, addTerm m c (j 0) (j 1) n

theorem last7 : ∀ t : Fin cfg0.N, (cfg0.win 7).flush t = true → t.val = 31 :=
  (by decide +kernel : ∀ t : Fin grid0.N, _)
theorem last8 : ∀ t : Fin cfg0.N, (cfg0.win 8).flush t = true → t.val = 31 :=
  (by decide +kernel : ∀ t : Fin grid0.N, _)
theorem last9 : ∀ t : Fin cfg0.N, (cfg0.win 9).flush t = true → t.val = 31 :=
  (by decide +kernel : ∀ t : Fin grid0.N, _)
theorem last10 : ∀ t : Fin cfg0.N, (cfg0.win 10).flush t = true → t.val = 31 :=
  (by decide +kernel : ∀ t : Fin grid0.N, _)

theorem gain_array : (dats m 0 c).arrAt 7 cfg0.N = dgainOf m c := by
  refine (dats m 0 c).arrAt_eq_of_covers 7 _ (by decide +kernel) fun t ht y => ?_
  have hl := last7 t ht
  blk_simp
  rw [after0_7]
  obtain ⟨p, q, rfl⟩ : ∃ (p : Fin 1) (q : Fin 256), y = ix2 p q := ⟨y 0, y 1, eq_ix2 y⟩
  obtain rfl : p = 0 := Subsingleton.elim _ _
  rw [gain_point, firstSum_all _ (by omega)]
  change dgainOf m c (ix2 0 q) = _
  refine congrArg (dgainOf m c) ?_
  blk_ext [idx t]

theorem bias_array : (dats m 0 c).arrAt 8 cfg0.N = dbiasOf m c := by
  refine (dats m 0 c).arrAt_eq_of_covers 8 _ (by decide +kernel) fun t ht y => ?_
  have hl := last8 t ht
  blk_simp
  rw [after0_8]
  obtain ⟨p, q, rfl⟩ : ∃ (p : Fin 1) (q : Fin 256), y = ix2 p q := ⟨y 0, y 1, eq_ix2 y⟩
  obtain rfl : p = 0 := Subsingleton.elim _ _
  rw [bias_point, firstSum_all _ (by omega)]
  change dbiasOf m c (ix2 0 q) = _
  refine congrArg (dbiasOf m c) ?_
  blk_ext [idx t]

theorem mat_array : (dats m 0 c).arrAt 9 cfg0.N = dwOf m c := by
  refine (dats m 0 c).arrAt_eq_of_covers 9 _ (by decide +kernel) fun t ht y => ?_
  have hl := last9 t ht
  blk_simp
  rw [after0_9]
  obtain ⟨g, i, j, rfl⟩ : ∃ (g : Fin 4) (i j : Fin 128), y = ix3 g i j := ⟨y 0, y 1, y 2, eq_ix3 y⟩
  rw [mat_point, firstSum_all _ (by omega)]
  change dwOf m c (ix3 g i j) = _
  refine congrArg (dwOf m c) ?_
  blk_ext [idx t]

theorem add_array : (dats m 0 c).arrAt 10 cfg0.N = daOf m c := by
  refine (dats m 0 c).arrAt_eq_of_covers 10 _ (by decide +kernel) fun t ht y => ?_
  have hl := last10 t ht
  blk_simp
  rw [after0_10]
  obtain ⟨p, q, rfl⟩ : ∃ (p : Fin 8) (q : Fin 128), y = ix2 p q := ⟨y 0, y 1, eq_ix2 y⟩
  rw [add_point, firstSum_all _ (by omega)]
  change daOf m c (ix2 p q) = _
  refine congrArg (daOf m c) ?_
  blk_ext [idx t]

end Cert.GmlpKernelIdeal.Rows
-- ==== Proof.GmlpReference.lean ====
/-
  The reference's gradient of the chunked spatial gating, read entry by entry.
-/
module

public import proofs.«01_k».proof.Proof.GmlpRow
public import proofs.«01_k».proof.Proof.FirstSum
public import proofs.«01_k».proof.Proof.Gen.GmlpReferenceIdeal.Run
public import Idealize.ShloMosaic.Lib.Pointwise

@[expose] public section

set_option maxRecDepth 16384

noncomputable section

namespace Cert.GmlpReferenceIdeal.Rows

open Idealize.ShloMosaic Idealize.ShloMosaic.TcCoe Idealize.SL.Sem Idealize.ShloMosaic.StableHlo
open Cert.GmlpReferenceIdeal Cert.GmlpReferenceIdeal.Gen Cert.GmlpReferenceIdeal.Value Cert.Gmlp

variable (V0 : Valuation τ sig (Elt Ideal))

/-! ## The arguments -/

abbrev aX : FVec Ideal S8192x512 .f32 := V0 (Proc.devRef .tc main_arg0)
abbrev aG : FVec Ideal S1x256 .f32 := V0 (Proc.devRef .tc main_arg1)
abbrev aB : FVec Ideal S1x256 .f32 := V0 (Proc.devRef .tc main_arg2)
abbrev aW : FVec Ideal S4x128x128 .f32 := V0 (Proc.devRef .tc main_arg3)
abbrev aA : FVec Ideal S4x128 .f32 := V0 (Proc.devRef .tc main_arg4)
abbrev aY : FVec Ideal S8192x256 .f32 := V0 (Proc.devRef .tc main_arg5)

abbrev gains : Fin 256 → EReal := fun e => aG V0 (ix2 0 e)
abbrev biases : Fin 256 → EReal := fun e => aB V0 (ix2 0 e)
abbrev mats : Fin 4 → Fin 128 → Fin 128 → EReal := fun g t s => aW V0 (ix3 g t s)
abbrev adds : Fin 4 → Fin 128 → EReal := fun g t => aA V0 (ix2 g t)
abbrev partX (n : Fin 64) : Fin 128 → Fin 512 → EReal := part (fun i k => aX V0 (ix2 i k)) n
abbrev partY (n : Fin 64) : Fin 128 → Fin 256 → EReal := part (fun i k => aY V0 (ix2 i k)) n
/-- Row `i`'s activations to be normed. -/
abbrev rowV (i : Fin 8192) : Fin 256 → EReal := fun e => gl (aX V0 (ix2 i (hi e)))

/-! ## The activation and the norm -/

section Rows

variable (i : Fin 8192) (k : Fin 512) (e : Fin 256)

theorem v12_at : res_main_v12 V0 (ix2 i k) = th (aX V0 (ix2 i k)) := by
  pointwise [res_main_v12]
  rw [mul_assoc (aX V0 (ix2 i k))]
  rfl

theorem v21_at : res_main_v21 V0 (ix2 i k) = half * (one + th (aX V0 (ix2 i k))) := by
  pointwise [res_main_v21]
  rw [v12_at]

theorem v22_at : res_main_v22 V0 (ix2 i k) = gl (aX V0 (ix2 i k)) := by
  pointwise [res_main_v22]
  rw [v21_at]
  rfl

theorem v24_at : res_main_v24 V0 (ix2 i e) = rowV V0 i e := by
  pointwise [res_main_v24]
  exact v22_at V0 i (hi e)

theorem v28_at : res_main_v28 V0 (ix2 i 0) = mean (rowV V0 i) := by
  pointwise [res_main_v28]
  simp only [v24_at]
  rfl

theorem v30_at : res_main_v30 V0 (ix2 i e) = dev (rowV V0 i) e := by
  pointwise [res_main_v30]
  rw [v24_at, v28_at]
  rfl

theorem v39_at : res_main_v39 V0 (ix2 i e) = dev (rowV V0 i) e := v30_at V0 i e

theorem v41_at : res_main_v41 V0 (ix2 i 0) = var (rowV V0 i) := by
  pointwise [res_main_v41]
  simp only [v30_at]
  rfl

theorem v42_at : res_main_v42 V0 (ix2 i 0) = rs (rowV V0 i) := by
  pointwise [res_main_v42]
  rw [v41_at]
  rfl

theorem v47_at : res_main_v47 V0 (ix2 i e) = nrm (rowV V0 i) e := by
  pointwise [res_main_v47]
  rw [v39_at, v42_at]
  rfl

theorem v48_at : res_main_v48 V0 (ix2 0 e) = gains V0 e := by
  pointwise [res_main_v48]

end Rows

/-! ## The mixing -/

theorem row_eq (n : Fin 64) (t : Fin 128) (h : n.val * 128 + t.val < 8192) :
    (⟨n.val * 128 + t.val, h⟩ : Fin 8192) = rowN n t := Fin.ext (by simp only [rowN]; omega)
theorem lane_eq (g : Fin 4) (d : Fin 64) (h : g.val * 64 + d.val < 256) :
    (⟨g.val * 64 + d.val, h⟩ : Fin 256) = lane g d := Fin.ext (by simp only [lane]; omega)

/-- The host's sum over the first and the last of four axes. -/
theorem sum_ends {a b c d : ℕ} (h : (⟨4, ![a, b, c, d]⟩ : Shape).ReducesTo [0, 3] ⟨2, ![b, c]⟩)
    (v : (⟨4, ![a, b, c, d]⟩ : Shape).Idx → EReal) (z : EReal) (t : Fin b) (g : Fin c) :
    Ideal.hostReduceAdd h v z (ix2 t g) = z + ∑ n : Fin a, ∑ k : Fin d, v (ix4 n t g k) := by
  refine congrArg (z + ·) ?_
  rw [← Fintype.sum_prod_type']
  refine (Finset.sum_bij (fun (k : Fin a × Fin d) _ => ix4 k.1 t g k.2) (fun k _ => ?_) (fun k _ k' _ e => ?_)
    (fun i hi => ?_) fun _ _ => rfl).symm
  · refine Finset.mem_filter.mpr ⟨Finset.mem_univ _, funext fun q => Fin.ext ?_⟩
    match q with
    | ⟨0, _⟩ => rfl
    | ⟨1, _⟩ => rfl
  · exact Prod.ext (congrFun e 0) (congrFun e 3)
  · have e := (Finset.mem_filter.mp hi).2
    refine ⟨(i 0, i 3), Finset.mem_univ _, funext fun q => Fin.ext ?_⟩
    match q with
    | ⟨0, _⟩ => rfl
    | ⟨1, _⟩ => exact (congrArg Fin.val (congrFun e 0)).symm
    | ⟨2, _⟩ => exact (congrArg Fin.val (congrFun e 1)).symm
    | ⟨3, _⟩ => rfl

section Mix

variable (n : Fin 64) (t s : Fin 128) (g : Fin 4) (d : Fin 64) (e : Fin 256) (k : Fin 512)

theorem v54_at : res_main_v54 V0 (ix4 n t g d) = vn (gains V0) (biases V0) (partX V0 n) t (lane g d) := by
  pointwise [res_main_v54]
  rw [row_eq, lane_eq, v47_at, v48_at]
  rfl

theorem below_at : IntOp.cmpi .sge (IntOp.addi (BitVec.ofNat 32 t.val) 0#32) (BitVec.ofNat 32 s.val) =
    if s.val ≤ t.val then 1#1 else 0#1 := by
  revert t s
  decide +kernel

theorem pick_at (v : EReal) :
    Scalar.select (IntOp.cmpi .sge (IntOp.addi (BitVec.ofNat 32 t.val) 0#32) (BitVec.ofNat 32 s.val)) v 0 =
      if s.val ≤ t.val then v else 0 := by
  rw [below_at]
  split_ifs
  · rfl
  · rfl

theorem v55_0_at : res_main_v55_0 V0 (ix3 g t s) = tri (mats V0) g t s := by
  pointwise [res_main_v55_0, res_main_v55_1]
  exact pick_at t s _

theorem v62_at : res_main_v62 V0 (ix4 n t g d) =
    mixed (gains V0) (biases V0) (mats V0) (adds V0) (partX V0 n) t (lane g d) := by
  have hg : grp (lane g d) = g := Fin.ext (by simp only [grp, lane]; omega)
  pointwise [res_main_v62]
  unfold mixed
  rw [hg]
  refine congrArg (· + _) (Finset.sum_congr rfl fun s _ => ?_)
  rw [v54_at, v55_0_at, mul_comm]

theorem v63_at : res_main_v63 V0 (ix4 n t g d) = gate (partX V0 n) t (lane g d) := by
  pointwise [res_main_v63]
  rw [row_eq]
  exact (v22_at V0 _ _).trans (congrArg (fun k => gl (aX V0 (ix2 (rowN n t) k)))
    (Fin.ext (by simp only [lo, lane]; omega)))

theorem v66_at : res_main_v66 V0 (ix4 n t g d) = partY V0 n t (lane g d) := by
  pointwise [res_main_v66]
  rw [row_eq, lane_eq]

theorem v67_at : res_main_v67 V0 (ix4 n t g d) = dmix (partX V0 n) (partY V0 n) t (lane g d) := by
  pointwise [res_main_v67]
  rw [v63_at, v66_at]
  rfl

theorem v76_at : res_main_v76 V0 (ix4 g n d t) = dmix (partX V0 n) (partY V0 n) t (lane g d) := by
  pointwise [res_main_v76]
  exact v67_at V0 n t g d

/-- An index of the four axes from a row and a lane. -/
theorem split_eq (a : (⟨4, ![64, 128, 4, 64]⟩ : Shape).Idx → EReal) (h1 h2 h3 h4) :
    a (ix4 ⟨(rowN n t).val / 128, h1⟩ ⟨(rowN n t).val % 128, h2⟩ ⟨e.val / 64, h3⟩ ⟨e.val % 64, h4⟩) =
      a (ix4 n t (grp e) ⟨e.val % 64, h4⟩) := by
  have hn : (⟨(rowN n t).val / 128, h1⟩ : Fin 64) = n := chunk_rowN n t
  have ht : (⟨(rowN n t).val % 128, h2⟩ : Fin 128) = t := place_rowN n t
  rw [hn, ht]
  rfl

theorem lane_at (h4) : lane (grp e) ⟨e.val % 64, h4⟩ = e := Fin.ext (by simp only [lane, grp]; omega)

theorem v81_at : @Eq EReal (res_main_v81 V0 (ix2 (rowN n t) e)) (dvn (mats V0) (partX V0 n) (partY V0 n) t e) := by
  have hn : ∀ h1, (⟨(rowN n t).val / 128, h1⟩ : Fin 64) = n := fun _ => chunk_rowN n t
  have ht : ∀ h2, (⟨(rowN n t).val % 128, h2⟩ : Fin 128) = t := fun _ => place_rowN n t
  pointwise [res_main_v81]
  refine Finset.sum_congr rfl fun s _ => ?_
  rw [hn, ht, v76_at, v55_0_at, mul_comm]
  exact congrArg (fun q => tri (mats V0) (grp e) s t * dmix (partX V0 n) (partY V0 n) s q) (lane_at e _)

/-! ## Back through the norm and the activation -/

theorem v89_at : res_main_v89 V0 (ix2 (rowN n t) e) =
    dvn (mats V0) (partX V0 n) (partY V0 n) t e * gains V0 e := by
  pointwise [res_main_v89]
  rw [v81_at, v48_at]

abbrev rowAt : Fin 256 → EReal := vrow (partX V0 n) t

theorem v95_at : res_main_v95 V0 (ix2 (rowN n t) e) =
    direct (rowAt V0 n t) (gains V0) (dvn (mats V0) (partX V0 n) (partY V0 n) t) e := by
  pointwise [res_main_v95]
  rw [v89_at, v42_at]
  rfl

theorem v104_at : res_main_v104 V0 (ix2 (rowN n t) e) =
    through (rowAt V0 n t) (gains V0) (dvn (mats V0) (partX V0 n) (partY V0 n) t) e := by
  pointwise [res_main_v104]
  simp only [Fin.sum_univ_one, v39_at, v89_at, v42_at, v41_at, v30_at]
  rfl

theorem v115_at : res_main_v115 V0 (ix2 (rowN n t) k) =
    dact (gains V0) (biases V0) (mats V0) (adds V0) (partX V0 n) (partY V0 n) t k := by
  have hn : ∀ h1, (⟨(rowN n t).val / 128, h1⟩ : Fin 64) = n := fun _ => chunk_rowN n t
  have ht : ∀ h2, (⟨(rowN n t).val % 128, h2⟩ : Fin 128) = t := fun _ => place_rowN n t
  pointwise [res_main_v115]
  unfold dact
  by_cases hk : k.val < 256
  · rw [dif_pos hk, dif_pos hk, hn, ht]
    have hl := lane_at ⟨k.val, hk⟩ (Nat.mod_lt _ (by omega))
    have h := congrArg₂ (fun p q : EReal => p * q)
      (v66_at V0 n t (grp ⟨k.val, hk⟩) ⟨k.val % 64, Nat.mod_lt _ (by omega)⟩)
      (v62_at V0 n t (grp ⟨k.val, hk⟩) ⟨k.val % 64, Nat.mod_lt _ (by omega)⟩)
    rw [hl] at h
    exact h
  · rw [dif_neg hk, dif_neg hk]
    simp only [Fin.sum_univ_one, v95_at, v104_at]
    rfl

theorem v122_at : res_main_v122 V0 (ix2 (rowN n t) k) = inner (partX V0 n t k)
    (dact (gains V0) (biases V0) (mats V0) (adds V0) (partX V0 n) (partY V0 n) t k) := by
  pointwise [res_main_v122]
  rw [v115_at, v12_at]
  rfl

end Mix

/-! ## The five results -/

/-- The rows' gradient. -/
abbrev resX : FVec Ideal S8192x512 .bf16 :=
  truncf .bf16 (addf (addf (mulf (res_main_v115 V0) (res_main_v21 V0)) (res_main_v122 V0)) (mulf (mulf (broadcastInDim S8192x512 ![] bcast_S_S8192x512 (constant S_ .f32 0x3D372713#32)) (res_main_v122 V0)) (mulf (broadcastInDim S8192x512 ![] bcast_S_S8192x512 (constant S_ .f32 0x40400000#32)) (mulf (V0 (Proc.devRef .tc main_arg0)) (V0 (Proc.devRef .tc main_arg0)))))) bitsLt_bf16_f32
/-- The gain's. -/
abbrev resG : FVec Ideal S1x256 .f32 :=
  broadcastInDim S1x256 ![1] bcast_S256_S1x256_1 (Host.reduceAdd (shapeCast _ (Host.reduceAdd (mulf (res_main_v47 V0) (res_main_v81 V0)) (constant S_ .f32 0x00000000#32) reducesTo_S8192x256_S256_d0 h_S_) shapeCasts_S256_S1x256) (constant S_ .f32 0x00000000#32) reducesTo_S1x256_S256_d0 h_S_)
/-- The bias's. -/
abbrev resB : FVec Ideal S1x256 .f32 :=
  broadcastInDim S1x256 ![1] bcast_S256_S1x256_1 (Host.reduceAdd (shapeCast _ (Host.reduceAdd (res_main_v81 V0) (constant S_ .f32 0x00000000#32) reducesTo_S8192x256_S256_d0 h_S_) shapeCasts_S256_S1x256) (constant S_ .f32 0x00000000#32) reducesTo_S1x256_S256_d0 h_S_)
/-- The matrices'. -/
abbrev resW : FVec Ideal S4x128x128 .f32 :=
  select (res_main_v55_1 V0) (Host.dotGeneral (φ₁ := .f32) (φ₂ := .f32) dot_S4x64x64x128_S64x128x4x64_S4x128x128_12_03_3_1_0_2 none (res_main_v76 V0) (res_main_v54 V0)) (broadcastInDim S4x128x128 ![] bcast_S_S4x128x128 (constant S_ .f32 0x00000000#32))
/-- The mixing's bias's. -/
abbrev resA : FVec Ideal S8x128 .f32 :=
  pad S8x128 ![0, 0] ![4, 0] ![0, 0] (transpose S4x128 [1, 0] (Host.reduceAdd (broadcastInDim S128x4x1 ![0, 1] bcast_S128x4_S128x4x1_0_1 (Host.reduceAdd (shapeCast _ (Host.reduceAdd (res_main_v67 V0) (constant S_ .f32 0x00000000#32) reducesTo_S64x128x4x64_S128x4_d0_3 h_S_) shapeCasts_S128x4_S1x128x4x1) (constant S_ .f32 0x00000000#32) reducesTo_S1x128x4x1_S128x4_d0_3 h_S_)) (constant S_ .f32 0x00000000#32) reducesTo_S128x4x1_S128x4_d2 h_S_) transposes_S128x4_S4x128_1_0) (sitofp .f32 (constantI S_ 32 0#32)) pads_S4x128_S8x128_040_000 h_S_

section Results

variable (n : Fin 64) (t s : Fin 128) (g : Fin 4) (e : Fin 256) (k : Fin 512) (r : Fin 8)

theorem resX_at : resX V0 (ix2 (rowN n t) k) =
    dx (gains V0) (biases V0) (mats V0) (adds V0) (partX V0 n) (partY V0 n) t k := by
  pointwise []
  rw [v115_at, v21_at, v122_at]
  rfl

theorem resG_at : resG V0 (ix2 0 e) = ∑ n, dgain (mats V0) (partX V0 n) (partY V0 n) e := by
  pointwise []
  rw [Fin.sum_univ_one]
  refine (sum_grid (a := 64) (b := 128) _ rfl).trans
    (Finset.sum_congr rfl fun n _ => Finset.sum_congr rfl fun t _ => ?_)
  exact congrArg₂ (fun p q : EReal => p * q) (v47_at V0 (rowN n t) e) (v81_at V0 n t e)

theorem resB_at : resB V0 (ix2 0 e) = ∑ n, dbias (mats V0) (partX V0 n) (partY V0 n) e := by
  pointwise []
  rw [Fin.sum_univ_one]
  exact (sum_grid (a := 64) (b := 128) (fun x : Fin 8192 => (res_main_v81 V0 (ix2 x e) : EReal)) rfl).trans
    (Finset.sum_congr rfl fun n _ => Finset.sum_congr rfl fun t _ => v81_at V0 n t e)

theorem resW_at : resW V0 (ix3 g t s) = ∑ n, dw (gains V0) (biases V0) (partX V0 n) (partY V0 n) g t s := by
  pointwise [res_main_v55_1]
  refine (pick_at t s _).trans ?_
  unfold dw
  by_cases h : s.val ≤ t.val
  · simp only [if_pos h, v76_at, v54_at]
  · simp only [if_neg h, Finset.sum_const_zero]

theorem resA_at : resA V0 (ix2 r t) = ∑ n, da8 (partX V0 n) (partY V0 n) r t := by
  pointwise []
  unfold da8
  split_ifs with hr
  · rw [Fin.sum_univ_one, sum_ends]
    simp only [Fin.sum_univ_one]
    pointwise []
    rw [sum_ends, zero_add]
    exact Finset.sum_congr rfl fun n _ => Finset.sum_congr rfl fun d _ => v67_at V0 n t ⟨r.val, hr⟩ d
  · rw [Finset.sum_const_zero]
    exact show (((0#32 : BitVec 32).toInt : ℝ) : EReal) = 0 by simp

end Results

end Cert.GmlpReferenceIdeal.Rows
-- ==== Proof.GmlpEquation.lean ====
/-
  The call for the chunked spatial gating's gradient leaves the reference's five arrays, from equal arguments.
-/
module

public import proofs.«01_k».proof.Proof.GmlpKernelArrays
public import proofs.«01_k».proof.Proof.GmlpReference

@[expose] public section

set_option maxRecDepth 16384

noncomputable section

namespace Cert.Gmlp

open Idealize.ShloMosaic Idealize.ShloMosaic.TcCoe Idealize.SL.Sem
open Cert.GmlpKernelIdeal.Rows (vX vG vB vW vA vY dxOf dxOf_at dgainOf dbiasOf dwOf daOf gainOf addsOf first4
  gainTerm biasTerm matTerm addTerm)
open Cert.GmlpReferenceIdeal.Rows (aX aG aB aW aA aY resX resG resB resW resA gains biases adds)

/-! ## What the call gets -/

section Host

open Cert.GmlpKernelIdeal Cert.GmlpKernelIdeal.Gen StableHlo

variable (m : (ℓ : Loc nD τ sig) → Buf (Elt Ideal) ℓ) (c : Dev nD)

theorem x_value : vX m c = m ((c.tc : Thread nD τ).loc main_arg0) := by
  simp only [vX, V, hostOps0, hostOps0_1, List.flatten_cons, List.flatten_nil, List.append_nil, List.cons_append,
    List.nil_append, TRef.binary, TRef.nullary, TRef.unary, TRef.toBuf, TRef.ofBuf, cast_eq]
  after_results_simp <;> rfl
theorem g_value : vG m c = m ((c.tc : Thread nD τ).loc main_arg1) := by
  simp only [vG, V, hostOps0, hostOps0_1, List.flatten_cons, List.flatten_nil, List.append_nil, List.cons_append,
    List.nil_append, TRef.binary, TRef.nullary, TRef.unary, TRef.toBuf, TRef.ofBuf, cast_eq]
  after_results_simp <;> rfl
theorem b_value : vB m c = m ((c.tc : Thread nD τ).loc main_arg2) := by
  simp only [vB, V, hostOps0, hostOps0_1, List.flatten_cons, List.flatten_nil, List.append_nil, List.cons_append,
    List.nil_append, TRef.binary, TRef.nullary, TRef.unary, TRef.toBuf, TRef.ofBuf, cast_eq]
  after_results_simp <;> rfl
theorem w_value : vW m c = m ((c.tc : Thread nD τ).loc main_arg3) := by
  simp only [vW, V, hostOps0, hostOps0_1, List.flatten_cons, List.flatten_nil, List.append_nil, List.cons_append,
    List.nil_append, TRef.binary, TRef.nullary, TRef.unary, TRef.toBuf, TRef.ofBuf, cast_eq]
  after_results_simp <;> rfl
theorem y_value : vY m c = m ((c.tc : Thread nD τ).loc main_arg5) := by
  simp only [vY, V, hostOps0, hostOps0_1, List.flatten_cons, List.flatten_nil, List.append_nil, List.cons_append,
    List.nil_append, TRef.binary, TRef.nullary, TRef.unary, TRef.toBuf, TRef.ofBuf, cast_eq]
  after_results_simp <;> rfl
/-- The mixing's bias in eight rows. -/
def rows8 (a : FVec Ideal S4x128 .f32) : FVec Ideal S8x128 .f32 :=
  pad S8x128 ![0, 0] ![4, 0] ![0, 0] a (sitofp .f32 (constantI S_ 32 0#32) : FVec Ideal S_ .f32)
    pads_S4x128_S8x128_040_000 h_S_

theorem rows8_first (a : FVec Ideal S4x128 .f32) (g : Fin 4) (t : Fin 128) :
    rows8 a (ix2 (first4 g) t) = a (ix2 g t) := by
  pointwise [rows8, first4]

theorem a_value : vA m c = rows8 (m ((c.tc : Thread nD τ).loc main_arg4)) := by
  simp only [vA, V, hostOps0, hostOps0_1, List.flatten_cons, List.flatten_nil, List.append_nil, List.cons_append,
    List.nil_append, TRef.binary, TRef.nullary, TRef.unary, TRef.toBuf, TRef.ofBuf, cast_eq]
  after_results_simp <;> rfl

theorem a_first (g : Fin 4) (t : Fin 128) : vA m c (ix2 (first4 g) t) =
    (m ((c.tc : Thread nD τ).loc main_arg4) : FVec Ideal S4x128 .f32) (ix2 g t) := by
  rw [a_value]
  exact rows8_first _ g t

end Host

/-! ## The two are equal -/

variable (m : (ℓ : Loc Cert.GmlpKernelIdeal.nD Cert.GmlpKernelIdeal.τ Cert.GmlpKernelIdeal.sig) → Buf (Elt Ideal) ℓ)
  (c : Dev Cert.GmlpKernelIdeal.nD)
  (V0 : Valuation Cert.GmlpReferenceIdeal.τ Cert.GmlpReferenceIdeal.sig (Elt Ideal))

/-- The reference has the arrays the call has. -/
structure Same : Prop where
  x : aX V0 = vX m c
  g : aG V0 = vG m c
  b : aB V0 = vB m c
  w : aW V0 = vW m c
  a : ∀ g t, aA V0 (ix2 g t) = vA m c (ix2 (first4 g) t)
  y : aY V0 = vY m c

variable {m c V0} (h : Same m c V0)
include h

theorem gains_eq : gains V0 = gainOf (vG m c) := by
  unfold gains gainOf
  rw [h.g]
theorem biases_eq : biases V0 = gainOf (vB m c) := by
  unfold biases gainOf
  rw [h.b]
theorem mats_eq : Cert.GmlpReferenceIdeal.Rows.mats V0 = Cert.GmlpKernelIdeal.Rows.mats (vW m c) := by
  unfold Cert.GmlpReferenceIdeal.Rows.mats Cert.GmlpKernelIdeal.Rows.mats
  rw [h.w]
theorem adds_eq : adds V0 = addsOf (vA m c) := funext fun g => funext fun t => h.a g t
theorem partX_eq : Cert.GmlpReferenceIdeal.Rows.partX V0 = Cert.GmlpKernelIdeal.Rows.partX m c := by
  unfold Cert.GmlpReferenceIdeal.Rows.partX Cert.GmlpKernelIdeal.Rows.partX
  rw [h.x]
theorem partY_eq : Cert.GmlpReferenceIdeal.Rows.partY V0 = Cert.GmlpKernelIdeal.Rows.partY m c := by
  unfold Cert.GmlpReferenceIdeal.Rows.partY Cert.GmlpKernelIdeal.Rows.partY
  rw [h.y]

theorem x_result : resX V0 = dxOf m c := by
  funext j
  obtain ⟨n, t, k, rfl⟩ : ∃ (n : Fin 64) (t : Fin 128) (k : Fin 512), j = ix2 (rowN n t) k :=
    ⟨chunk (j 0), place (j 0), j 1, by blk_ext [rowN, chunk, place]⟩
  rw [Cert.GmlpReferenceIdeal.Rows.resX_at, dxOf_at, gains_eq h, biases_eq h, mats_eq h, adds_eq h, partX_eq h,
    partY_eq h]

theorem g_result : resG V0 = dgainOf m c := by
  funext j
  obtain ⟨e, rfl⟩ : ∃ e : Fin 256, j = ix2 0 e := ⟨j 1, by blk_ext []⟩
  rw [Cert.GmlpReferenceIdeal.Rows.resG_at, mats_eq h, partX_eq h, partY_eq h]
  rfl

theorem b_result : resB V0 = dbiasOf m c := by
  funext j
  obtain ⟨e, rfl⟩ : ∃ e : Fin 256, j = ix2 0 e := ⟨j 1, by blk_ext []⟩
  rw [Cert.GmlpReferenceIdeal.Rows.resB_at, mats_eq h, partX_eq h, partY_eq h]
  rfl

theorem w_result : resW V0 = dwOf m c := by
  funext j
  obtain ⟨g, t, s, rfl⟩ : ∃ (g : Fin 4) (t s : Fin 128), j = ix3 g t s := ⟨j 0, j 1, j 2, by blk_ext []⟩
  rw [Cert.GmlpReferenceIdeal.Rows.resW_at, gains_eq h, biases_eq h, partX_eq h, partY_eq h]
  rfl

theorem a_result : resA V0 = daOf m c := by
  funext j
  obtain ⟨r, t, rfl⟩ : ∃ (r : Fin 8) (t : Fin 128), j = ix2 r t := ⟨j 0, j 1, by blk_ext []⟩
  rw [Cert.GmlpReferenceIdeal.Rows.resA_at, partX_eq h, partY_eq h]
  rfl

end Cert.Gmlp
-- ==== Proof.GmlpClaims.lean ====
/-
  The five claims about the backward pass of the chunked spatial gating.
-/
module

public import proofs.«01_k».proof.Defs
public import proofs.«01_k».proof.Proof.Gen.GmlpKernel.Frame
public import proofs.«01_k».proof.Proof.GmlpEquation
public import Idealize.ShloMosaic.Lib.Quiescent

@[expose] public section

noncomputable section

namespace Cert.Gmlp

open Idealize.ShloMosaic Idealize.ShloMosaic.TcCoe Idealize.SL.Sem Idealize.ShloMosaic.StableHlo
open Cert.GmlpKernelIdeal.Rows (dxOf dgainOf dbiasOf dwOf daOf dx_array gain_array bias_array mat_array add_array)

theorem frame_kernel : Cert.quiescent_GmlpKernel := fun m ρ _ => Cert.GmlpKernel.Gen.frame m ρ

theorem frame_ideal : Cert.quiescent_GmlpKernelIdeal := fun m ρ _ => Cert.GmlpKernelIdeal.Gen.frame m ρ

theorem frame_reference : Cert.quiescent_GmlpReferenceIdeal := fun m ρ _ =>
  (θ_run Cert.GmlpReferenceIdeal.defs _ _).mono (fun r h => ⟨fun c => (h c).2.2.2.2.2,
      Idealize.ShloMosaic.sem_eq_zero_of_no_sems (by decide) r.2⟩)
    (Cert.GmlpReferenceIdeal.Value.run (F := Ideal) m ρ)

/-- Nothing is rewritten between the kernel and its ideal form. -/
theorem preserves : Cert.preserves_GmlpKernel_GmlpKernelIdeal := trivial

/-- The kernel's five arrays are the reference's five gradients. -/
theorem algebraic : Cert.algebraic_GmlpKernelIdeal_GmlpReferenceIdeal := by
  intro m ρ m' ρ' _ hagree
  refine ⟨dxOf m, dgainOf m, dbiasOf m, dwOf m, daOf m, ?_, ?_⟩
  · refine (θ_run Cert.GmlpKernelIdeal.defs _ _).mono (fun _ h c => ?_)
      (Cert.GmlpKernelIdeal.Value.run_blocks (F := Ideal) m ρ)
    obtain ⟨h0, h1, h2, h3, h4, h5⟩ := h c
    exact ⟨h0.trans (dx_array m c), h1.trans (gain_array m c), h2.trans (bias_array m c), h3.trans (mat_array m c),
      h4.trans (add_array m c), h5⟩
  · refine (θ_run Cert.GmlpReferenceIdeal.defs _ _).mono (fun _ h c => ?_)
      (Cert.GmlpReferenceIdeal.Value.run (F := Ideal) m' ρ')
    obtain ⟨a0, a1, a2, a3, a4, a5⟩ := hagree c
    have hs : Same m c (launchContents m' c) :=
      ⟨a0.trans (x_value m c).symm, a1.trans (g_value m c).symm, a2.trans (b_value m c).symm,
        a3.trans (w_value m c).symm, fun g t => (congrFun a4 _).trans (a_first m c g t).symm,
        a5.trans (y_value m c).symm⟩
    obtain ⟨h0, h1, h2, h3, h4, h5⟩ := h c
    exact ⟨h0.trans (x_result hs), h1.trans (g_result hs), h2.trans (b_result hs), h3.trans (w_result hs),
      h4.trans (a_result hs), h5⟩

end Cert.Gmlp
-- ==== Proof.ForwardKernelArray.lean ====
/-
  What the call for the layer's down projection leaves in its result, as a function of the arrays it reads.
-/
module

public import proofs.«01_k».proof.Proof.DownKernelArray
public import proofs.«01_k».proof.Proof.Gen.ForwardKernelIdeal.Value

@[expose] public section

set_option maxRecDepth 16384

noncomputable section

namespace Cert.ForwardKernelIdeal.Rows

open Idealize.ShloMosaic Idealize.ShloMosaic.TcCoe Idealize.SL.Sem
open Idealize.ShloMosaic.Pipeline (Dat)
open Cert.ForwardKernelIdeal Cert.ForwardKernelIdeal.Gen
open Cert.DownKernelIdeal.Rows (gated gateCol upCol)

/-! ## One block -/

section Block

variable (a b : Vec Ideal S512x1408 .bf16) (d : Vec Ideal S1408x1024 .bf16) (r h : Vec Ideal S512x1024 .f32)
  (p : Fin 512) (q : Fin 1024)

/-- A block's part of one entry of the projection. -/
def part : EReal := ∑ e, gated (a (ix2 p e)) (b (ix2 p e)) * d (ix2 e q)

theorem part_row : k0_pay1 a b d (ix2 p q) = part a b d p q := by
  pointwise [k0_pay1]
  simp only [zero_sub]
  rfl

theorem first_row : k0_pay2 a b d (ix2 p q) = part a b d p q := by
  pointwise [k0_pay2]
  rw [part_row]

theorem last_row :
    k0_pay4 a b d r h (ix2 p q) = h (ix2 p q) + (r (ix2 p q) + part a b d p q) * Cert.Ffn.half := by
  pointwise [k0_pay4]
  rw [part_row]

end Block

/-! ## The grid -/

theorem idx : ∀ t : Fin cfg0.N, win0_0.index t = ![t.val / 2, t.val % 2] ∧ win0_1.index t = ![t.val / 2, 2 + t.val % 2] ∧
    win0_2.index t = ![t.val % 2, 0] ∧ win0_3.index t = ![t.val / 2, 0] ∧ win0_4.index t = ![t.val / 2, 0] :=
  (by decide +kernel : ∀ t : Fin grid0.N, _)

/-- Row `p` of the block of 512 rows at grid point `t`. -/
def row (t : Fin cfg0.N) (p : Fin 512) : Fin 8192 := ⟨t.val / 2 * 512 + p.val, by have h : t.val < 32 := t.isLt; omega⟩
/-- Column `e` of half `k` of the gated product. -/
def col (k : Fin 2) (e : Fin 1408) : Fin 2816 := ⟨k.val * 1408 + e.val, by omega⟩
/-- The half grid point `t` adds. -/
def side (t : Fin cfg0.N) : Fin 2 := ⟨t.val % 2, by omega⟩

variable (m : (ℓ : Loc nD τ sig) → Buf (Elt Ideal) ℓ) (c : Dev nD)

/-- The gates and up values, as the call gets them. -/
abbrev vGu : Vec Ideal S8192x5632 .bf16 := V m c main_v18
/-- The down weights. -/
abbrev vD : Vec Ideal S2816x1024 .bf16 := V m c main_arg3
/-- The residual. -/
abbrev vH : Vec Ideal S8192x1024 .f32 := V m c main_arg0

theorem blk_gate (t : Fin cfg0.N) (p : Fin 512) (e : Fin 1408) :
    iblk m c 0 t (ix2 p e) = vGu m c (ix2 (row t p) (gateCol (col (side t) e))) := by
  blk_ext [iblk, idx t, row, col, side, gateCol]
theorem blk_up (t : Fin cfg0.N) (p : Fin 512) (e : Fin 1408) :
    iblk m c 1 t (ix2 p e) = vGu m c (ix2 (row t p) (upCol (col (side t) e))) := by
  blk_ext [iblk, idx t, row, col, side, upCol]
theorem blk_d (t : Fin cfg0.N) (e : Fin 1408) (q : Fin 1024) :
    iblk m c 2 t (ix2 e q) = vD m c (ix2 (col (side t) e) q) := by
  blk_ext [iblk, idx t, col, side]
theorem blk_h (t : Fin cfg0.N) (p : Fin 512) (q : Fin 1024) : iblk m c 3 t (ix2 p q) = vH m c (ix2 (row t p) q) := by
  blk_ext [iblk, idx t, row]

/-! ## The result -/

/-- One gated product's part of an entry of the projection. -/
def term (i : Fin 8192) (q : Fin 1024) (f : Fin 2816) : EReal :=
  gated (vGu m c (ix2 i (gateCol f))) (vGu m c (ix2 i (upCol f))) * vD m c (ix2 f q)

theorem part_eq (t : Fin cfg0.N) (p : Fin 512) (q : Fin 1024) :
    part (iblk m c 0 t) (iblk m c 1 t) (iblk m c 2 t) p q = ∑ e, term m c (row t p) q (col (side t) e) := by
  unfold part term
  simp only [blk_gate, blk_up, blk_d]

theorem two_halves (f : Fin 2816 → EReal) : (∑ e, f (col 0 e)) + ∑ e, f (col 1 e) = ∑ i, f i := by
  refine Eq.trans ?_ (Fin.sum_univ_tiles 2 1408 rfl f).symm
  rw [Fin.sum_univ_two]
  rfl

/-- At a run's second point, what the scratch holds and the point's part are the whole sum. -/
theorem last_sum (t : Fin cfg0.N) (h1 : t.val % 2 = 1) (p : Fin 512) (q : Fin 1024) :
    (outsAt0 m c (t.val - 1) (by omega)).2 (ix2 p q) + part (iblk m c 0 t) (iblk m c 1 t) (iblk m c 2 t) p q =
      ∑ f, term m c (row t p) q f := by
  obtain ⟨n, hn⟩ := t
  dsimp only at h1 ⊢
  rw [outsAt0_A m c ⟨n - 1, by omega⟩ (by dsimp only; omega) (by dsimp only; omega)]
  frame_out
  rw [first_row, part_eq, part_eq, ← two_halves]
  have h0 : side ⟨n - 1, by omega⟩ = 0 := Fin.ext (by simp only [side]; dsimp; omega)
  have h2 : side ⟨n, hn⟩ = 1 := Fin.ext (by simp only [side]; dsimp; omega)
  have hr : row ⟨n - 1, by omega⟩ p = row ⟨n, hn⟩ p := Fin.ext (by dsimp only [row]; omega)
  rw [h0, h2, hr]

/-- The residual after the layer. -/
def outOf : Vec Ideal S8192x1024 .f32 := fun j =>
  vH m c (ix2 (j 0) (j 1)) + (∑ f, term m c (j 0) (j 1) f) * Cert.Ffn.half

theorem last_point : ∀ t : Fin cfg0.N, (cfg0.win 4).flush t = true → t.val % 2 = 1 :=
  (by decide +kernel : ∀ t : Fin grid0.N, _)

theorem out_array : (dats m 0 c).arrAt 4 cfg0.N = outOf m c := by
  refine (dats m 0 c).arrAt_eq_of_covers 4 _ (by decide +kernel) fun t ht y => ?_
  have h1 := last_point t ht
  blk_simp
  rw [after0_4, outsAt0_B m c t (by omega) h1]
  frame_out
  obtain ⟨p, q, rfl⟩ : ∃ (p : Fin 512) (q : Fin 1024), y = ix2 p q := ⟨y 0, y 1, eq_ix2 y⟩
  rw [last_row, read_unread_whole]
  rw [last_sum m c t h1, blk_h]
  refine congrArg (outOf m c) (a₁ := ix2 (row t p) q) ?_
  blk_ext [idx t, row]

end Cert.ForwardKernelIdeal.Rows
-- ==== Proof.ForwardEquation.lean ====
/-
  The call for the layer's down projection leaves the reference's residual, from equal arguments.
-/
module

public import proofs.«01_k».proof.Proof.ForwardKernelArray
public import proofs.«01_k».proof.Proof.FfnReference
public import proofs.«01_k».proof.Proof.Gen.ForwardReferenceIdeal.Run

@[expose] public section

set_option maxRecDepth 16384

noncomputable section

namespace Cert.Forward

open Idealize.ShloMosaic Idealize.ShloMosaic.TcCoe Idealize.SL.Sem
open Cert.FfnReferenceIdeal.Rows (rGu rGate rUp rSig gateOf upOf)

/-! ## The gates and up values -/

section Saved

open Cert.ForwardKernelIdeal

variable (m : (ℓ : Loc nD τ sig) → Buf (Elt Ideal) ℓ) (c : Dev nD)

abbrev mH : FVec Ideal S8192x1024 .f32 := m ((c.tc : Thread nD τ).loc main_arg0)
abbrev mG : FVec Ideal S1x1024 .f32 := m ((c.tc : Thread nD τ).loc main_arg1)
abbrev mW : FVec Ideal S1024x5632 .bf16 := m ((c.tc : Thread nD τ).loc main_arg2)
abbrev mD : FVec Ideal S2816x1024 .bf16 := m ((c.tc : Thread nD τ).loc main_arg3)

set_option maxHeartbeats 2000000 in
/-- The call gets the ones the layer's own lines compute. -/
theorem gu_value : Gen.V m c main_v18 = rGu (mH m c) (mG m c) (mW m c) := by
  simp only [Gen.V, Gen.hostOps0, List.flatten_cons, List.flatten_nil, List.append_nil]
  after_results_simp <;> rfl

end Saved

/-! ## The reference's result -/

section Reference

open Cert.ForwardReferenceIdeal Cert.ForwardReferenceIdeal.Gen

variable (h : FVec Ideal S8192x1024 .f32) (g : FVec Ideal S1x1024 .f32) (w : FVec Ideal S1024x5632 .bf16)
  (d : FVec Ideal S2816x1024 .bf16)

def rOut : FVec Ideal S8192x1024 .f32 :=
  addf h (mulf (broadcastInDim S8192x1024 ![] bcast_S_S8192x1024 (constant S_ .f32 0x3F000000#32))
    (Host.dotGeneral dot_S8192x2816_S2816x1024_S8192x1024_1_0_0_1_n_n none
      (mulf (mulf (rGate h g w) (rSig h g w)) (rUp h g w)) (extf .f32 d bitsLt_bf16_f32)))

theorem out_row (i : Fin 8192) (q : Fin 1024) : rOut h g w d (ix2 i q) = h (ix2 i q) +
    Cert.Ffn.half * ∑ f, gateOf h g w i f * Cert.Ffn.sig (gateOf h g w i f) * upOf h g w i f * d (ix2 f q) := by
  pointwise [rOut]
  simp only [Cert.FfnReferenceIdeal.Rows.gate_row, Cert.FfnReferenceIdeal.Rows.up_row, Cert.FfnReferenceIdeal.Rows.sig_row]

end Reference

/-! ## The two are equal -/

open Cert.ForwardKernelIdeal in
theorem out_at (m : (ℓ : Loc nD τ sig) → Buf (Elt Ideal) ℓ) (c : Dev nD) (i : Fin 8192) (q : Fin 1024) :
    Rows.outOf m c (ix2 i q) = mH m c (ix2 i q) +
      (∑ f, gateOf (mH m c) (mG m c) (mW m c) i f * Cert.Ffn.sig (gateOf (mH m c) (mG m c) (mW m c) i f) *
        upOf (mH m c) (mG m c) (mW m c) i f * mD m c (ix2 f q)) * Cert.Ffn.half := by
  have ht : ∀ f, Rows.term m c i q f = gateOf (mH m c) (mG m c) (mW m c) i f *
      Cert.Ffn.sig (gateOf (mH m c) (mG m c) (mW m c) i f) * upOf (mH m c) (mG m c) (mW m c) i f * mD m c (ix2 f q) := by
    intro f
    unfold Rows.term Rows.vGu Rows.vD
    rw [gu_value, Cert.FfnReferenceIdeal.Rows.gu_row, Cert.FfnReferenceIdeal.Rows.gu_row, Gen.V_main_arg3]
    rfl
  show Rows.vH m c (ix2 i q) + (∑ f, Rows.term m c i q f) * Cert.Ffn.half = _
  rw [Rows.vH, Gen.V_main_arg0]
  simp only [ht]

theorem out_value (m : (ℓ : Loc Cert.ForwardKernelIdeal.nD Cert.ForwardKernelIdeal.τ Cert.ForwardKernelIdeal.sig) → Buf (Elt Ideal) ℓ)
    (c : Dev Cert.ForwardKernelIdeal.nD) :
    rOut (mH m c) (mG m c) (mW m c) (mD m c) = Cert.ForwardKernelIdeal.Rows.outOf m c := by
  funext y
  obtain ⟨i, q, rfl⟩ : ∃ (i : Fin 8192) (q : Fin 1024), y = ix2 i q := ⟨y 0, y 1, eq_ix2 y⟩
  rw [out_row, out_at, mul_comm]

end Cert.Forward
-- ==== Proof.ForwardClaims.lean ====
/-
  The five claims about the call for the layer's down projection.
-/
module

public import proofs.«01_k».proof.Defs
public import proofs.«01_k».proof.Proof.Gen.ForwardKernel.Frame
public import proofs.«01_k».proof.Proof.ForwardEquation
public import Idealize.ShloMosaic.Lib.Quiescent

@[expose] public section

noncomputable section

namespace Cert.Forward

open Idealize.ShloMosaic Idealize.ShloMosaic.TcCoe Idealize.SL.Sem

theorem frame_kernel : Cert.quiescent_ForwardKernel := fun m ρ _ => Cert.ForwardKernel.Gen.frame m ρ

theorem frame_ideal : Cert.quiescent_ForwardKernelIdeal := fun m ρ _ => Cert.ForwardKernelIdeal.Gen.frame m ρ

theorem frame_reference : Cert.quiescent_ForwardReferenceIdeal := fun m ρ _ =>
  (θ_run Cert.ForwardReferenceIdeal.defs _ _).mono (fun r h => ⟨fun c => (h c).2,
      Idealize.ShloMosaic.sem_eq_zero_of_no_sems (by decide) r.2⟩)
    (Cert.ForwardReferenceIdeal.Value.run (F := Ideal) m ρ)

/-- Nothing is rewritten between the kernel and its ideal form. -/
theorem preserves : Cert.preserves_ForwardKernel_ForwardKernelIdeal := trivial

/-- The kernel's array is the reference's. -/
theorem algebraic : Cert.algebraic_ForwardKernelIdeal_ForwardReferenceIdeal := by
  intro m ρ m' ρ' _ hagree
  refine ⟨fun c => Cert.ForwardKernelIdeal.Rows.outOf m c, ?_, ?_⟩
  · refine (θ_run Cert.ForwardKernelIdeal.defs _ _).mono (fun _ h c => ?_)
      (Cert.ForwardKernelIdeal.Value.run_blocks (F := Ideal) m ρ)
    exact ⟨(h c).1.trans (Cert.ForwardKernelIdeal.Rows.out_array m c), (h c).2⟩
  · refine (θ_run Cert.ForwardReferenceIdeal.defs _ _).mono (fun _ h c => ?_)
      (Cert.ForwardReferenceIdeal.Value.run (F := Ideal) m' ρ')
    refine ⟨(h c).1.trans ?_, (h c).2⟩
    have hr : rOut (m' ((c.tc : Thread _ _).loc Cert.ForwardReferenceIdeal.main_arg0))
        (m' ((c.tc : Thread _ _).loc Cert.ForwardReferenceIdeal.main_arg1))
        (m' ((c.tc : Thread _ _).loc Cert.ForwardReferenceIdeal.main_arg2))
        (m' ((c.tc : Thread _ _).loc Cert.ForwardReferenceIdeal.main_arg3)) =
        Cert.ForwardKernelIdeal.Rows.outOf m c := by
      rw [(hagree c).1, (hagree c).2.1, (hagree c).2.2.1, (hagree c).2.2.2]
      exact out_value m c
    exact hr

end Cert.Forward
-- ==== Proof.MixInKernelArrays.lean ====
/-
  What each call of the mixer's input projections, backward, computes and leaves in its arrays, as functions of the
  arrays it reads.
-/
module

public import proofs.«01_k».proof.Proof.FfnKernelArrays
public import proofs.«01_k».proof.Proof.Gen.MixInKernelIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MixInKernelIdeal.Rows

open Idealize.ShloMosaic Idealize.ShloMosaic.TcCoe Idealize.SL.Sem
open Idealize.ShloMosaic.Pipeline (Dat)
open Cert.MixInKernelIdeal Cert.MixInKernelIdeal.Gen Cert.Ffn
open Cert.FfnKernelIdeal.Rows (dxOf dgOf gainTerm row5 rows_next)

/-! ## One block of each call -/

theorem k0_row (a b : Vec Ideal S1024x1536 .bf16) (p q : Fin 1024) :
    k0_pay1 a b (ix2 p q) = ∑ f, a (ix2 p f) * b (ix2 q f) := by
  pointwise [k0_pay1]

theorem k1_row (a b : Vec Ideal S1024x512 .bf16) (r : Vec Ideal S1024x1024 .f32) (p q : Fin 1024) :
    k1_pay1 a b r (ix2 p q) = r (ix2 p q) + ∑ f, a (ix2 p f) * b (ix2 q f) := by
  pointwise [k1_pay1]

theorem k2_row (a b : Vec Ideal S1024x128 .bf16) (r : Vec Ideal S1024x1024 .f32) (p q : Fin 1024) :
    k2_pay1 a b r (ix2 p q) = r (ix2 p q) + ∑ f, a (ix2 p f) * b (ix2 q f) := by
  pointwise [k2_pay1]

theorem k3_row (a b : Vec Ideal S1024x768 .bf16) (r : Vec Ideal S1024x1024 .f32) (p q : Fin 1024) :
    k3_pay1 a b r (ix2 p q) = r (ix2 p q) + ∑ f, a (ix2 p f) * b (ix2 q f) := by
  pointwise [k3_pay1]

theorem k4_row (a b : Vec Ideal S1024x512 .bf16) (r : Vec Ideal S1024x1024 .f32) (p q : Fin 1024) :
    k4_pay1 a b r (ix2 p q) = r (ix2 p q) + ∑ f, a (ix2 p f) * b (ix2 q f) := by
  pointwise [k4_pay1]

theorem dx_row (a : Vec Ideal S512x1024 .f32) (b : Vec Ideal S1x1024 .f32) (dn dh : Vec Ideal S512x1024 .f32)
    (p : Fin 512) (q : Fin 1024) : k5_pay7 a b dn dh (ix2 p q) =
      normBack (fun e => a (ix2 p e)) (fun e => b (ix2 0 e)) (fun e => dn (ix2 p e)) q + dh (ix2 p q) :=
  Cert.FfnKernelIdeal.Rows.dx_row a b dn dh p q

theorem dg_row (a dn : Vec Ideal S512x1024 .f32) (r : Vec Ideal S1x1024 .f32) (q : Fin 1024) :
    k5_pay2 (k5_pay6 a dn) r (ix2 0 q) =
      r (ix2 0 q) + ∑ p, a (ix2 p q) * invRms (fun e => a (ix2 p e)) * dn (ix2 p q) :=
  Cert.FfnKernelIdeal.Rows.dg_row a dn r q

/-! ## The arrays, as functions of arrays -/

/-- The part of the normed residual's cotangent that comes through a projection with weights `w`. -/
def partOf {n : ℕ} (x : Vec Ideal ⟨2, ![8192, n]⟩ .bf16) (w : Vec Ideal ⟨2, ![1024, n]⟩ .bf16) (i : Fin 8192) (q : Fin 1024) :
    EReal := ∑ f : Fin n, x (ix2 i f) * w (ix2 q f)

/-- The first part. -/
def firstOf (x : Vec Ideal S8192x1536 .bf16) (w : Vec Ideal S1024x1536 .bf16) : Vec Ideal S8192x1024 .f32 := fun j =>
  partOf x w (j 0) (j 1)

/-- A further part, added to those before it. -/
def nextOf {n : ℕ} (x : Vec Ideal ⟨2, ![8192, n]⟩ .bf16) (w : Vec Ideal ⟨2, ![1024, n]⟩ .bf16) (dn : Vec Ideal S8192x1024 .f32) :
    Vec Ideal S8192x1024 .f32 := fun j => dn j + partOf x w (j 0) (j 1)

variable (V : (c : Dev nD) → (b : Ref sig .tc) → Buf (Elt Ideal) ((c : Thread nD τ).loc b)) (c : Dev nD)

abbrev vH : Vec Ideal S8192x1024 .f32 := V c main_arg0
abbrev vG : Vec Ideal S1x1024 .f32 := V c main_arg1
abbrev vXq : Vec Ideal S8192x1536 .bf16 := V c main_arg3
abbrev vXz : Vec Ideal S8192x512 .bf16 := V c main_arg4
abbrev vXb : Vec Ideal S8192x128 .bf16 := V c main_arg5
abbrev vXs : Vec Ideal S8192x768 .bf16 := V c main_arg6
abbrev vXg : Vec Ideal S8192x512 .bf16 := V c main_arg7
abbrev vDh : Vec Ideal S8192x1024 .f32 := V c main_arg8
abbrev vWq : Vec Ideal S1024x1536 .bf16 := V c main_v0
abbrev vWz : Vec Ideal S1024x512 .bf16 := V c main_v1
abbrev vWb : Vec Ideal S1024x128 .bf16 := V c main_v3
abbrev vWs : Vec Ideal S1024x768 .bf16 := V c main_v4
abbrev vWg : Vec Ideal S1024x512 .bf16 := V c main_v5
abbrev vDn0 : Vec Ideal S8192x1024 .f32 := V c main_v6
abbrev vDn1 : Vec Ideal S8192x1024 .f32 := V c main_v7
abbrev vDn2 : Vec Ideal S8192x1024 .f32 := V c main_v8
abbrev vDn3 : Vec Ideal S8192x1024 .f32 := V c main_v9
abbrev vDn : Vec Ideal S8192x1024 .f32 := V c main_v10

/-- Row `p` of the block of 1024 rows numbered `t`. -/
def rowOf (t : ℕ) (ht : t < 8) (p : Fin 1024) : Fin 8192 := ⟨t * 1024 + p.val, by omega⟩

/-! ## The five projections -/

theorem idx0 : ∀ t : Fin cfg0.N, win0_0.index t = ![t.val, 0] ∧ win0_1.index t = ![0, 0] ∧ win0_2.index t = ![t.val, 0] :=
  (by decide +kernel : ∀ t : Fin grid0.N, _)

theorem blk0_0 (t : Fin cfg0.N) (p : Fin 1024) (f : Fin 1536) :
    iblk0 V c 0 t (ix2 p f) = vXq V c (ix2 (rowOf t.val t.isLt p) f) := by
  blk_ext [iblk0, idx0 t, rowOf]
theorem blk0_1 (t : Fin cfg0.N) (q : Fin 1024) (f : Fin 1536) : iblk0 V c 1 t (ix2 q f) = vWq V c (ix2 q f) := by
  blk_ext [iblk0, idx0 t]

theorem dn0_array : (dat0 V c).arrAt 2 cfg0.N = firstOf (vXq V c) (vWq V c) := by
  refine (dat0 V c).arrAt_eq_of_covers 2 _ (by decide +kernel) fun t _ y => ?_
  blk_simp
  rw [after0_2]
  frame_out
  obtain ⟨p, q, rfl⟩ : ∃ (p q : Fin 1024), y = ix2 p q := ⟨y 0, y 1, eq_ix2 y⟩
  rw [k0_row]
  simp only [blk0_0, blk0_1]
  refine congrArg (firstOf (vXq V c) (vWq V c)) (a₁ := ix2 (rowOf t.val t.isLt p) q) ?_
  blk_ext [idx0 t, rowOf]

theorem idx1 : ∀ t : Fin cfg1.N,
    win1_0.index t = ![t.val, 0] ∧ win1_1.index t = ![0, 0] ∧ win1_2.index t = ![t.val, 0] ∧ win1_3.index t = ![t.val, 0] :=
  (by decide +kernel : ∀ t : Fin grid1.N, _)

theorem blk1_0 (t : Fin cfg1.N) (p : Fin 1024) (f : Fin 512) :
    iblk1 V c 0 t (ix2 p f) = vXz V c (ix2 (rowOf t.val t.isLt p) f) := by
  blk_ext [iblk1, idx1 t, rowOf]
theorem blk1_1 (t : Fin cfg1.N) (q : Fin 1024) (f : Fin 512) : iblk1 V c 1 t (ix2 q f) = vWz V c (ix2 q f) := by
  blk_ext [iblk1, idx1 t]
theorem blk1_2 (t : Fin cfg1.N) (p q : Fin 1024) :
    iblk1 V c 2 t (ix2 p q) = vDn0 V c (ix2 (rowOf t.val t.isLt p) q) := by
  blk_ext [iblk1, idx1 t, rowOf]

theorem dn1_array : (dat1 V c).arrAt 3 cfg1.N = nextOf (vXz V c) (vWz V c) (vDn0 V c) := by
  refine (dat1 V c).arrAt_eq_of_covers 3 _ (by decide +kernel) fun t _ y => ?_
  blk_simp
  rw [after1_3]
  frame_out
  obtain ⟨p, q, rfl⟩ : ∃ (p q : Fin 1024), y = ix2 p q := ⟨y 0, y 1, eq_ix2 y⟩
  rw [k1_row]
  simp only [blk1_0, blk1_1, blk1_2]
  refine congrArg (nextOf (vXz V c) (vWz V c) (vDn0 V c)) (a₁ := ix2 (rowOf t.val t.isLt p) q) ?_
  blk_ext [idx1 t, rowOf]

theorem idx2 : ∀ t : Fin cfg2.N,
    win2_0.index t = ![t.val, 0] ∧ win2_1.index t = ![0, 0] ∧ win2_2.index t = ![t.val, 0] ∧ win2_3.index t = ![t.val, 0] :=
  (by decide +kernel : ∀ t : Fin grid2.N, _)

theorem blk2_0 (t : Fin cfg2.N) (p : Fin 1024) (f : Fin 128) :
    iblk2 V c 0 t (ix2 p f) = vXb V c (ix2 (rowOf t.val t.isLt p) f) := by
  blk_ext [iblk2, idx2 t, rowOf]
theorem blk2_1 (t : Fin cfg2.N) (q : Fin 1024) (f : Fin 128) : iblk2 V c 1 t (ix2 q f) = vWb V c (ix2 q f) := by
  blk_ext [iblk2, idx2 t]
theorem blk2_2 (t : Fin cfg2.N) (p q : Fin 1024) :
    iblk2 V c 2 t (ix2 p q) = vDn1 V c (ix2 (rowOf t.val t.isLt p) q) := by
  blk_ext [iblk2, idx2 t, rowOf]

theorem dn2_array : (dat2 V c).arrAt 3 cfg2.N = nextOf (vXb V c) (vWb V c) (vDn1 V c) := by
  refine (dat2 V c).arrAt_eq_of_covers 3 _ (by decide +kernel) fun t _ y => ?_
  blk_simp
  rw [after2_3]
  frame_out
  obtain ⟨p, q, rfl⟩ : ∃ (p q : Fin 1024), y = ix2 p q := ⟨y 0, y 1, eq_ix2 y⟩
  rw [k2_row]
  simp only [blk2_0, blk2_1, blk2_2]
  refine congrArg (nextOf (vXb V c) (vWb V c) (vDn1 V c)) (a₁ := ix2 (rowOf t.val t.isLt p) q) ?_
  blk_ext [idx2 t, rowOf]

theorem idx3 : ∀ t : Fin cfg3.N,
    win3_0.index t = ![t.val, 0] ∧ win3_1.index t = ![0, 0] ∧ win3_2.index t = ![t.val, 0] ∧ win3_3.index t = ![t.val, 0] :=
  (by decide +kernel : ∀ t : Fin grid3.N, _)

theorem blk3_0 (t : Fin cfg3.N) (p : Fin 1024) (f : Fin 768) :
    iblk3 V c 0 t (ix2 p f) = vXs V c (ix2 (rowOf t.val t.isLt p) f) := by
  blk_ext [iblk3, idx3 t, rowOf]
theorem blk3_1 (t : Fin cfg3.N) (q : Fin 1024) (f : Fin 768) : iblk3 V c 1 t (ix2 q f) = vWs V c (ix2 q f) := by
  blk_ext [iblk3, idx3 t]
theorem blk3_2 (t : Fin cfg3.N) (p q : Fin 1024) :
    iblk3 V c 2 t (ix2 p q) = vDn2 V c (ix2 (rowOf t.val t.isLt p) q) := by
  blk_ext [iblk3, idx3 t, rowOf]

theorem dn3_array : (dat3 V c).arrAt 3 cfg3.N = nextOf (vXs V c) (vWs V c) (vDn2 V c) := by
  refine (dat3 V c).arrAt_eq_of_covers 3 _ (by decide +kernel) fun t _ y => ?_
  blk_simp
  rw [after3_3]
  frame_out
  obtain ⟨p, q, rfl⟩ : ∃ (p q : Fin 1024), y = ix2 p q := ⟨y 0, y 1, eq_ix2 y⟩
  rw [k3_row]
  simp only [blk3_0, blk3_1, blk3_2]
  refine congrArg (nextOf (vXs V c) (vWs V c) (vDn2 V c)) (a₁ := ix2 (rowOf t.val t.isLt p) q) ?_
  blk_ext [idx3 t, rowOf]

theorem idx4 : ∀ t : Fin cfg4.N,
    win4_0.index t = ![t.val, 0] ∧ win4_1.index t = ![0, 0] ∧ win4_2.index t = ![t.val, 0] ∧ win4_3.index t = ![t.val, 0] :=
  (by decide +kernel : ∀ t : Fin grid4.N, _)

theorem blk4_0 (t : Fin cfg4.N) (p : Fin 1024) (f : Fin 512) :
    iblk4 V c 0 t (ix2 p f) = vXg V c (ix2 (rowOf t.val t.isLt p) f) := by
  blk_ext [iblk4, idx4 t, rowOf]
theorem blk4_1 (t : Fin cfg4.N) (q : Fin 1024) (f : Fin 512) : iblk4 V c 1 t (ix2 q f) = vWg V c (ix2 q f) := by
  blk_ext [iblk4, idx4 t]
theorem blk4_2 (t : Fin cfg4.N) (p q : Fin 1024) :
    iblk4 V c 2 t (ix2 p q) = vDn3 V c (ix2 (rowOf t.val t.isLt p) q) := by
  blk_ext [iblk4, idx4 t, rowOf]

theorem dn_array : (dat4 V c).arrAt 3 cfg4.N = nextOf (vXg V c) (vWg V c) (vDn3 V c) := by
  refine (dat4 V c).arrAt_eq_of_covers 3 _ (by decide +kernel) fun t _ y => ?_
  blk_simp
  rw [after4_3]
  frame_out
  obtain ⟨p, q, rfl⟩ : ∃ (p q : Fin 1024), y = ix2 p q := ⟨y 0, y 1, eq_ix2 y⟩
  rw [k4_row]
  simp only [blk4_0, blk4_1, blk4_2]
  refine congrArg (nextOf (vXg V c) (vWg V c) (vDn3 V c)) (a₁ := ix2 (rowOf t.val t.isLt p) q) ?_
  blk_ext [idx4 t, rowOf]

/-! ## The norm -/

theorem idx5 : ∀ t : Fin cfg5.N,
    win5_0.index t = ![t.val, 0] ∧ win5_1.index t = ![0, 0] ∧ win5_2.index t = ![t.val, 0] ∧
    win5_3.index t = ![t.val, 0] ∧ win5_4.index t = ![t.val, 0] ∧ win5_5.index t = ![0, 0] :=
  (by decide +kernel : ∀ t : Fin grid5.N, _)

theorem blk5_0 (t : Fin cfg5.N) (p : Fin 512) (e : Fin 1024) : iblk5 V c 0 t (ix2 p e) = vH V c (ix2 (row5 t.val t.isLt p) e) := by
  blk_ext [iblk5, idx5 t, row5]
theorem blk5_1 (t : Fin cfg5.N) (e : Fin 1024) : iblk5 V c 1 t (ix2 0 e) = vG V c (ix2 0 e) := by
  blk_ext [iblk5, idx5 t]
theorem blk5_2 (t : Fin cfg5.N) (p : Fin 512) (e : Fin 1024) : iblk5 V c 2 t (ix2 p e) = vDn V c (ix2 (row5 t.val t.isLt p) e) := by
  blk_ext [iblk5, idx5 t, row5]
theorem blk5_3 (t : Fin cfg5.N) (p : Fin 512) (e : Fin 1024) : iblk5 V c 3 t (ix2 p e) = vDh V c (ix2 (row5 t.val t.isLt p) e) := by
  blk_ext [iblk5, idx5 t, row5]

theorem dx_point (t : Fin cfg5.N) : (outsAt5 V c t.val t.isLt).1 =
    k5_pay7 (iblk5 V c 0 t) (iblk5 V c 1 t) (iblk5 V c 2 t) (iblk5 V c 3 t) := by
  by_cases h : t.val % 16 = 0
  · rw [outsAt5_A V c t h]
    frame_out
  · rw [outsAt5_B V c t h]
    frame_out

theorem dx_array : (dat5 V c).arrAt 4 cfg5.N = dxOf (vH V c) (vG V c) (vDn V c) (vDh V c) := by
  refine (dat5 V c).arrAt_eq_of_covers 4 _ (by decide +kernel) fun t _ y => ?_
  blk_simp
  rw [after5_4, dx_point]
  obtain ⟨p, q, rfl⟩ : ∃ (p : Fin 512) (q : Fin 1024), y = ix2 p q := ⟨y 0, y 1, eq_ix2 y⟩
  rw [dx_row]
  simp only [blk5_0, blk5_1, blk5_2, blk5_3]
  refine congrArg (dxOf (vH V c) (vG V c) (vDn V c) (vDh V c)) (a₁ := ix2 (row5 t.val t.isLt p) q) ?_
  blk_ext [idx5 t, row5]

/-- After a point, the gain's gradient holds the sum of the rows so far. -/
theorem gain_point (n : ℕ) (hn : n < cfg5.N) (q : Fin 1024) :
    (outsAt5 V c n hn).2 (ix2 0 q) = firstSum (gainTerm (vH V c) (vDn V c) q) ((n + 1) * 512) := by
  induction n with
  | zero =>
    rw [outsAt5_A V c ⟨0, hn⟩ rfl]
    frame_out
    rw [dg_row, rows_next _ 0 (by omega)]
    refine congrArg₂ (· + ·) ?_ ?_
    · pointwise [k5_pay1]
      simp [firstSum_zero]
    · simp only [blk5_0, blk5_2]
      rfl
  | succ n ih =>
    rw [outsAt5_B V c ⟨n + 1, hn⟩ (by have h : n + 1 < 16 := hn; dsimp only; omega)]
    frame_out
    rw [dg_row, rows_next _ (n + 1) hn]
    refine congrArg₂ (· + ·) ?_ ?_
    · exact ih _
    · simp only [blk5_0, blk5_2]
      rfl

theorem last5 : ∀ t : Fin cfg5.N, (cfg5.win 5).flush t = true → t.val = 15 :=
  (by decide +kernel : ∀ t : Fin grid5.N, _)

theorem gain_array : (dat5 V c).arrAt 5 cfg5.N = dgOf (vH V c) (vDn V c) := by
  refine (dat5 V c).arrAt_eq_of_covers 5 _ (by decide +kernel) fun t ht y => ?_
  have h15 := last5 t ht
  blk_simp
  rw [after5_5]
  obtain ⟨p, q, rfl⟩ : ∃ (p : Fin 1) (q : Fin 1024), y = ix2 p q := ⟨y 0, y 1, eq_ix2 y⟩
  obtain rfl : p = 0 := Subsingleton.elim _ _
  rw [gain_point, firstSum_all _ (by omega)]
  change dgOf (vH V c) (vDn V c) (ix2 0 q) = _
  refine congrArg (dgOf (vH V c) (vDn V c)) ?_
  blk_ext [idx5 t]

end Cert.MixInKernelIdeal.Rows
-- ==== Proof.MixInKernelRun.lean ====
/-
  The launch of the mixer's input projections, backward: what its two results hold at the end, as functions of the nine
  arguments.
-/
module

public import proofs.«01_k».proof.Proof.MixInKernelArrays

@[expose] public section

set_option maxRecDepth 16384

noncomputable section

namespace Cert.MixInKernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixInKernelIdeal Cert.MixInKernelIdeal.Gen Cert.Ffn
open Cert.FfnKernelIdeal.Rows (dxOf dgOf)

variable (m : (ℓ : Loc nD τ sig) → Buf (Elt Ideal) ℓ) (ρ : Dev nD → PrngReg) (c : Dev nD)

/-! ## The arguments, and the arrays between the calls -/

abbrev mH : Vec Ideal S8192x1024 .f32 := m ((c.tc : Thread nD τ).loc main_arg0)
abbrev mG : Vec Ideal S1x1024 .f32 := m ((c.tc : Thread nD τ).loc main_arg1)
abbrev mW : Vec Ideal S1024x3336 .bf16 := m ((c.tc : Thread nD τ).loc main_arg2)
abbrev mXq : Vec Ideal S8192x1536 .bf16 := m ((c.tc : Thread nD τ).loc main_arg3)
abbrev mXz : Vec Ideal S8192x512 .bf16 := m ((c.tc : Thread nD τ).loc main_arg4)
abbrev mXb : Vec Ideal S8192x128 .bf16 := m ((c.tc : Thread nD τ).loc main_arg5)
abbrev mXs : Vec Ideal S8192x768 .bf16 := m ((c.tc : Thread nD τ).loc main_arg6)
abbrev mXg : Vec Ideal S8192x512 .bf16 := m ((c.tc : Thread nD τ).loc main_arg7)
abbrev mDh : Vec Ideal S8192x1024 .f32 := m ((c.tc : Thread nD τ).loc main_arg8)

section Weights

variable (w : Vec Ideal S1024x3336 .bf16)

/-! The columns of the weights each projection has; the third's eight stand in 128 lanes, the rest of them zero. -/

def wq : Vec Ideal S1024x1536 .bf16 := extractStridedSlice S1024x1536 ![0, 0] w slices_S1024x3336_S1024x1536_0_0
def wz : Vec Ideal S1024x512 .bf16 := extractStridedSlice S1024x512 ![0, 1536] w slices_S1024x3336_S1024x512_0_1536
def wb : Vec Ideal S1024x128 .bf16 :=
  pad S1024x128 ![0, 0] ![0, 120] ![0, 0] (extractStridedSlice S1024x8 ![0, 2048] w slices_S1024x3336_S1024x8_0_2048)
    (sitofp .bf16 (constantI S_ 32 0#32) : FVec Ideal S_ .bf16) pads_S1024x8_S1024x128_000_01200 h_S_
def ws : Vec Ideal S1024x768 .bf16 := extractStridedSlice S1024x768 ![0, 2056] w slices_S1024x3336_S1024x768_0_2056
def wg : Vec Ideal S1024x512 .bf16 := extractStridedSlice S1024x512 ![0, 2824] w slices_S1024x3336_S1024x512_0_2824

theorem wq_row (q : Fin 1024) (f : Fin 1536) : wq w (ix2 q f) = w (ix2 q ⟨f.val, by omega⟩) := by
  pointwise [wq]
theorem wz_row (q : Fin 1024) (f : Fin 512) : wz w (ix2 q f) = w (ix2 q ⟨1536 + f.val, by omega⟩) := by
  pointwise [wz]
theorem ws_row (q : Fin 1024) (f : Fin 768) : ws w (ix2 q f) = w (ix2 q ⟨2056 + f.val, by omega⟩) := by
  pointwise [ws]
theorem wg_row (q : Fin 1024) (f : Fin 512) : wg w (ix2 q f) = w (ix2 q ⟨2824 + f.val, by omega⟩) := by
  pointwise [wg]

theorem wb_row (q : Fin 1024) (f : Fin 8) : wb w (ix2 q ⟨f.val, by omega⟩) = w (ix2 q ⟨2048 + f.val, by omega⟩) := by
  pointwise [wb]

theorem wb_rest (q : Fin 1024) (f : Fin 120) : wb w (ix2 q ⟨8 + f.val, by omega⟩) = 0 := by
  pointwise [wb]
  exact show (((0#32 : BitVec 32).toInt : ℝ) : EReal) = 0 by simp

end Weights

def mDn0 : Vec Ideal S8192x1024 .f32 := firstOf (mXq m c) (wq (mW m c))
def mDn1 : Vec Ideal S8192x1024 .f32 := nextOf (mXz m c) (wz (mW m c)) (mDn0 m c)
def mDn2 : Vec Ideal S8192x1024 .f32 := nextOf (mXb m c) (wb (mW m c)) (mDn1 m c)
def mDn3 : Vec Ideal S8192x1024 .f32 := nextOf (mXs m c) (ws (mW m c)) (mDn2 m c)
/-- The normed residual's cotangent. -/
def mDn : Vec Ideal S8192x1024 .f32 := nextOf (mXg m c) (wg (mW m c)) (mDn3 m c)
/-- The residual's gradient. -/
def mDx : Vec Ideal S8192x1024 .f32 := dxOf (mH m c) (mG m c) (mDn m c) (mDh m c)
/-- The gain's gradient. -/
def mDgain : Vec Ideal S1x1024 .f32 := dgOf (mH m c) (mDn m c)

/-! ## The weights at the first call -/

theorem at3_wq : V3 m ρ c main_v0 = wq (mW m c) := by
  refine (W3_of m ρ c main_v0 (by decide)).trans ((W2_of m ρ c main_v0 (by decide)).trans ?_)
  simp only [W1, hostOps0]
  after_results_simp <;> rfl

theorem at3_wz : V3 m ρ c main_v1 = wz (mW m c) := by
  refine (W3_of m ρ c main_v1 (by decide)).trans ((W2_of m ρ c main_v1 (by decide)).trans ?_)
  simp only [W1, hostOps0]
  after_results_simp <;> rfl

theorem at3_wb : V3 m ρ c main_v3 = wb (mW m c) := by
  refine (W3_of m ρ c main_v3 (by decide)).trans ?_
  simp only [W2, W1, hostOps0, hostOps0_1, StableHlo.TRef.binary, StableHlo.TRef.unary, StableHlo.TRef.toBuf,
    StableHlo.TRef.ofBuf, cast_eq]
  after_results_simp <;> rfl

theorem at2_arg2 : W2 m ρ c (Proc.devRef .tc main_arg2) = mW m c := W2_args m ρ c main_arg2 (by decide)

theorem at3_ws : V3 m ρ c main_v4 = ws (mW m c) := by
  rw [← at2_arg2 m ρ c]
  simp only [V3, W3, hostOps0_2]
  after_results_simp <;> rfl

theorem at3_wg : V3 m ρ c main_v5 = wg (mW m c) := by
  rw [← at2_arg2 m ρ c]
  simp only [V3, W3, hostOps0_2]
  after_results_simp <;> rfl

/-! ## The calls in turn -/

theorem at4_dn : V4 m ρ c main_v6 = mDn0 m c := by
  refine (W4_arr m ρ c 2).trans ((dn0_array (V3 m ρ) c).trans ?_)
  rw [vXq, show V3 m ρ c main_arg3 = mXq m c from W3_args m ρ c main_arg3 (by decide), vWq, at3_wq]
  rfl

theorem at4_wz : V4 m ρ c main_v1 = wz (mW m c) := (W4_of m ρ c main_v1 (by decide)).trans (at3_wz m ρ c)

theorem at5_dn : V5 m ρ c main_v7 = mDn1 m c := by
  refine (W5_arr m ρ c 3).trans ((dn1_array (V4 m ρ) c).trans ?_)
  rw [vXz, show V4 m ρ c main_arg4 = mXz m c from W4_args m ρ c main_arg4 (by decide), vWz, at4_wz, vDn0, at4_dn]
  rfl

theorem at5_wb : V5 m ρ c main_v3 = wb (mW m c) :=
  (W5_of m ρ c main_v3 (by decide)).trans ((W4_of m ρ c main_v3 (by decide)).trans (at3_wb m ρ c))

theorem at6_dn : V6 m ρ c main_v8 = mDn2 m c := by
  refine (W6_arr m ρ c 3).trans ((dn2_array (V5 m ρ) c).trans ?_)
  rw [vXb, show V5 m ρ c main_arg5 = mXb m c from W5_args m ρ c main_arg5 (by decide), vWb, at5_wb, vDn1, at5_dn]
  rfl

theorem at6_ws : V6 m ρ c main_v4 = ws (mW m c) :=
  (W6_of m ρ c main_v4 (by decide)).trans ((W5_of m ρ c main_v4 (by decide)).trans
    ((W4_of m ρ c main_v4 (by decide)).trans (at3_ws m ρ c)))

theorem at7_dn : V7 m ρ c main_v9 = mDn3 m c := by
  refine (W7_arr m ρ c 3).trans ((dn3_array (V6 m ρ) c).trans ?_)
  rw [vXs, show V6 m ρ c main_arg6 = mXs m c from W6_args m ρ c main_arg6 (by decide), vWs, at6_ws, vDn2, at6_dn]
  rfl

theorem at7_wg : V7 m ρ c main_v5 = wg (mW m c) :=
  (W7_of m ρ c main_v5 (by decide)).trans ((W6_of m ρ c main_v5 (by decide)).trans ((W5_of m ρ c main_v5 (by decide)).trans
    ((W4_of m ρ c main_v5 (by decide)).trans (at3_wg m ρ c))))

theorem at8_dn : V8 m ρ c main_v10 = mDn m c := by
  refine (W8_arr m ρ c 3).trans ((dn_array (V7 m ρ) c).trans ?_)
  rw [vXg, show V7 m ρ c main_arg7 = mXg m c from W7_args m ρ c main_arg7 (by decide), vWg, at7_wg, vDn3, at7_dn]
  rfl

theorem at9_dx : W9 m ρ c (Proc.devRef .tc main_v11_0) = mDx m c := by
  refine (W9_arr m ρ c 4).trans ((dx_array (V8 m ρ) c).trans ?_)
  rw [vDn, at8_dn, vH, show V8 m ρ c main_arg0 = mH m c from W8_args m ρ c main_arg0 (by decide),
    vG, show V8 m ρ c main_arg1 = mG m c from W8_args m ρ c main_arg1 (by decide),
    vDh, show V8 m ρ c main_arg8 = mDh m c from W8_args m ρ c main_arg8 (by decide)]
  rfl

theorem at9_dgain : W9 m ρ c (Proc.devRef .tc main_v11_1) = mDgain m c := by
  refine (W9_arr m ρ c 5).trans ((gain_array (V8 m ρ) c).trans ?_)
  rw [vDn, at8_dn, vH, show V8 m ρ c main_arg0 = mH m c from W8_args m ρ c main_arg0 (by decide)]
  rfl

/-! ## The launch -/

set_option backward.isDefEq.respectTransparency.types false in
/-- Every run ends with the two gradients in the result arrays and the arguments as they were. -/
theorem run : θ_run defs (onTc (τ := τ) (main (F := Ideal))) ⟨m, fun _ => 0, ρ⟩ (fun r => ∀ c : Dev nD,
      r.2.mem ((c.tc : Thread nD τ).loc main_v11_0) = mDx m c
      ∧ r.2.mem ((c.tc : Thread nD τ).loc main_v11_1) = mDgain m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨(h c _ (mem_uc main_v11_0 (by decide))).trans (at9_dx m ρ c),
       (h c _ (mem_uc main_v11_1 (by decide))).trans (at9_dgain m ρ c),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.MixInKernelIdeal.Rows
-- ==== Proof.MixInReference.lean ====
/-
  The reference's gradients through the mixer's input projections: the product with the weights read as a sum over the five
  projections, and the norm as in `FfnReference.lean`.
-/
module

public import proofs.«01_k».proof.Proof.FfnReference
public import proofs.«01_k».proof.Proof.Gen.MixInReferenceIdeal.Run
public import Idealize.ShloMosaic.Lib.Pointwise

@[expose] public section

set_option maxRecDepth 16384

noncomputable section

namespace Cert.MixInReferenceIdeal.Rows

open Idealize.ShloMosaic Idealize.ShloMosaic.TcCoe Idealize.SL.Sem
open Cert.MixInReferenceIdeal Cert.MixInReferenceIdeal.Gen Cert.MixInReferenceIdeal.Value
open Cert.FfnReferenceIdeal.Rows (rDx rDg)

section Values

variable (w : FVec Ideal S1024x3336 .bf16) (xq : FVec Ideal S8192x1536 .bf16) (xz : FVec Ideal S8192x512 .bf16)
  (xb : FVec Ideal S8192x128 .bf16) (xs : FVec Ideal S8192x768 .bf16) (xg : FVec Ideal S8192x512 .bf16)

/-- The five projections' cotangents, beside one another. -/
def rCat : FVec Ideal S8192x3336 .f32 :=
  concatenate S8192x3336 1 [⟨S8192x1536, extf .f32 xq bitsLt_bf16_f32⟩, ⟨S8192x512, extf .f32 xz bitsLt_bf16_f32⟩,
    ⟨S8192x8, extf .f32 (extractStridedSlice S8192x8 ![0, 0] xb slices_S8192x128_S8192x8_0_0) bitsLt_bf16_f32⟩,
    ⟨S8192x768, extf .f32 xs bitsLt_bf16_f32⟩, ⟨S8192x512, extf .f32 xg bitsLt_bf16_f32⟩]
    concatenates_S8192x1536_S8192x512_S8192x8_S8192x768_S8192x512_S8192x3336_d1

/-- The normed residual's cotangent. -/
def rDn : FVec Ideal S8192x1024 .f32 :=
  Host.dotGeneral dot_S8192x3336_S1024x3336_S8192x1024_1_1_0_0_n_n none (rCat xq xz xb xs xg) (extf .f32 w bitsLt_bf16_f32)

theorem cat_q (i : Fin 8192) (f : Fin 1536) : rCat xq xz xb xs xg (ix2 i ⟨f.val, by omega⟩) = xq (ix2 i f) := by
  pointwise [rCat]

theorem cat_z (i : Fin 8192) (f : Fin 512) : rCat xq xz xb xs xg (ix2 i ⟨1536 + f.val, by omega⟩) = xz (ix2 i f) := by
  pointwise [rCat]

theorem cat_b (i : Fin 8192) (f : Fin 8) :
    rCat xq xz xb xs xg (ix2 i ⟨2048 + f.val, by omega⟩) = xb (ix2 i ⟨f.val, by omega⟩) := by
  pointwise [rCat]
  rw [dif_neg (by omega), dif_neg (by omega), dif_pos (by omega)]
  exact congrArg (fun k => xb (ix2 i k)) (Fin.ext (by dsimp only; omega))

theorem cat_s (i : Fin 8192) (f : Fin 768) : rCat xq xz xb xs xg (ix2 i ⟨2056 + f.val, by omega⟩) = xs (ix2 i f) := by
  pointwise [rCat]
  rw [dif_neg (by omega), dif_neg (by omega), dif_neg (by omega), dif_pos (by omega)]
  exact congrArg (fun k => xs (ix2 i k)) (Fin.ext (by dsimp only; omega))

theorem cat_g (i : Fin 8192) (f : Fin 512) : rCat xq xz xb xs xg (ix2 i ⟨2824 + f.val, by omega⟩) = xg (ix2 i f) := by
  pointwise [rCat]
  rw [dif_neg (by omega), dif_neg (by omega), dif_neg (by omega), dif_neg (by omega)]
  exact congrArg (fun k => xg (ix2 i k)) (Fin.ext (by dsimp only; omega))

/-- A sum over `a + b` indices is the sum over the first `a` and the sum over the last `b`. -/
theorem sum_two {n : ℕ} (a b : ℕ) (h : n = a + b) (f : Fin n → EReal) :
    ∑ k, f k = (∑ k : Fin a, f ⟨k.val, by omega⟩) + ∑ k : Fin b, f ⟨a + k.val, by omega⟩ := by
  subst h
  exact Fin.sum_univ_add f

theorem dot_row (i : Fin 8192) (q : Fin 1024) : rDn w xq xz xb xs xg (ix2 i q) =
    ∑ k : Fin 3336, rCat xq xz xb xs xg (ix2 i k) * w (ix2 q k) := by
  pointwise [rDn]

theorem dn_row (i : Fin 8192) (q : Fin 1024) : rDn w xq xz xb xs xg (ix2 i q) =
    (∑ f : Fin 1536, xq (ix2 i f) * w (ix2 q ⟨f.val, by omega⟩)) +
      (∑ f : Fin 512, xz (ix2 i f) * w (ix2 q ⟨1536 + f.val, by omega⟩)) +
      (∑ f : Fin 8, xb (ix2 i ⟨f.val, by omega⟩) * w (ix2 q ⟨2048 + f.val, by omega⟩)) +
      (∑ f : Fin 768, xs (ix2 i f) * w (ix2 q ⟨2056 + f.val, by omega⟩)) +
      ∑ f : Fin 512, xg (ix2 i f) * w (ix2 q ⟨2824 + f.val, by omega⟩) := by
  rw [dot_row, sum_two 2824 512 rfl, sum_two 2056 768 rfl, sum_two 2048 8 rfl, sum_two 1536 512 rfl]
  simp only [cat_q, cat_z, cat_b, cat_s, cat_g]

end Values

/-! ## The two results -/

variable (m : (ℓ : Loc nD τ sig) → Buf (Elt Ideal) ℓ) (c : Dev nD)

abbrev mH : FVec Ideal S8192x1024 .f32 := m ((c.tc : Thread nD τ).loc main_arg0)
abbrev mG : FVec Ideal S1x1024 .f32 := m ((c.tc : Thread nD τ).loc main_arg1)
abbrev mW : FVec Ideal S1024x3336 .bf16 := m ((c.tc : Thread nD τ).loc main_arg2)
abbrev mXq : FVec Ideal S8192x1536 .bf16 := m ((c.tc : Thread nD τ).loc main_arg3)
abbrev mXz : FVec Ideal S8192x512 .bf16 := m ((c.tc : Thread nD τ).loc main_arg4)
abbrev mXb : FVec Ideal S8192x128 .bf16 := m ((c.tc : Thread nD τ).loc main_arg5)
abbrev mXs : FVec Ideal S8192x768 .bf16 := m ((c.tc : Thread nD τ).loc main_arg6)
abbrev mXg : FVec Ideal S8192x512 .bf16 := m ((c.tc : Thread nD τ).loc main_arg7)
abbrev mDh : FVec Ideal S8192x1024 .f32 := m ((c.tc : Thread nD τ).loc main_arg8)

abbrev mDn : FVec Ideal S8192x1024 .f32 := rDn (mW m c) (mXq m c) (mXz m c) (mXb m c) (mXs m c) (mXg m c)

/-- Every run ends with the two gradients in the result arrays and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v47) = rDx (mH m c) (mG m c) (mDh m c) (mDn m c)
      ∧ r.2.mem ((c.tc : Thread nD τ).loc main_v48) = rDg (mH m c) (mDn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans rfl, (h c).2.1.trans rfl, (h c).2.2⟩) (Value.run (F := Ideal) m ρ)

end Cert.MixInReferenceIdeal.Rows
-- ==== Proof.MixInEquation.lean ====
/-
  The two results of the mixer's input projections, backward, are the reference's two gradients, from equal arguments.
-/
module

public import proofs.«01_k».proof.Proof.MixInKernelRun
public import proofs.«01_k».proof.Proof.MixInReference

@[expose] public section

set_option maxRecDepth 16384

noncomputable section

namespace Cert.MixIn

open Idealize.ShloMosaic Idealize.ShloMosaic.TcCoe Idealize.SL.Sem
open Cert.FfnReferenceIdeal.Rows (rDx rDg)
open Cert.MixInReferenceIdeal.Rows (rDn sum_two)
open Cert.MixInKernelIdeal.Rows

variable (m : (ℓ : Loc Cert.MixInKernelIdeal.nD Cert.MixInKernelIdeal.τ Cert.MixInKernelIdeal.sig) → Buf (Elt Ideal) ℓ)
  (c : Dev Cert.MixInKernelIdeal.nD)

/-! ## The five parts -/

theorem part_q (x : Vec Ideal Cert.MixInKernelIdeal.S8192x1536 .bf16) (w : Vec Ideal Cert.MixInKernelIdeal.S1024x3336 .bf16)
    (i : Fin 8192) (q : Fin 1024) : partOf x (wq w) i q = ∑ f : Fin 1536, x (ix2 i f) * w (ix2 q ⟨f.val, by omega⟩) := by
  simp only [partOf, wq_row]

theorem part_z (x : Vec Ideal Cert.MixInKernelIdeal.S8192x512 .bf16) (w : Vec Ideal Cert.MixInKernelIdeal.S1024x3336 .bf16)
    (i : Fin 8192) (q : Fin 1024) :
    partOf x (wz w) i q = ∑ f : Fin 512, x (ix2 i f) * w (ix2 q ⟨1536 + f.val, by omega⟩) := by
  simp only [partOf, wz_row]

/-- The lanes beyond the eighth have zero weights, and add nothing. -/
theorem part_b (x : Vec Ideal Cert.MixInKernelIdeal.S8192x128 .bf16) (w : Vec Ideal Cert.MixInKernelIdeal.S1024x3336 .bf16)
    (i : Fin 8192) (q : Fin 1024) : partOf x (wb w) i q =
      ∑ f : Fin 8, x (ix2 i ⟨f.val, by omega⟩) * w (ix2 q ⟨2048 + f.val, by omega⟩) := by
  unfold partOf
  rw [sum_two 8 120 rfl]
  simp only [wb_row, wb_rest, mul_zero, Finset.sum_const_zero, add_zero]

theorem part_s (x : Vec Ideal Cert.MixInKernelIdeal.S8192x768 .bf16) (w : Vec Ideal Cert.MixInKernelIdeal.S1024x3336 .bf16)
    (i : Fin 8192) (q : Fin 1024) :
    partOf x (ws w) i q = ∑ f : Fin 768, x (ix2 i f) * w (ix2 q ⟨2056 + f.val, by omega⟩) := by
  simp only [partOf, ws_row]

theorem part_g (x : Vec Ideal Cert.MixInKernelIdeal.S8192x512 .bf16) (w : Vec Ideal Cert.MixInKernelIdeal.S1024x3336 .bf16)
    (i : Fin 8192) (q : Fin 1024) :
    partOf x (wg w) i q = ∑ f : Fin 512, x (ix2 i f) * w (ix2 q ⟨2824 + f.val, by omega⟩) := by
  simp only [partOf, wg_row]

theorem dn_parts (i : Fin 8192) (q : Fin 1024) : mDn m c (ix2 i q) =
    partOf (mXq m c) (wq (mW m c)) i q + partOf (mXz m c) (wz (mW m c)) i q + partOf (mXb m c) (wb (mW m c)) i q +
      partOf (mXs m c) (ws (mW m c)) i q + partOf (mXg m c) (wg (mW m c)) i q := rfl

theorem dn_eq (i : Fin 8192) (q : Fin 1024) :
    rDn (mW m c) (mXq m c) (mXz m c) (mXb m c) (mXs m c) (mXg m c) (ix2 i q) = mDn m c (ix2 i q) := by
  rw [Cert.MixInReferenceIdeal.Rows.dn_row, dn_parts, part_q, part_z, part_b, part_s, part_g]

/-! ## The two results -/

theorem dx_result : rDx (mH m c) (mG m c) (mDh m c) (rDn (mW m c) (mXq m c) (mXz m c) (mXb m c) (mXs m c) (mXg m c)) =
    mDx m c := by
  funext y
  obtain ⟨i, q, rfl⟩ : ∃ (i : Fin 8192) (q : Fin 1024), y = ix2 i q := ⟨y 0, y 1, eq_ix2 y⟩
  rw [Cert.FfnReferenceIdeal.Rows.dx_row]
  simp only [dn_eq]
  rfl

theorem dgain_result : rDg (mH m c) (rDn (mW m c) (mXq m c) (mXz m c) (mXb m c) (mXs m c) (mXg m c)) = mDgain m c := by
  funext y
  obtain ⟨p, q, rfl⟩ : ∃ (p : Fin 1) (q : Fin 1024), y = ix2 p q := ⟨y 0, y 1, eq_ix2 y⟩
  obtain rfl : p = 0 := Subsingleton.elim _ _
  rw [Cert.FfnReferenceIdeal.Rows.dg_row]
  simp only [dn_eq]
  rfl

end Cert.MixIn
-- ==== Proof.MixInClaims.lean ====
/-
  The five claims about the backward pass of the mixer's input projections and the norm before them.
-/
module

public import proofs.«01_k».proof.Defs
public import proofs.«01_k».proof.Proof.Gen.MixInKernel.Frame
public import proofs.«01_k».proof.Proof.MixInEquation
public import Idealize.ShloMosaic.Lib.Quiescent

@[expose] public section

noncomputable section

namespace Cert.MixIn

open Idealize.ShloMosaic Idealize.ShloMosaic.TcCoe Idealize.SL.Sem
open Cert.MixInReferenceIdeal.Rows (mH mG mW mXq mXz mXb mXs mXg mDh mDn)

theorem frame_kernel : Cert.quiescent_MixInKernel := fun m ρ _ => Cert.MixInKernel.Gen.frame m ρ

theorem frame_ideal : Cert.quiescent_MixInKernelIdeal := fun m ρ _ => Cert.MixInKernelIdeal.Gen.frame m ρ

theorem frame_reference : Cert.quiescent_MixInReferenceIdeal := fun m ρ _ =>
  (θ_run Cert.MixInReferenceIdeal.defs _ _).mono (fun r h => ⟨fun c => (h c).2.2,
      Idealize.ShloMosaic.sem_eq_zero_of_no_sems (by decide) r.2⟩)
    (Cert.MixInReferenceIdeal.Value.run (F := Ideal) m ρ)

/-- Nothing is rewritten between the kernel and its ideal form. -/
theorem preserves : Cert.preserves_MixInKernel_MixInKernelIdeal := trivial

/-- The kernel's two arrays are the reference's two gradients. -/
theorem algebraic : Cert.algebraic_MixInKernelIdeal_MixInReferenceIdeal := by
  intro m ρ m' ρ' _ hagree
  refine ⟨_, _, Cert.MixInKernelIdeal.Rows.run m ρ, ?_⟩
  refine (θ_run Cert.MixInReferenceIdeal.defs _ _).mono (fun _ h c => ?_) (Cert.MixInReferenceIdeal.Rows.run m' ρ')
  obtain ⟨a0, a1, a2, a3, a4, a5, a6, a7, a8⟩ := hagree c
  refine ⟨(h c).1.trans ?_, (h c).2.1.trans ?_, (h c).2.2⟩
  · dsimp only [mH, mG, mDh, mDn, mW, mXq, mXz, mXb, mXs, mXg]
    rw [a0, a1, a2, a3, a4, a5, a6, a7, a8]
    exact dx_result m c
  · dsimp only [mH, mDn, mW, mXq, mXz, mXb, mXs, mXg]
    rw [a0, a2, a3, a4, a5, a6, a7]
    exact dgain_result m c

end Cert.MixIn
-- ==== Proof.lean ====
/-
  The certificate: the claims of the test file, from the modules that prove them.
-/
module

public import proofs.«01_k».proof.Defs
public import proofs.«01_k».proof.Proof.SwaClaims
public import proofs.«01_k».proof.Proof.FfnClaims
public import proofs.«01_k».proof.Proof.DownClaims
public import proofs.«01_k».proof.Proof.GateClaims
public import proofs.«01_k».proof.Proof.UpClaims
public import proofs.«01_k».proof.Proof.XattnClaims
public import proofs.«01_k».proof.Proof.GmlpClaims
public import proofs.«01_k».proof.Proof.ForwardClaims
public import proofs.«01_k».proof.Proof.MixInClaims

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.FfnKernel.Gen.facts, Cert.FfnKernelIdeal.Gen.facts, Cert.FfnReferenceIdeal.Gen.facts,
  Cert.DownKernel.Gen.facts, Cert.DownKernelIdeal.Gen.facts, Cert.DownReferenceIdeal.Gen.facts,
  Cert.GateKernel.Gen.facts, Cert.GateKernelIdeal.Gen.facts, Cert.GateReferenceIdeal.Gen.facts,
  Cert.UpKernel.Gen.facts, Cert.UpKernelIdeal.Gen.facts, Cert.UpReferenceIdeal.Gen.facts,
  Cert.XattnKernel.Gen.facts, Cert.XattnKernelIdeal.Gen.facts, Cert.XattnReferenceIdeal.Gen.facts,
  Cert.GmlpKernel.Gen.facts, Cert.GmlpKernelIdeal.Gen.facts, Cert.GmlpReferenceIdeal.Gen.facts,
  Cert.ForwardKernel.Gen.facts, Cert.ForwardKernelIdeal.Gen.facts, Cert.ForwardReferenceIdeal.Gen.facts,
  Cert.MixInKernel.Gen.facts, Cert.MixInKernelIdeal.Gen.facts, Cert.MixInReferenceIdeal.Gen.facts, Cert.Gate.halfFacts,
  Cert.Swa.frame_kernel, Cert.Swa.frame_ideal, Cert.Swa.frame_reference,
  Cert.Ffn.frame_kernel, Cert.Ffn.frame_ideal, Cert.Ffn.frame_reference,
  Cert.Down.frame_kernel, Cert.Down.frame_ideal, Cert.Down.frame_reference,
  Cert.Gate.frame_kernel, Cert.Gate.frame_ideal, Cert.Gate.frame_reference,
  Cert.Up.frame_kernel, Cert.Up.frame_ideal, Cert.Up.frame_reference,
  Cert.Xattn.frame_kernel, Cert.Xattn.frame_ideal, Cert.Xattn.frame_reference,
  Cert.Gmlp.frame_kernel, Cert.Gmlp.frame_ideal, Cert.Gmlp.frame_reference,
  Cert.Forward.frame_kernel, Cert.Forward.frame_ideal, Cert.Forward.frame_reference,
  Cert.MixIn.frame_kernel, Cert.MixIn.frame_ideal, Cert.MixIn.frame_reference,
  Cert.Swa.preserves, Cert.Swa.algebraic, Cert.Ffn.preserves, Cert.Ffn.algebraic,
  Cert.Down.preserves, Cert.Down.algebraic, Cert.Gate.preserves, Cert.Gate.algebraic,
  Cert.Up.preserves, Cert.Up.algebraic,
  Cert.Xattn.preserves, Cert.Xattn.algebraic, Cert.Gmlp.preserves, Cert.Gmlp.algebraic,
  Cert.Forward.preserves, Cert.Forward.algebraic,
  Cert.MixIn.preserves, Cert.MixIn.algebraic⟩

end Cert.Proof

end
